-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scales [hPre_positive_scales : Cert.Pre_positive_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scales [hPre_positive_scales : Cert.Pre_positive_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_ordinary_size [hPre_ordinary_size : Cert.Pre_ordinary_size.Facts] (m : (ℓ : Loc Cert.QuantIdeal.nD Cert.QuantIdeal.τ Cert.QuantIdeal.sig) → Buf (Elt Ideal) ℓ) : Prop :=
  ∀ c : Dev Cert.QuantIdeal.nD,
    (Cert.Pre_ordinary_size.fn (F := Ideal) (m ((c.tc : Thread Cert.QuantIdeal.nD Cert.QuantIdeal.τ).loc Cert.QuantIdeal.main_arg0))) = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_ordinary_size [hPre_ordinary_size : Cert.Pre_ordinary_size.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_ordinary_size.fn (F := Ideal) (m ((c.tc : Thread Cert.QuantReferenceIdeal.nD Cert.QuantReferenceIdeal.τ).loc Cert.QuantReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_scales [hKernelIdeal : Cert.KernelIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_scales [hReferenceIdeal : Cert.ReferenceIdeal.Facts] [hPre_positive_scales : Cert.Pre_positive_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantIdeal_pre_ordinary_size [hQuantIdeal : Cert.QuantIdeal.Facts] [hPre_ordinary_size : Cert.Pre_ordinary_size.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_ordinary_size m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def quiescent_QuantReferenceIdeal_pre_ordinary_size [hQuantReferenceIdeal : Cert.QuantReferenceIdeal.Facts] [hPre_ordinary_size : Cert.Pre_ordinary_size.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_ordinary_size m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def preserves_Kernel_KernelIdeal : Prop :=
  IdealRules.named_const.Statement Cert.KernelIdeal.κ "score_log2" .f32 0x3A8293EE#32 ((((128 * (Real.sqrt 128)) * (Real.log 2))⁻¹ : ℝ) : EReal)

def algebraic_KernelIdeal_ReferenceIdeal_pre_positive_scales [hKernelIdeal : Cert.KernelIdeal.Facts] [hReferenceIdeal : Cert.ReferenceIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quant_QuantIdeal : Prop :=
  True

def algebraic_QuantIdeal_QuantReferenceIdeal_pre_ordinary_size [hQuantIdeal : Cert.QuantIdeal.Facts] [hQuantReferenceIdeal : Cert.QuantReferenceIdeal.Facts] [hPre_ordinary_size : Cert.Pre_ordinary_size.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_ordinary_size m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v13_0)) (v1 : (c : Dev Cert.QuantIdeal.nD) → Buf (Elt Ideal) ((c.tc : Thread Cert.QuantIdeal.nD Cert.QuantIdeal.τ).loc Cert.QuantIdeal.main_v13_1)) (v2 : (c : Dev Cert.QuantIdeal.nD) → Buf (Elt Ideal) ((c.tc : Thread Cert.QuantIdeal.nD Cert.QuantIdeal.τ).loc Cert.QuantIdeal.main_v13_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v13_0) = v0 c
          ∧ r.2.mem ((c.tc : Thread Cert.QuantIdeal.nD Cert.QuantIdeal.τ).loc Cert.QuantIdeal.main_v13_1) = v1 c
          ∧ r.2.mem ((c.tc : Thread Cert.QuantIdeal.nD Cert.QuantIdeal.τ).loc Cert.QuantIdeal.main_v13_2) = v2 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v44) = v0 c
          ∧ r.2.mem ((c.tc : Thread Cert.QuantReferenceIdeal.nD Cert.QuantReferenceIdeal.τ).loc Cert.QuantReferenceIdeal.main_v45) = v1 c
          ∧ r.2.mem ((c.tc : Thread Cert.QuantReferenceIdeal.nD Cert.QuantReferenceIdeal.τ).loc Cert.QuantReferenceIdeal.main_v32) = v2 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hPre_positive_scales : Cert.Pre_positive_scales.Facts) (hPre_ordinary_size : Cert.Pre_ordinary_size.Facts),
    quiescent_Kernel (hKernel := hKernel)
    ∧ quiescent_KernelIdeal (hKernelIdeal := hKernelIdeal)
    ∧ quiescent_KernelIdeal_pre_positive_scales (hKernelIdeal := hKernelIdeal) (hPre_positive_scales := hPre_positive_scales)
    ∧ quiescent_ReferenceIdeal (hReferenceIdeal := hReferenceIdeal)
    ∧ quiescent_ReferenceIdeal_pre_positive_scales (hReferenceIdeal := hReferenceIdeal) (hPre_positive_scales := hPre_positive_scales)
    ∧ quiescent_Quant (hQuant := hQuant)
    ∧ quiescent_QuantIdeal (hQuantIdeal := hQuantIdeal)
    ∧ quiescent_QuantIdeal_pre_ordinary_size (hQuantIdeal := hQuantIdeal) (hPre_ordinary_size := hPre_ordinary_size)
    ∧ quiescent_QuantReferenceIdeal (hQuantReferenceIdeal := hQuantReferenceIdeal)
    ∧ quiescent_QuantReferenceIdeal_pre_ordinary_size (hQuantReferenceIdeal := hQuantReferenceIdeal) (hPre_ordinary_size := hPre_ordinary_size)
    ∧ preserves_Kernel_KernelIdeal
    ∧ algebraic_KernelIdeal_ReferenceIdeal_pre_positive_scales (hKernelIdeal := hKernelIdeal) (hReferenceIdeal := hReferenceIdeal) (hPre_positive_scales := hPre_positive_scales)
    ∧ preserves_Quant_QuantIdeal
    ∧ algebraic_QuantIdeal_QuantReferenceIdeal_pre_ordinary_size (hQuantIdeal := hQuantIdeal) (hQuantReferenceIdeal := hQuantReferenceIdeal) (hPre_ordinary_size := hPre_ordinary_size)
-- ==== Pre_ordinary_size.lean ====
abbrev S2x12288x8192 : Shape := ⟨3, ![2, 12288, 8192]⟩
abbrev S_ : Shape := ⟨0, ![]⟩

class Facts : Prop where
  bcast_S_S2x12288x8192 : S_.BroadcastsInDim S2x12288x8192 (![] : Fin 0 → Fin S2x12288x8192.rank)

variable [Facts]

def fn {F : FTy → Type} [FloatOps F] (main_arg0 : FVec F S2x12288x8192 .bf16) : IVec S2x12288x8192 1 :=
  let main_v0 : FVec F S2x12288x8192 .bf16 := Host.absf main_arg0
  let main_cst : FVec F S_ .bf16 := constant S_ .bf16 0x0000#16
  let main_v1 : FVec F S2x12288x8192 .bf16 := broadcastInDim S2x12288x8192 ![] bcast_S_S2x12288x8192 main_cst
  let main_v2 : IVec S2x12288x8192 1 := cmpf .oeq main_arg0 main_v1
  let main_cst_0 : FVec F S_ .bf16 := constant S_ .bf16 0x2180#16
  let main_v3 : FVec F S2x12288x8192 .bf16 := broadcastInDim S2x12288x8192 ![] bcast_S_S2x12288x8192 main_cst_0
  let main_v4 : IVec S2x12288x8192 1 := cmpf .oge main_v0 main_v3
  let main_cst_1 : FVec F S_ .bf16 := constant S_ .bf16 0x5D80#16
  let main_v5 : FVec F S2x12288x8192 .bf16 := broadcastInDim S2x12288x8192 ![] bcast_S_S2x12288x8192 main_cst_1
  let main_v6 : IVec S2x12288x8192 1 := cmpf .ole main_v0 main_v5
  let main_v7 : IVec S2x12288x8192 1 := andi main_v4 main_v6
  let main_v8 : IVec S2x12288x8192 1 := ori main_v2 main_v7
  main_v8
-- ==== Pre_positive_scales.lean ====
abbrev S2x8x192x512x128 : Shape := ⟨5, ![2, 8, 192, 512, 128]⟩
abbrev S2x12288x64 : Shape := ⟨3, ![2, 12288, 64]⟩
abbrev S2x8x12288x128 : Shape := ⟨4, ![2, 8, 12288, 128]⟩
abbrev S2x8x12288 : Shape := ⟨3, ![2, 8, 12288]⟩
abbrev S2x8x128x12288 : Shape := ⟨4, ![2, 8, 128, 12288]⟩
abbrev S2x8x128 : Shape := ⟨3, ![2, 8, 128]⟩
abbrev S_ : Shape := ⟨0, ![]⟩

class Facts : Prop where
  bcast_S_S2x12288x64 : S_.BroadcastsInDim S2x12288x64 (![] : Fin 0 → Fin S2x12288x64.rank)

variable [Facts]

def fn {F : FTy → Type} [FloatOps F] (main_arg0 : FVec F S2x8x192x512x128 .fp8e4m3) (main_arg1 : FVec F S2x12288x64 .f32) (main_arg2 : FVec F S2x8x12288x128 .fp8e4m3) (main_arg3 : FVec F S2x8x12288 .f32) (main_arg4 : FVec F S2x8x128x12288 .fp8e4m3) (main_arg5 : FVec F S2x8x128 .f32) : IVec S2x12288x64 1 :=
  let main_cst : FVec F S_ .f32 := constant S_ .f32 0x00000000#32
  let main_v0 : FVec F S2x12288x64 .f32 := broadcastInDim S2x12288x64 ![] bcast_S_S2x12288x64 main_cst
  let main_v1 : IVec S2x12288x64 1 := cmpf .ogt main_arg1 main_v0
  main_v1
-- ==== Kernel.lean ====
abbrev S2x8x192x512x128 : Shape := ⟨5, ![2, 8, 192, 512, 128]⟩
abbrev S2x12288x64 : Shape := ⟨3, ![2, 12288, 64]⟩
abbrev S2x8x12288x128 : Shape := ⟨4, ![2, 8, 12288, 128]⟩
abbrev S2x8x12288 : Shape := ⟨3, ![2, 8, 12288]⟩
abbrev S2x8x128x12288 : Shape := ⟨4, ![2, 8, 128, 12288]⟩
abbrev S2x8x128 : Shape := ⟨3, ![2, 8, 128]⟩
abbrev S2x192x64x8x8 : Shape := ⟨5, ![2, 192, 64, 8, 8]⟩
abbrev S2x8x192x8x64 : Shape := ⟨5, ![2, 8, 192, 8, 64]⟩
abbrev S2x8x192x1x512 : Shape := ⟨5, ![2, 8, 192, 1, 512]⟩
abbrev S2x8x96x128 : Shape := ⟨4, ![2, 8, 96, 128]⟩
abbrev S2x8x1x128 : Shape := ⟨4, ![2, 8, 1, 128]⟩
abbrev S2x12288x8192 : Shape := ⟨3, ![2, 12288, 8192]⟩
abbrev S1x1x1x512x128 : Shape := ⟨5, ![1, 1, 1, 512, 128]⟩
abbrev S1x1x1x1x512 : Shape := ⟨5, ![1, 1, 1, 1, 512]⟩
abbrev S1x1x12288x128 : Shape := ⟨4, ![1, 1, 12288, 128]⟩
abbrev S1x1x96x128 : Shape := ⟨4, ![1, 1, 96, 128]⟩
abbrev S1x1x128x12288 : Shape := ⟨4, ![1, 1, 128, 12288]⟩
abbrev S1x1x1x128 : Shape := ⟨4, ![1, 1, 1, 128]⟩
abbrev S1x64x1024 : Shape := ⟨3, ![1, 64, 1024]⟩
abbrev S12288x512 : Shape := ⟨2, ![12288, 512]⟩
abbrev S12288x128 : Shape := ⟨2, ![12288, 128]⟩
abbrev S1x128 : Shape := ⟨2, ![1, 128]⟩
abbrev S128x128 : Shape := ⟨2, ![128, 128]⟩
abbrev S512x128 : Shape := ⟨2, ![512, 128]⟩
abbrev S1x512 : Shape := ⟨2, ![1, 512]⟩
abbrev S8x512 : Shape := ⟨2, ![8, 512]⟩
abbrev S1x1x256x128 : Shape := ⟨4, ![1, 1, 256, 128]⟩
abbrev S256x128 : Shape := ⟨2, ![256, 128]⟩
abbrev S256x512 : Shape := ⟨2, ![256, 512]⟩
abbrev S32x8x512 : Shape := ⟨3, ![32, 8, 512]⟩
abbrev S512 : Shape := ⟨1, ![512]⟩
abbrev S128x512 : Shape := ⟨2, ![128, 512]⟩
abbrev S1x1x128x256 : Shape := ⟨4, ![1, 1, 128, 256]⟩
abbrev S128x256 : Shape := ⟨2, ![128, 256]⟩
abbrev S64x128 : Shape := ⟨2, ![64, 128]⟩
abbrev S1x64x128 : Shape := ⟨3, ![1, 64, 128]⟩

abbrev nBuf : Space → Nat
  | .hbm => 12
  | .vmem => 16
  | .smem => 0
  | _ => 0

abbrev bufTy : (tb : Table) → Fin (tcTables nBuf tb) → BufTy
  | .hbm, ⟨0, _⟩ => ⟨S2x8x192x512x128, .fp8e4m3⟩
  | .hbm, ⟨1, _⟩ => ⟨S2x12288x64, .f32⟩
  | .hbm, ⟨2, _⟩ => ⟨S2x8x12288x128, .fp8e4m3⟩
  | .hbm, ⟨3, _⟩ => ⟨S2x8x12288, .f32⟩
  | .hbm, ⟨4, _⟩ => ⟨S2x8x128x12288, .fp8e4m3⟩
  | .hbm, ⟨5, _⟩ => ⟨S2x8x128, .f32⟩
  | .hbm, ⟨6, _⟩ => ⟨S2x192x64x8x8, .f32⟩
  | .hbm, ⟨7, _⟩ => ⟨S2x8x192x8x64, .f32⟩
  | .hbm, ⟨8, _⟩ => ⟨S2x8x192x1x512, .f32⟩
  | .hbm, ⟨9, _⟩ => ⟨S2x8x96x128, .f32⟩
  | .hbm, ⟨10, _⟩ => ⟨S2x8x1x128, .f32⟩
  | .hbm, ⟨11, _⟩ => ⟨S2x12288x8192, .bf16⟩
  | .local _ .vmem, ⟨0, _⟩ => ⟨S1x1x1x512x128, .fp8e4m3⟩
  | .local _ .vmem, ⟨1, _⟩ => ⟨S1x1x1x512x128, .fp8e4m3⟩
  | .local _ .vmem, ⟨2, _⟩ => ⟨S1x1x1x1x512, .f32⟩
  | .local _ .vmem, ⟨3, _⟩ => ⟨S1x1x1x1x512, .f32⟩
  | .local _ .vmem, ⟨4, _⟩ => ⟨S1x1x12288x128, .fp8e4m3⟩
  | .local _ .vmem, ⟨5, _⟩ => ⟨S1x1x12288x128, .fp8e4m3⟩
  | .local _ .vmem, ⟨6, _⟩ => ⟨S1x1x96x128, .f32⟩
  | .local _ .vmem, ⟨7, _⟩ => ⟨S1x1x96x128, .f32⟩
  | .local _ .vmem, ⟨8, _⟩ => ⟨S1x1x128x12288, .fp8e4m3⟩
  | .local _ .vmem, ⟨9, _⟩ => ⟨S1x1x128x12288, .fp8e4m3⟩
  | .local _ .vmem, ⟨10, _⟩ => ⟨S1x1x1x128, .f32⟩
  | .local _ .vmem, ⟨11, _⟩ => ⟨S1x1x1x128, .f32⟩
  | .local _ .vmem, ⟨12, _⟩ => ⟨S1x64x1024, .bf16⟩
  | .local _ .vmem, ⟨13, _⟩ => ⟨S1x64x1024, .bf16⟩
  | .local _ .vmem, ⟨14, _⟩ => ⟨S12288x512, .f32⟩
  | .local _ .vmem, ⟨15, _⟩ => ⟨S12288x128, .f32⟩
  | _, _ => ⟨S2x8x192x512x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 192], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_73 : BitVec 32 := 0#32
  let c96_i32 : BitVec 32 := 96#32
  let v146 : BitVec 32 := Scalar.addi c0_i32_73 c96_i32
  let c1_i32_74 : BitVec 32 := 1#32
  ⟨c0_i32_73, v146, c1_i32_74⟩
def k0_off1 (k0_t1 : Fin k0_t1_loop.trips) : Fin 4 → Nat :=
  let c0_76 : Index := 0#32
  let c0_77 : Index := 0#32
  let c0_i32_73 : BitVec 32 := 0#32
  let c1_i32_74 : BitVec 32 := 1#32
  let arg11 : BitVec 32 := Scf.iv c0_i32_73 c1_i32_74 k0_t1
  let v147 : Index := Scalar.indexCast arg11
  let c0_78 : Index := 0#32
  ![0, 0, v147.toNat, 0]
def k0_off2 (k0_t1 : Fin k0_t1_loop.trips) : Fin 2 → Nat :=
  let c0_i32_73 : BitVec 32 := 0#32
  let c1_i32_74 : BitVec 32 := 1#32
  let arg11 : BitVec 32 := Scf.iv c0_i32_73 c1_i32_74 k0_t1
  let c128_i32 : BitVec 32 := 128#32
  let v155 : BitVec 32 := Scalar.muli arg11 c128_i32
  let v156 : Index := Scalar.indexCast v155
  let c0_80 : Index := 0#32
  ![v156.toNat, 0]
@[reducible] def k0_t2_loop (i : grid0.Coords) : Scf.Loop 32 :=
  let c0_i32_19 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_18 : BitVec 32 := 1#32
  let v29 : BitVec 32 := Scalar.subi v23 c1_i32_18
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_21 : BitVec 32 := 1#32
  ⟨c0_i32_19, v34, c1_i32_21⟩
def k0_off3 (i : grid0.Coords) (k0_t2 : Fin (k0_t2_loop i).trips) : Fin 4 → Nat :=
  let c0_74 : Index := 0#32
  let c0_75 : Index := 0#32
  let c0_i32_19 : BitVec 32 := 0#32
  let c1_i32_21 : BitVec 32 := 1#32
  let arg11 : BitVec 32 := Scf.iv c0_i32_19 c1_i32_21 k0_t2
  let c256_i32_73 : BitVec 32 := 256#32
  let v146 : BitVec 32 := Scalar.muli arg11 c256_i32_73
  let v147 : Index := Scalar.indexCast v146
  let c0_76 : Index := 0#32
  ![0, 0, v147.toNat, 0]
def k0_off4 (i : grid0.Coords) (k0_t2 : Fin (k0_t2_loop i).trips) : Fin 2 → Nat :=
  let c0_i32_19 : BitVec 32 := 0#32
  let c1_i32_21 : BitVec 32 := 1#32
  let arg11 : BitVec 32 := Scf.iv c0_i32_19 c1_i32_21 k0_t2
  let c256_i32_78 : BitVec 32 := 256#32
  let v151 : BitVec 32 := Scalar.muli arg11 c256_i32_78
  let v152 : Index := Scalar.indexCast v151
  let c0_79 : Index := 0#32
  ![v152.toNat, 0]
def k0_off5 (i : grid0.Coords) (k0_t2 : Fin (k0_t2_loop i).trips) : Fin 2 → Nat :=
  let c0_i32_19 : BitVec 32 := 0#32
  let c1_i32_21 : BitVec 32 := 1#32
  let arg11 : BitVec 32 := Scf.iv c0_i32_19 c1_i32_21 k0_t2
  let c256_i32_80 : BitVec 32 := 256#32
  let v156 : BitVec 32 := Scalar.muli arg11 c256_i32_80
  let v157 : Index := Scalar.indexCast v156
  let c0_81 : Index := 0#32
  ![v157.toNat, 0]
@[reducible] def k0_t3_loop (i : grid0.Coords) : Scf.Loop 32 :=
  let c0_i32_19 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_18 : BitVec 32 := 1#32
  let v29 : BitVec 32 := Scalar.subi v23 c1_i32_18
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let v31 : BitVec 32 := Scalar.addi c0_i32_19 v30
  let c1_i32_22 : BitVec 32 := 1#32
  ⟨v34, v31, c1_i32_22⟩
def k0_off6 (i : grid0.Coords) (k0_t3 : Fin (k0_t3_loop i).trips) : Fin 4 → Nat :=
  let c0_74 : Index := 0#32
  let c0_75 : Index := 0#32
  let c0_i32_19 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_18 : BitVec 32 := 1#32
  let v29 : BitVec 32 := Scalar.subi v23 c1_i32_18
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg11 : BitVec 32 := Scf.iv v34 c1_i32_22 k0_t3
  let c256_i32_73 : BitVec 32 := 256#32
  let v146 : BitVec 32 := Scalar.muli arg11 c256_i32_73
  let v147 : Index := Scalar.indexCast v146
  let c0_76 : Index := 0#32
  ![0, 0, v147.toNat, 0]
def k0_off7 (i : grid0.Coords) (k0_t3 : Fin (k0_t3_loop i).trips) : Fin 2 → Nat :=
  let c0_i32_19 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_18 : BitVec 32 := 1#32
  let v29 : BitVec 32 := Scalar.subi v23 c1_i32_18
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg11 : BitVec 32 := Scf.iv v34 c1_i32_22 k0_t3
  let c256_i32_78 : BitVec 32 := 256#32
  let v151 : BitVec 32 := Scalar.muli arg11 c256_i32_78
  let v152 : Index := Scalar.indexCast v151
  let c0_79 : Index := 0#32
  ![v152.toNat, 0]
def k0_off8 (i : grid0.Coords) (k0_t3 : Fin (k0_t3_loop i).trips) : Fin 2 → Nat :=
  let c0_i32_19 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_18 : BitVec 32 := 1#32
  let v29 : BitVec 32 := Scalar.subi v23 c1_i32_18
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg11 : BitVec 32 := Scf.iv v34 c1_i32_22 k0_t3
  let c256_i32_80 : BitVec 32 := 256#32
  let v156 : BitVec 32 := Scalar.muli arg11 c256_i32_80
  let v157 : Index := Scalar.indexCast v156
  let c0_81 : Index := 0#32
  ![v157.toNat, 0]
def k0_off9 (i : grid0.Coords) : Fin 4 → Nat :=
  let c0_25 : Index := 0#32
  let c0_26 : Index := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_23 : BitVec 32 := 1#32
  let v37 : BitVec 32 := Scalar.subi v23 c1_i32_23
  let c256_i32_24 : BitVec 32 := 256#32
  let v38 : BitVec 32 := Scalar.muli v37 c256_i32_24
  let v39 : Index := Scalar.indexCast v38
  let c0_27 : Index := 0#32
  ![0, 0, v39.toNat, 0]
def k0_off10 (i : grid0.Coords) : Fin 2 → Nat :=
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_23 : BitVec 32 := 1#32
  let v37 : BitVec 32 := Scalar.subi v23 c1_i32_23
  let c256_i32_29 : BitVec 32 := 256#32
  let v43 : BitVec 32 := Scalar.muli v37 c256_i32_29
  let v44 : Index := Scalar.indexCast v43
  let c0_30 : Index := 0#32
  ![v44.toNat, 0]
def k0_off11 (i : grid0.Coords) : Fin 2 → Nat :=
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let c1_i32_23 : BitVec 32 := 1#32
  let v37 : BitVec 32 := Scalar.subi v23 c1_i32_23
  let c256_i32_40 : BitVec 32 := 256#32
  let v75 : BitVec 32 := Scalar.muli v37 c256_i32_40
  let v76 : Index := Scalar.indexCast v75
  let c0_41 : Index := 0#32
  ![v76.toNat, 0]
@[reducible] def k0_t4_loop (i : grid0.Coords) : Scf.Loop 32 :=
  let c0_i32_47 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let v90 : BitVec 32 := Scalar.subi v23 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let c1_i32_49 : BitVec 32 := 1#32
  ⟨c0_i32_47, v94, c1_i32_49⟩
def k0_off12 (i : grid0.Coords) (k0_t4 : Fin (k0_t4_loop i).trips) : Fin 2 → Nat :=
  let c0_i32_47 : BitVec 32 := 0#32
  let c1_i32_49 : BitVec 32 := 1#32
  let arg11 : BitVec 32 := Scf.iv c0_i32_47 c1_i32_49 k0_t4
  let c256_i32_73 : BitVec 32 := 256#32
  let v146 : BitVec 32 := Scalar.muli arg11 c256_i32_73
  let v147 : Index := Scalar.indexCast v146
  let c0_74 : Index := 0#32
  ![v147.toNat, 0]
def k0_off13 (i : grid0.Coords) (k0_t4 : Fin (k0_t4_loop i).trips) : Fin 4 → Nat :=
  let c0_79 : Index := 0#32
  let c0_80 : Index := 0#32
  let c0_81 : Index := 0#32
  let c0_i32_47 : BitVec 32 := 0#32
  let c1_i32_49 : BitVec 32 := 1#32
  let arg11 : BitVec 32 := Scf.iv c0_i32_47 c1_i32_49 k0_t4
  let c256_i32_78 : BitVec 32 := 256#32
  let v162 : BitVec 32 := Scalar.muli arg11 c256_i32_78
  let v163 : Index := Scalar.indexCast v162
  ![0, 0, 0, v163.toNat]
@[reducible] def k0_t5_loop (i : grid0.Coords) : Scf.Loop 32 :=
  let c0_i32_47 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let v90 : BitVec 32 := Scalar.subi v23 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let v91 : BitVec 32 := Scalar.addi c0_i32_47 v90
  let c1_i32_50 : BitVec 32 := 1#32
  ⟨v94, v91, c1_i32_50⟩
def k0_off14 (i : grid0.Coords) (k0_t5 : Fin (k0_t5_loop i).trips) : Fin 2 → Nat :=
  let c0_i32_47 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let v90 : BitVec 32 := Scalar.subi v23 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let c1_i32_50 : BitVec 32 := 1#32
  let arg11 : BitVec 32 := Scf.iv v94 c1_i32_50 k0_t5
  let c256_i32_73 : BitVec 32 := 256#32
  let v146 : BitVec 32 := Scalar.muli arg11 c256_i32_73
  let v147 : Index := Scalar.indexCast v146
  let c0_74 : Index := 0#32
  ![v147.toNat, 0]
def k0_off15 (i : grid0.Coords) (k0_t5 : Fin (k0_t5_loop i).trips) : Fin 4 → Nat :=
  let c0_79 : Index := 0#32
  let c0_80 : Index := 0#32
  let c0_81 : Index := 0#32
  let c0_i32_47 : BitVec 32 := 0#32
  let arg1 : BitVec 32 := BitVec.ofNat 32 (i 1).val
  let c64_i32 : BitVec 32 := 64#32
  let v3 : BitVec 32 := Scalar.muli arg1 c64_i32
  let c64_i32_1 : BitVec 32 := 64#32
  let v4 : BitVec 32 := Scalar.addi v3 c64_i32_1
  let c256_i32 : BitVec 32 := 256#32
  let v5 : BitVec 32 := Scalar.addi v4 c256_i32
  let c1_i32 : BitVec 32 := 1#32
  let v6 : BitVec 32 := Scalar.subi v5 c1_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c256_i32_2 : BitVec 32 := 256#32
  let c0_i32_5 : BitVec 32 := 0#32
  let v13 : BitVec 1 := Scalar.cmpi .sgt c256_i32_2 c0_i32_5
  let v14 : BitVec 32 := Scalar.extui v13
  let c0_i32_6 : BitVec 32 := 0#32
  let v15 : BitVec 1 := Scalar.cmpi .slt c256_i32_2 c0_i32_6
  let v16 : BitVec 32 := Scalar.extui v15
  let v17 : BitVec 32 := Scalar.subi v14 v16
  let v18 : BitVec 1 := Scalar.cmpi .ne v12 v17
  let v19 : BitVec 32 := Scalar.remsi v6 c256_i32_2
  let c0_i32_7 : BitVec 32 := 0#32
  let v20 : BitVec 1 := Scalar.cmpi .ne v19 c0_i32_7
  let v21 : BitVec 1 := Scalar.andi v18 v20
  let v7 : BitVec 32 := Scalar.divsi v6 c256_i32_2
  let c1_i32_8 : BitVec 32 := 1#32
  let v22 : BitVec 32 := Scalar.subi v7 c1_i32_8
  let v23 : BitVec 32 := Scalar.select v21 v22 v7
  let v90 : BitVec 32 := Scalar.subi v23 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let c1_i32_50 : BitVec 32 := 1#32
  let arg11 : BitVec 32 := Scf.iv v94 c1_i32_50 k0_t5
  let c256_i32_78 : BitVec 32 := 256#32
  let v162 : BitVec 32 := Scalar.muli arg11 c256_i32_78
  let v163 : Index := Scalar.indexCast v162
  ![0, 0, 0, v163.toNat]
def cc0_transform_0 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, arg1.toNat, c0_i32_10.toNat, c0_i32_11.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, arg1.toNat, c0_i32_10.toNat, c0_i32_11.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1x1x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x12288x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x96x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x12288 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "score_log2" => some ((((128 * (Real.sqrt 128)) * (Real.log 2))⁻¹ : ℝ) : EReal)
  | _ => none
-- ==== ReferenceIdeal.lean ====
abbrev S2x8x192x512x128 : Shape := ⟨5, ![2, 8, 192, 512, 128]⟩
abbrev S2x12288x64 : Shape := ⟨3, ![2, 12288, 64]⟩
abbrev S2x8x12288x128 : Shape := ⟨4, ![2, 8, 12288, 128]⟩
abbrev S2x8x12288 : Shape := ⟨3, ![2, 8, 12288]⟩
abbrev S2x8x128x12288 : Shape := ⟨4, ![2, 8, 128, 12288]⟩
abbrev S2x8x128 : Shape := ⟨3, ![2, 8, 128]⟩
abbrev S2x8x192x8x64x128 : Shape := ⟨6, ![2, 8, 192, 8, 64, 128]⟩
abbrev S2x8x8x192x64x128 : Shape := ⟨6, ![2, 8, 8, 192, 64, 128]⟩
abbrev S2x8x8x12288x128 : Shape := ⟨5, ![2, 8, 8, 12288, 128]⟩
abbrev S2x12288x8x8 : Shape := ⟨4, ![2, 12288, 8, 8]⟩
abbrev S2x8x12288x8x12288 : Shape := ⟨5, ![2, 8, 12288, 8, 12288]⟩
abbrev S2x12288x8x8x12288 : Shape := ⟨5, ![2, 12288, 8, 8, 12288]⟩
abbrev S_ : Shape := ⟨0, ![]⟩
abbrev S2x12288x8x8x1 : Shape := ⟨5, ![2, 12288, 8, 8, 1]⟩
abbrev S2x1x8x1x12288 : Shape := ⟨5, ![2, 1, 8, 1, 12288]⟩
abbrev S12288 : Shape := ⟨1, ![12288]⟩
abbrev S1x12288 : Shape := ⟨2, ![1, 12288]⟩
abbrev S12288x1 : Shape := ⟨2, ![12288, 1]⟩
abbrev S12288x12288 : Shape := ⟨2, ![12288, 12288]⟩
abbrev S1x12288x1x1x12288 : Shape := ⟨5, ![1, 12288, 1, 1, 12288]⟩
abbrev S2x8x128x12288x8 : Shape := ⟨5, ![2, 8, 128, 12288, 8]⟩
abbrev S2x12288x8x8x128 : Shape := ⟨5, ![2, 12288, 8, 8, 128]⟩
abbrev S2x1x8x1x128 : Shape := ⟨5, ![2, 1, 8, 1, 128]⟩
abbrev S2x12288x8192 : Shape := ⟨3, ![2, 12288, 8192]⟩

abbrev nBuf : Space → Nat
  | .hbm => 73
  | .vmem => 6
  | .smem => 0
  | _ => 0

abbrev bufTy : (tb : Table) → Fin (tcTables nBuf tb) → BufTy
  | .hbm, ⟨0, _⟩ => ⟨S2x8x192x512x128, .fp8e4m3⟩
  | .hbm, ⟨1, _⟩ => ⟨S2x12288x64, .f32⟩
  | .hbm, ⟨2, _⟩ => ⟨S2x8x12288x128, .fp8e4m3⟩
  | .hbm, ⟨3, _⟩ => ⟨S2x8x12288, .f32⟩
  | .hbm, ⟨4, _⟩ => ⟨S2x8x128x12288, .fp8e4m3⟩
  | .hbm, ⟨5, _⟩ => ⟨S2x8x128, .f32⟩
  | .hbm, ⟨6, _⟩ => ⟨S2x8x192x512x128, .f32⟩
  | .hbm, ⟨7, _⟩ => ⟨S2x8x12288x128, .f32⟩
  | .hbm, ⟨8, _⟩ => ⟨S2x8x128x12288, .f32⟩
  | .hbm, ⟨9, _⟩ => ⟨S2x8x192x8x64x128, .f32⟩
  | .hbm, ⟨10, _⟩ => ⟨S2x8x8x192x64x128, .f32⟩
  | .hbm, ⟨11, _⟩ => ⟨S2x8x8x12288x128, .f32⟩
  | .hbm, ⟨12, _⟩ => ⟨S2x12288x8x8, .f32⟩
  | .hbm, ⟨13, _⟩ => ⟨S2x8x12288x8x12288, .f32⟩
  | .hbm, ⟨14, _⟩ => ⟨S2x12288x8x8x12288, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x12288x8x8x1, .f32⟩
  | .hbm, ⟨22, _⟩ => ⟨S2x12288x8x8x12288, .f32⟩
  | .hbm, ⟨23, _⟩ => ⟨S2x12288x8x8x12288, .f32⟩
  | .hbm, ⟨24, _⟩ => ⟨S2x1x8x1x12288, .f32⟩
  | .hbm, ⟨25, _⟩ => ⟨S2x12288x8x8x12288, .f32⟩
  | .hbm, ⟨26, _⟩ => ⟨S2x12288x8x8x12288, .f32⟩
  | .hbm, ⟨27, _⟩ => ⟨S2x12288x8x8x12288, .f32⟩
  | .hbm, ⟨28, _⟩ => ⟨S2x12288x8x8x12288, .f32⟩
  | .hbm, ⟨29, _⟩ => ⟨S12288, .i32⟩
  | .hbm, ⟨30, _⟩ => ⟨S1x12288, .i32⟩
  | .hbm, ⟨31, _⟩ => ⟨S12288x1, .i32⟩
  | .hbm, ⟨32, _⟩ => ⟨S12288x12288, .i32⟩
  | .hbm, ⟨33, _⟩ => ⟨S12288x12288, .i32⟩
  | .hbm, ⟨34, _⟩ => ⟨S12288x12288, .i1⟩
  | .hbm, ⟨35, _⟩ => ⟨S1x12288x1x1x12288, .i1⟩
  | .hbm, ⟨36, _⟩ => ⟨S_, .f32⟩
  | .hbm, ⟨37, _⟩ => ⟨S_, .f32⟩
  | .hbm, ⟨38, _⟩ => ⟨S2x12288x8x8x12288, .i1⟩
  | .hbm, ⟨39, _⟩ => ⟨S2x12288x8x8x12288, .f32⟩
  | .hbm, ⟨40, _⟩ => ⟨S2x12288x8x8x12288, .f32⟩
  | .hbm, ⟨41, _⟩ => ⟨S_, .f32⟩
  | .hbm, ⟨42, _⟩ => ⟨S2x12288x8x8, .f32⟩
  | .hbm, ⟨43, _⟩ => ⟨S2x12288x8x8x1, .f32⟩
  | .hbm, ⟨44, _⟩ => ⟨S2x12288x8x8x12288, .f32⟩
  | .hbm, ⟨45, _⟩ => ⟨S2x12288x8x8x12288, .f32⟩
  | .hbm, ⟨46, _⟩ => ⟨S2x12288x8x8x12288, .f32⟩
  | .hbm, ⟨47, _⟩ => ⟨S_, .f32⟩
  | .hbm, ⟨48, _⟩ => ⟨S2x12288x8x8, .f32⟩
  | .hbm, ⟨49, _⟩ => ⟨S_, .f32⟩
  | .hbm, ⟨50, _⟩ => ⟨S2x12288x8x8x12288, .f32⟩
  | .hbm, ⟨51, _⟩ => ⟨S2x12288x8x8x12288, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2x12288x8x8x12288, .f32⟩
  | .hbm, ⟨56, _⟩ => ⟨S2x12288x8x8x12288, .f32⟩
  | .hbm, ⟨57, _⟩ => ⟨S_, .f32⟩
  | .hbm, ⟨58, _⟩ => ⟨S2x12288x8x8x12288, .f32⟩
  | .hbm, ⟨59, _⟩ => ⟨S2x12288x8x8x12288, .f32⟩
  | .hbm, ⟨60, _⟩ => ⟨S2x8x128x12288x8, .f32⟩
  | .hbm, ⟨61, _⟩ => ⟨S2x12288x8x8x128, .f32⟩
  | .hbm, ⟨62, _⟩ => ⟨S_, .f32⟩
  | .hbm, ⟨63, _⟩ => ⟨S2x12288x8x8x128, .f32⟩
  | .hbm, ⟨64, _⟩ => ⟨S2x12288x8x8x128, .f32⟩
  | .hbm, ⟨65, _⟩ => ⟨S2x12288x8x8x1, .f32⟩
  | .hbm, ⟨66, _⟩ => ⟨S2x12288x8x8x128, .f32⟩
  | .hbm, ⟨67, _⟩ => ⟨S2x12288x8x8x128, .f32⟩
  | .hbm, ⟨68, _⟩ => ⟨S2x1x8x1x128, .f32⟩
  | .hbm, ⟨69, _⟩ => ⟨S2x12288x8x8x128, .f32⟩
  | .hbm, ⟨70, _⟩ => ⟨S2x12288x8x8x128, .f32⟩
  | .hbm, ⟨71, _⟩ => ⟨S2x12288x8192, .f32⟩
  | .hbm, ⟨72, _⟩ => ⟨S2x12288x8192, .bf16⟩
  | .local _ .vmem, ⟨0, _⟩ => ⟨S2x8x192x512x128, .fp8e4m3⟩
  | .local _ .vmem, ⟨1, _⟩ => ⟨S2x8x12288x128, .fp8e4m3⟩
  | .local _ .vmem, ⟨2, _⟩ => ⟨S2x8x128x12288, .fp8e4m3⟩
  | .local _ .vmem, ⟨3, _⟩ => ⟨S2x8x192x512x128, .f32⟩
  | .local _ .vmem, ⟨4, _⟩ => ⟨S2x8x12288x128, .f32⟩
  | .local _ .vmem, ⟨5, _⟩ => ⟨S2x8x128x12288, .f32⟩
  | _, _ => ⟨S2x8x192x512x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x8x192x512x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x12288x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x192x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x12288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quant.lean ====
abbrev S2x12288x8192 : Shape := ⟨3, ![2, 12288, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x8x192x512x128 : Shape := ⟨5, ![2, 8, 192, 512, 128]⟩
abbrev S2x12288x64 : Shape := ⟨3, ![2, 12288, 64]⟩
abbrev S1x64x8192 : Shape := ⟨3, ![1, 64, 8192]⟩
abbrev S1x8x1x512x128 : Shape := ⟨5, ![1, 8, 1, 512, 128]⟩
abbrev S1x64x64 : Shape := ⟨3, ![1, 64, 64]⟩
abbrev S64x256 : Shape := ⟨2, ![64, 256]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x1x1x64x128 : Shape := ⟨5, ![1, 1, 1, 64, 128]⟩
abbrev S64x64 : Shape := ⟨2, ![64, 64]⟩

abbrev nBuf : Space → Nat
  | .hbm => 40
  | .vmem => 9
  | .smem => 0
  | _ => 0

abbrev bufTy : (tb : Table) → Fin (tcTables nBuf tb) → BufTy
  | .hbm, ⟨0, _⟩ => ⟨S2x12288x8192, .bf16⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S128x128, .i32⟩
  | .hbm, ⟨21, _⟩ => ⟨S128x128, .i1⟩
  | .hbm, ⟨22, _⟩ => ⟨S_, .i32⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .bf16⟩
  | .hbm, ⟨37, _⟩ => ⟨S2x12288x8192, .fp8e4m3⟩
  | .hbm, ⟨38, _⟩ => ⟨S2x8x192x512x128, .fp8e4m3⟩
  | .hbm, ⟨39, _⟩ => ⟨S2x12288x64, .f32⟩
  | .local _ .vmem, ⟨0, _⟩ => ⟨S1x64x8192, .bf16⟩
  | .local _ .vmem, ⟨1, _⟩ => ⟨S1x64x8192, .bf16⟩
  | .local _ .vmem, ⟨2, _⟩ => ⟨S128x128, .bf16⟩
  | .local _ .vmem, ⟨3, _⟩ => ⟨S1x64x8192, .fp8e4m3⟩
  | .local _ .vmem, ⟨4, _⟩ => ⟨S1x64x8192, .fp8e4m3⟩
  | .local _ .vmem, ⟨5, _⟩ => ⟨S1x8x1x512x128, .fp8e4m3⟩
  | .local _ .vmem, ⟨6, _⟩ => ⟨S1x8x1x512x128, .fp8e4m3⟩
  | .local _ .vmem, ⟨7, _⟩ => ⟨S1x64x64, .f32⟩
  | .local _ .vmem, ⟨8, _⟩ => ⟨S1x64x64, .f32⟩
  | _, _ => ⟨S2x12288x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13_0 : Ref sig .tc := ⟨.hbm, 37, rfl⟩
abbrev main_v13_1 : Ref sig .tc := ⟨.hbm, 38, rfl⟩
abbrev main_v13_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 192], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QuantReferenceIdeal.lean ====
abbrev S2x12288x8192 : Shape := ⟨3, ![2, 12288, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x12288x64x128 : Shape := ⟨4, ![2, 12288, 64, 128]⟩
abbrev S2x12288x64 : Shape := ⟨3, ![2, 12288, 64]⟩
abbrev S2x12288x64x1 : Shape := ⟨4, ![2, 12288, 64, 1]⟩
abbrev S2x192x64x8x8x128 : Shape := ⟨6, ![2, 192, 64, 8, 8, 128]⟩
abbrev S2x8x192x8x64x128 : Shape := ⟨6, ![2, 8, 192, 8, 64, 128]⟩
abbrev S2x8x192x512x128 : Shape := ⟨5, ![2, 8, 192, 512, 128]⟩

abbrev nBuf : Space → Nat
  | .hbm => 85
  | .vmem => 2
  | .smem => 0
  | _ => 0

abbrev bufTy : (tb : Table) → Fin (tcTables nBuf tb) → BufTy
  | .hbm, ⟨0, _⟩ => ⟨S2x12288x8192, .bf16⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S128x128, .i32⟩
  | .hbm, ⟨21, _⟩ => ⟨S128x128, .i1⟩
  | .hbm, ⟨22, _⟩ => ⟨S_, .i32⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .f32⟩
  | .hbm, ⟨37, _⟩ => ⟨S2x12288x64x128, .bf16⟩
  | .hbm, ⟨38, _⟩ => ⟨S2x12288x64x128, .f32⟩
  | .hbm, ⟨39, _⟩ => ⟨S2x12288x64x128, .f32⟩
  | .hbm, ⟨40, _⟩ => ⟨S2x12288x64x128, .f32⟩
  | .hbm, ⟨41, _⟩ => ⟨S_, .f32⟩
  | .hbm, ⟨42, _⟩ => ⟨S2x12288x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x12288x64, .f32⟩
  | .hbm, ⟨47, _⟩ => ⟨S2x12288x64, .f32⟩
  | .hbm, ⟨48, _⟩ => ⟨S2x12288x64, .f32⟩
  | .hbm, ⟨49, _⟩ => ⟨S2x12288x64, .f32⟩
  | .hbm, ⟨50, _⟩ => ⟨S2x12288x64, .f32⟩
  | .hbm, ⟨51, _⟩ => ⟨S2x12288x64, .f32⟩
  | .hbm, ⟨52, _⟩ => ⟨S_, .f32⟩
  | .hbm, ⟨53, _⟩ => ⟨S2x12288x64, .f32⟩
  | .hbm, ⟨54, _⟩ => ⟨S2x12288x64, .f32⟩
  | .hbm, ⟨55, _⟩ => ⟨S_, .f32⟩
  | .hbm, ⟨56, _⟩ => ⟨S2x12288x64, .f32⟩
  | .hbm, ⟨57, _⟩ => ⟨S2x12288x64, .i1⟩
  | .hbm, ⟨58, _⟩ => ⟨S_, .f32⟩
  | .hbm, ⟨59, _⟩ => ⟨S_, .f32⟩
  | .hbm, ⟨60, _⟩ => ⟨S2x12288x64, .f32⟩
  | .hbm, ⟨61, _⟩ => ⟨S2x12288x64, .f32⟩
  | .hbm, ⟨62, _⟩ => ⟨S2x12288x64, .f32⟩
  | .hbm, ⟨63, _⟩ => ⟨S2x12288x64, .f32⟩
  | .hbm, ⟨64, _⟩ => ⟨S2x12288x64, .f32⟩
  | .hbm, ⟨65, _⟩ => ⟨S2x12288x64, .f32⟩
  | .hbm, ⟨66, _⟩ => ⟨S2x12288x64, .f32⟩
  | .hbm, ⟨67, _⟩ => ⟨S2x12288x64, .f32⟩
  | .hbm, ⟨68, _⟩ => ⟨S2x12288x64, .f32⟩
  | .hbm, ⟨69, _⟩ => ⟨S2x12288x64x1, .f32⟩
  | .hbm, ⟨70, _⟩ => ⟨S2x12288x64x128, .f32⟩
  | .hbm, ⟨71, _⟩ => ⟨S2x12288x64x128, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2x12288x64x128, .f32⟩
  | .hbm, ⟨76, _⟩ => ⟨S2x12288x64x128, .f32⟩
  | .hbm, ⟨77, _⟩ => ⟨S_, .f32⟩
  | .hbm, ⟨78, _⟩ => ⟨S2x12288x64x128, .f32⟩
  | .hbm, ⟨79, _⟩ => ⟨S2x12288x64x128, .f32⟩
  | .hbm, ⟨80, _⟩ => ⟨S2x12288x64x128, .fp8e4m3⟩
  | .hbm, ⟨81, _⟩ => ⟨S2x192x64x8x8x128, .fp8e4m3⟩
  | .hbm, ⟨82, _⟩ => ⟨S2x8x192x8x64x128, .fp8e4m3⟩
  | .hbm, ⟨83, _⟩ => ⟨S2x12288x8192, .fp8e4m3⟩
  | .hbm, ⟨84, _⟩ => ⟨S2x8x192x512x128, .fp8e4m3⟩
  | .local _ .vmem, ⟨0, _⟩ => ⟨S2x12288x64x128, .f32⟩
  | .local _ .vmem, ⟨1, _⟩ => ⟨S2x12288x64x128, .fp8e4m3⟩
  | _, _ => ⟨S2x12288x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_cst_8 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x12288x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12288x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Word.Block.lean ====
/- What one grid point of the attention kernel computes, as plain functions of the blocks it reads: the key chunks, the
   chunk of scaled scores, the running maximum, the running sums and the block of the result. And how many chunks of
   256 keys the query tile `i` visits. -/
module

public import proofs.«01_k».proof.Proof.Gen.Kernel.Skeleton
public import proofs.«01_k».proof.Proof.Gen.Kernel.Loops
public import proofs.«01_k».proof.Proof.Gen.Kernel.Frame
public import Idealize.ShloMosaic.Lib.PointwiseCore

@[expose] public section

set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The chunk of keys that the last query of the tile lies in: the last chunk visited, the one that is masked. -/
def lastC (i : grid0.Coords) : ℕ := (i 1).val / 4

theorem i1_lt (i : grid0.Coords) : (i 1).val < 192 := (i 1).isLt

theorem lastC_lt (i : grid0.Coords) : lastC i < 48 := by have := i1_lt i; unfold lastC; omega

/-- The coordinates of query tile `n` of head 0: the trip counts depend on the tile only. -/
def atTile (n : Fin 192) : grid0.Coords := Fin.cons (0 : Fin 16) (Fin.cons n finZeroElim)

theorem trips_t1 : k0_t1_loop.trips = 96 := by decide +kernel

theorem trips_t2 (i : grid0.Coords) : (k0_t2_loop i).trips = lastC i := by
  have h : ∀ n : Fin 192, (k0_t2_loop (atTile n)).trips = n.val / 4 := by decide +kernel
  exact h (i 1)

theorem trips_t3 (i : grid0.Coords) : (k0_t3_loop i).trips = 0 := by
  have h : ∀ n : Fin 192, (k0_t3_loop (atTile n)).trips = 0 := by decide +kernel
  exact h (i 1)

theorem trips_t4 (i : grid0.Coords) : (k0_t4_loop i).trips = lastC i + 1 := by
  have h : ∀ n : Fin 192, (k0_t4_loop (atTile n)).trips = n.val / 4 + 1 := by decide +kernel
  exact h (i 1)

theorem trips_t5 (i : grid0.Coords) : (k0_t5_loop i).trips = 0 := by
  have h : ∀ n : Fin 192, (k0_t5_loop (atTile n)).trips = 0 := by decide +kernel
  exact h (i 1)

/-- Chunk `k` of 256 keys, of a head's key codes. -/
def kBlock (x4 : Vec F S1x1x12288x128 .fp8e4m3) (k : Fin 48) : Vec F S1x1x256x128 .fp8e4m3 :=
  fun y => x4 (ix4 0 0 ⟨256 * k.val + (y 2).val, by have := (y 2).isLt; change (y 2).val < 256 at this; omega⟩ (y 3))

/-- The rows of chunk `k` of the scratch that holds each key's scale, repeated over 128 lanes. -/
def sBlock (x10 : Vec F S12288x128 .f32) (k : Fin 48) : Vec F S256x128 .f32 :=
  fun y => x10 (ix2 ⟨256 * k.val + (y 0).val, by have := (y 0).isLt; change (y 0).val < 256 at this; omega⟩ (y 1))

/-- Chunk `k` of 256 keys, of a head's transposed value codes. -/
def vBlock (x6 : Vec F S1x1x128x12288 .fp8e4m3) (k : Fin 48) : Vec F S1x1x128x256 .fp8e4m3 :=
  fun y => x6 (ix4 0 0 (y 2) ⟨256 * k.val + (y 3).val, by have := (y 3).isLt; change (y 3).val < 256 at this; omega⟩)

/-- The rows of chunk `k` of the score scratch. -/
def aBlock (x9 : Vec F S12288x512 .f32) (k : Fin 48) : Vec F S256x512 .f32 :=
  fun y => x9 (ix2 ⟨256 * k.val + (y 0).val, by have := (y 0).isLt; change (y 0).val < 256 at this; omega⟩ (y 1))

/-- Row `k` of the 96 rows of 128 key scales. -/
def ksRow (x5 : Vec F S1x1x96x128 .f32) (k : Fin 96) : Vec F S1x1x1x128 .f32 :=
  fun y => x5 (ix4 0 0 k (y 3))

/-- The scale scratch filled: key `t`'s scale times the score scale, on every lane of row `t`. -/
def ksFull (x5 : Vec F S1x1x96x128 .f32) : Vec F S12288x128 .f32 :=
  fun y => k0_pay2 (ksRow x5 ⟨(y 0).val / 128, by have := (y 0).isLt; change (y 0).val < 12288 at this; omega⟩)
    (ix2 ⟨(y 0).val % 128, Nat.mod_lt _ (by omega)⟩ (y 1))

/-- The number of chunks the tile visits, as the 32-bit word the kernel computes. -/
def nWord (i : grid0.Coords) : BitVec 32 := BitVec.ofNat 32 (lastC i + 1)

/-- The running maximum over the first `k` chunks, in the 8 rows that a chunk's maxima are kept in. -/
def mx (x2 : Vec F S1x1x1x512x128 .fp8e4m3) (x4 : Vec F S1x1x12288x128 .fp8e4m3) (x10 : Vec F S12288x128 .f32) : ℕ → FVec F S8x512 .f32
  | 0 => k0_pay5
  | k + 1 => if h : k < 48 then k0_pay8 (k0_pay3 x2) (mx x2 x4 x10 k) (kBlock x4 ⟨k, h⟩) (sBlock x10 ⟨k, h⟩) else mx x2 x4 x10 k

/-- The last chunk's scores before the mask. -/
def rawLast (i : grid0.Coords) (x2 : Vec F S1x1x1x512x128 .fp8e4m3) (x4 : Vec F S1x1x12288x128 .fp8e4m3) (x10 : Vec F S12288x128 .f32) : FVec F S256x512 .f32 :=
  k0_pay12 (k0_pay3 x2) (kBlock x4 ⟨lastC i, lastC_lt i⟩) (sBlock x10 ⟨lastC i, lastC_lt i⟩)

/-- Chunk `j`'s scores as the score scratch holds them: the last one masked. -/
def score (i : grid0.Coords) (x2 : Vec F S1x1x1x512x128 .fp8e4m3) (x4 : Vec F S1x1x12288x128 .fp8e4m3) (x10 : Vec F S12288x128 .f32) (j : Fin 48) : FVec F S256x512 .f32 :=
  if j.val = lastC i then k0_pay16 (rawLast i x2 x4 x10) (k0_pay13 (nWord i)) (k0_pay14 (BitVec.ofNat 32 (i 1).val))
  else k0_pay7 (k0_pay3 x2) (kBlock x4 j) (sBlock x10 j)

/-- The two running sums over the first `k` chunks: of the weights, and of the weighted values. -/
def sums (i : grid0.Coords) (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) : ℕ → FVec F S8x512 .f32 × FVec F S128x512 .f32
  | 0 => (k0_pay18, k0_pay19)
  | k + 1 => if h : k < 48 then
      (k0_pay21 (k0_pay4 x3) (mx x2 x4 x10 (lastC i)) (rawLast i x2 x4 x10) (k0_pay13 (nWord i)) (k0_pay14 (BitVec.ofNat 32 (i 1).val)) (sums i x2 x3 x4 x10 x6 k).1 (score i x2 x4 x10 ⟨k, h⟩),
       k0_pay22 (k0_pay4 x3) (mx x2 x4 x10 (lastC i)) (rawLast i x2 x4 x10) (k0_pay13 (nWord i)) (k0_pay14 (BitVec.ofNat 32 (i 1).val)) (sums i x2 x3 x4 x10 x6 k).2 (score i x2 x4 x10 ⟨k, h⟩) (vBlock x6 ⟨k, h⟩))
      else sums i x2 x3 x4 x10 x6 k

/-- The tile's output rows, the 8 query heads of the group one after another. -/
def outRows (i : grid0.Coords) (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) (x7 : Vec F S1x1x1x128 .f32) : FVec F S512x128 .f32 :=
  k0_pay26 (sums i x2 x3 x4 x10 x6 (lastC i + 1)).1 (sums i x2 x3 x4 x10 x6 (lastC i + 1)).2 x7

/-- The block of the result: rounded, and the 8 heads side by side. -/
def outBlk (i : grid0.Coords) (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) (x7 : Vec F S1x1x1x128 .f32) : FVec F S1x64x1024 .bf16 :=
  fun y => truncf .bf16 (outRows i x2 x3 x4 x10 x6 x7) bitsLt_bf16_f32
    (ix2 ⟨64 * ((y 2).val / 128) + (y 1).val, by
      have h1 := (y 1).isLt; have h2 := (y 2).isLt; change (y 1).val < 64 at h1; change (y 2).val < 1024 at h2; omega⟩
      ⟨(y 2).val % 128, Nat.mod_lt _ (by omega)⟩)

end Cert.Kernel.Attn
-- ==== Proof.Word.Scales.lean ====
/- The kernel's counted loops, trip by trip: what each trip reads, yields and stores, and so what the loops carry and
   leave behind, in the terms of the one-tile functions. -/
module

public import proofs.«01_k».proof.Proof.Word.Block
public import Idealize.ShloMosaic.Lib.VecWindow

@[expose] public section

set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

/-! ### What the loads read -/

omit [FloatOps F] in
theorem read_k (X : BufTy.Contents (Elt F) arg4.view.ty) (k : Fin 48) (off : Fin 4 → ℕ) (h : off = ![0, 0, 256 * k.val, 0]) (inb) :
    arg4.view.readAt (Elt F) (Rect.unit (s := S1x1x12288x128) off S1x1x256x128.size inb).toLoadRect X
      = kBlock (arg4.view.read (Elt F) X) k := by
  subst h
  funext y
  refine congrArg (arg4.view.read (Elt F) X) (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show 256 * k.val + 1 * (y 2).val = 256 * k.val + (y 2).val; omega
  | ⟨3, _⟩ => show 0 + 1 * (y 3).val = (y 3).val; omega

omit [FloatOps F] in
theorem read_s (X : BufTy.Contents (Elt F) arg10.view.ty) (k : Fin 48) (off : Fin 2 → ℕ) (h : off = ![256 * k.val, 0]) (inb) :
    arg10.view.readAt (Elt F) (Rect.unit (s := S12288x128) off S256x128.size inb).toLoadRect X
      = sBlock (arg10.view.read (Elt F) X) k := by
  subst h
  funext y
  refine congrArg (arg10.view.read (Elt F) X) (funext fun a => Fin.ext ?_)
  match a with
  | ⟨0, _⟩ => show 256 * k.val + 1 * (y 0).val = 256 * k.val + (y 0).val; omega
  | ⟨1, _⟩ => show 0 + 1 * (y 1).val = (y 1).val; omega

omit [FloatOps F] in
theorem read_a (X : BufTy.Contents (Elt F) arg9.view.ty) (k : Fin 48) (off : Fin 2 → ℕ) (h : off = ![256 * k.val, 0]) (inb) :
    arg9.view.readAt (Elt F) (Rect.unit (s := S12288x512) off S256x512.size inb).toLoadRect X
      = aBlock (arg9.view.read (Elt F) X) k := by
  subst h
  funext y
  refine congrArg (arg9.view.read (Elt F) X) (funext fun a => Fin.ext ?_)
  match a with
  | ⟨0, _⟩ => show 256 * k.val + 1 * (y 0).val = 256 * k.val + (y 0).val; omega
  | ⟨1, _⟩ => show 0 + 1 * (y 1).val = (y 1).val; omega

omit [FloatOps F] in
theorem read_v (X : BufTy.Contents (Elt F) arg6.view.ty) (k : Fin 48) (off : Fin 4 → ℕ) (h : off = ![0, 0, 0, 256 * k.val]) (inb) :
    arg6.view.readAt (Elt F) (Rect.unit (s := S1x1x128x12288) off S1x1x128x256.size inb).toLoadRect X
      = vBlock (arg6.view.read (Elt F) X) k := by
  subst h
  funext y
  refine congrArg (arg6.view.read (Elt F) X) (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show 0 + 1 * (y 2).val = (y 2).val; omega
  | ⟨3, _⟩ => show 256 * k.val + 1 * (y 3).val = 256 * k.val + (y 3).val; omega

omit [FloatOps F] in
theorem read_ks (X : BufTy.Contents (Elt F) arg5.view.ty) (k : Fin 96) (off : Fin 4 → ℕ) (h : off = ![0, 0, k.val, 0]) (inb) :
    arg5.view.readAt (Elt F) (Rect.unit (s := S1x1x96x128) off S1x1x1x128.size inb).toLoadRect X
      = ksRow (arg5.view.read (Elt F) X) k := by
  subst h
  funext y
  refine congrArg (arg5.view.read (Elt F) X) (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show k.val + 1 * (y 2).val = k.val; have := (y 2).isLt; change (y 2).val < 1 at this; omega
  | ⟨3, _⟩ => show 0 + 1 * (y 3).val = (y 3).val; omega

/-! ### The loop over the rows of key scales -/

/-- One trip stores one slab of 128 rows of the scale scratch. -/
theorem trip1 (h1 : k0_cond1 i = 1#1) (X5 : BufTy.Contents (Elt F) arg5.view.ty) (k : Fin k0_t1_loop.trips) (k' : Fin 96) (hk : k.val = k'.val) :
    tripL_k0_t1 (F := F) Variants.none c none i arg2 harg2 arg3 harg3 arg4 harg4 arg5 harg5 arg6 harg6 arg7 harg7 arg8 harg8 arg9 harg9 arg10 harg10 h1 X5 k
      = [⟨Rect.unit (s := S12288x128) (k0_off2 k) S128x128.size (k0_off2_inb i k h1), k0_pay2 (ksRow (arg5.view.read (Elt F) X5) k')⟩] := by
  unfold tripL_k0_t1 trip_k0_t1
  dsimp only
  rw [read_ks arg5 X5 k' _ (by rw [k0_off1_eq, hk])]

/-- A slab as stored is the filled scratch there. -/
theorem slab_fits (x5 : Vec F S1x1x96x128 .f32) (k : Fin 96) (off : Fin 2 → ℕ) (hoff : off = ![128 * k.val, 0]) (inb) (x : S128x128.Idx) :
    k0_pay2 (ksRow x5 k) x = ksFull x5 ((Rect.unit (s := S12288x128) off S128x128.size inb).emb x) := by
  subst hoff
  have hx0 : (x 0).val < 128 := (x 0).isLt
  unfold ksFull
  congr 1
  · congr 2
    refine Fin.ext ?_
    show k.val = (128 * k.val + 1 * (x 0).val) / 128
    omega
  · funext a
    match a with
    | ⟨0, _⟩ => exact Fin.ext (by show (x 0).val = (128 * k.val + 1 * (x 0).val) % 128; omega)
    | ⟨1, _⟩ => exact Fin.ext (by show (x 1).val = 0 + 1 * (x 1).val; omega)

/-- The scale scratch after the loop, whatever it held: filled. -/
theorem read_ksFull (h1 : k0_cond1 i = 1#1) (X5 : BufTy.Contents (Elt F) arg5.view.ty) (G : BufTy.Contents (Elt F) arg10.view.ty) :
    arg10.view.read (Elt F) (arg10.view.writes (Elt F) G (pb_k0_t1 (F := F) Variants.none c none i arg2 harg2 arg3 harg3 arg4 harg4 arg5 harg5 arg6 harg6 arg7 harg7 arg8 harg8 arg9 harg9 arg10 harg10 h1 X5 k0_t1_loop.trips))
      = ksFull (arg5.view.read (Elt F) X5) := by
  have hfit : ∀ k : ℕ, k ≤ k0_t1_loop.trips →
      (∀ p ∈ pb_k0_t1 (F := F) Variants.none c none i arg2 harg2 arg3 harg3 arg4 harg4 arg5 harg5 arg6 harg6 arg7 harg7 arg8 harg8 arg9 harg9 arg10 harg10 h1 X5 k, ∀ x : p.1.shape.Idx, p.2 x = ksFull (arg5.view.read (Elt F) X5) (p.1.emb x))
      ∧ (∀ y : S12288x128.Idx, (y 0).val < 128 * k → ∃ p ∈ pb_k0_t1 (F := F) Variants.none c none i arg2 harg2 arg3 harg3 arg4 harg4 arg5 harg5 arg6 harg6 arg7 harg7 arg8 harg8 arg9 harg9 arg10 harg10 h1 X5 k, y ∈ p.1.set) := by
    intro k
    induction k with
    | zero => intro _; refine ⟨fun p hp => absurd hp List.not_mem_nil, fun y hy => absurd hy (by omega)⟩
    | succ k ih =>
      intro hk
      obtain ⟨ih1, ih2⟩ := ih (by omega)
      have hk96 : k < 96 := by have := trips_t1; omega
      have e : pb_k0_t1 (F := F) Variants.none c none i arg2 harg2 arg3 harg3 arg4 harg4 arg5 harg5 arg6 harg6 arg7 harg7 arg8 harg8 arg9 harg9 arg10 harg10 h1 X5 (k + 1) = _ := pb_k0_t1_succ (F := F) Variants.none c none i arg2 harg2 arg3 harg3 arg4 harg4 arg5 harg5 arg6 harg6 arg7 harg7 arg8 harg8 arg9 harg9 arg10 harg10 h1 X5 ⟨k, hk⟩
      rw [trip1 c i arg2 harg2 arg3 harg3 arg4 harg4 arg5 harg5 arg6 harg6 arg7 harg7 arg8 harg8 arg9 harg9 arg10 harg10 h1 X5 ⟨k, hk⟩ ⟨k, hk96⟩ rfl] at e
      rw [e]
      constructor
      · intro p hp
        rcases List.mem_append.mp hp with hp | hp
        · rw [List.mem_singleton.mp hp]
          intro x
          exact slab_fits _ ⟨k, hk96⟩ _ (by rw [k0_off2_eq]) (k0_off2_inb i ⟨k, hk⟩ h1) x
        · exact ih1 p hp
      · intro y hy
        by_cases hlt : (y 0).val < 128 * k
        · obtain ⟨p, hp, hy'⟩ := ih2 y hlt
          exact ⟨p, List.mem_append_right _ hp, hy'⟩
        · refine ⟨_, List.mem_append_left _ (List.mem_singleton.mpr rfl), ?_⟩
          have o0 : k0_off2 ⟨k, hk⟩ 0 = 128 * k := by rw [k0_off2_eq]; rfl
          have o1 : k0_off2 ⟨k, hk⟩ 1 = 0 := by rw [k0_off2_eq]; rfl
          have y1 : (y 1).val < 128 := (y 1).isLt
          rw [Rect.mem_set_unit]
          intro a
          match a with
          | ⟨0, _⟩ => show k0_off2 ⟨k, hk⟩ 0 ≤ (y 0).val ∧ (y 0).val < k0_off2 ⟨k, hk⟩ 0 + 128; omega
          | ⟨1, _⟩ => show k0_off2 ⟨k, hk⟩ 1 ≤ (y 1).val ∧ (y 1).val < k0_off2 ⟨k, hk⟩ 1 + 128; omega
  funext y
  have hy : (y 0).val < 12288 := (y 0).isLt
  refine View.read_writes_apply_of_pieces _ _ _ _ (hfit _ le_rfl).1 y ((hfit _ le_rfl).2 y ?_)
  rw [trips_t1]; omega

end Cert.Kernel.Attn
-- ==== Proof.Word.Scores.lean ====
/- The loop that scores the chunks and the loop that sums the weights: what they carry, and what the score scratch holds
   when the second one reads it. -/
module

public import proofs.«01_k».proof.Proof.Word.Scales

@[expose] public section

set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

/-! ### The loop over the chunks before the last -/

/-- One trip: the maximum it carries, and the chunk of scores it stores. -/
theorem trip2 (arg1 v23 z v30 : BitVec 32) (x2 : Vec F S1x1x1x512x128 .fp8e4m3) (v28 : FVec F S8x512 .f32)
    (X4 : BufTy.Contents (Elt F) arg4.view.ty) (X10 : BufTy.Contents (Elt F) arg10.view.ty) (k : Fin (k0_t2_loop i).trips) (k' : Fin 48) (hk : k.val = k'.val)
    (acc : FVec F S8x512 .f32) :
    tripR_k0_t2 (F := F) Variants.none c none i arg2 harg2 arg3 harg3 arg4 harg4 arg5 harg5 arg6 harg6 arg7 harg7 arg8 harg8 arg9 harg9 arg10 harg10 arg1 v23 (k0_pay3 x2) v28 z v30 X4 X10 k acc = k0_pay8 (k0_pay3 x2) acc (kBlock (arg4.view.read (Elt F) X4) k') (sBlock (arg10.view.read (Elt F) X10) k')
    ∧ tripL_k0_t2 (F := F) Variants.none c none i arg2 harg2 arg3 harg3 arg4 harg4 arg5 harg5 arg6 harg6 arg7 harg7 arg8 harg8 arg9 harg9 arg10 harg10 arg1 v23 (k0_pay3 x2) v28 z v30 X4 X10 k acc
      = [⟨Rect.unit (s := S12288x512) (k0_off5 i k) S256x512.size (k0_off5_inb i k),
          k0_pay7 (k0_pay3 x2) (kBlock (arg4.view.read (Elt F) X4) k') (sBlock (arg10.view.read (Elt F) X10) k')⟩] := by
  unfold tripR_k0_t2 tripL_k0_t2 trip_k0_t2
  dsimp only
  rw [read_k arg4 X4 k' _ (by rw [k0_off3_eq, hk]), read_s arg10 X10 k' _ (by rw [k0_off4_eq, hk])]
  exact ⟨rfl, rfl⟩

/-- The score scratch as the second loop should find it. -/
def scoreFull (i : grid0.Coords) (x2 : Vec F S1x1x1x512x128 .fp8e4m3) (x4 : Vec F S1x1x12288x128 .fp8e4m3) (x10 : Vec F S12288x128 .f32) : Vec F S12288x512 .f32 :=
  fun y => score i x2 x4 x10 ⟨(y 0).val / 256, by have := (y 0).isLt; change (y 0).val < 12288 at this; omega⟩
    (ix2 ⟨(y 0).val % 256, Nat.mod_lt _ (by omega)⟩ (y 1))

theorem score_fits (x2 : Vec F S1x1x1x512x128 .fp8e4m3) (x4 : Vec F S1x1x12288x128 .fp8e4m3) (x10 : Vec F S12288x128 .f32) (k : Fin 48)
    (off : Fin 2 → ℕ) (hoff : off = ![256 * k.val, 0]) (inb) (x : S256x512.Idx) :
    score i x2 x4 x10 k x = scoreFull i x2 x4 x10 ((Rect.unit (s := S12288x512) off S256x512.size inb).emb x) := by
  subst hoff
  have hx0 : (x 0).val < 256 := (x 0).isLt
  unfold scoreFull
  congr 1
  · congr 1
    refine Fin.ext ?_
    show k.val = (256 * k.val + 1 * (x 0).val) / 256
    omega
  · funext a
    match a with
    | ⟨0, _⟩ => exact Fin.ext (by show (x 0).val = (256 * k.val + 1 * (x 0).val) % 256; omega)
    | ⟨1, _⟩ => exact Fin.ext (by show (x 1).val = 0 + 1 * (x 1).val; omega)

theorem aBlock_scoreFull (x2 : Vec F S1x1x1x512x128 .fp8e4m3) (x4 : Vec F S1x1x12288x128 .fp8e4m3) (x10 : Vec F S12288x128 .f32) (k : Fin 48)
    (x9 : Vec F S12288x512 .f32) (h : ∀ y : S12288x512.Idx, (y 0).val < 256 * (lastC i + 1) → x9 y = scoreFull i x2 x4 x10 y) (hk : k.val ≤ lastC i) :
    aBlock x9 k = score i x2 x4 x10 k := by
  funext x
  have hx0 : (x 0).val < 256 := (x 0).isLt
  have hl := lastC_lt i
  unfold aBlock
  rw [h _ (by show 256 * k.val + (x 0).val < _; omega)]
  unfold scoreFull
  congr 1
  · refine Fin.ext ?_
    show (256 * k.val + (x 0).val) / 256 = k.val
    omega
  · funext a
    match a with
    | ⟨0, _⟩ => exact Fin.ext (by show (256 * k.val + (x 0).val) % 256 = (x 0).val; omega)
    | ⟨1, _⟩ => rfl

/-- The loop's state after `k` trips: the running maximum, and pieces that are the scores of the first `k` chunks. -/
theorem state2 (arg1 v23 z v30 : BitVec 32) (x2 : Vec F S1x1x1x512x128 .fp8e4m3) (v28 : FVec F S8x512 .f32)
    (X4 : BufTy.Contents (Elt F) arg4.view.ty) (X10 : BufTy.Contents (Elt F) arg10.view.ty) :
    ∀ k : ℕ, k ≤ (k0_t2_loop i).trips →
      (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).1 = mx x2 (arg4.view.read (Elt F) X4) (arg10.view.read (Elt F) X10) k
      ∧ (∀ p ∈ (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).2, ∀ x : p.1.shape.Idx,
          p.2 x = scoreFull i x2 (arg4.view.read (Elt F) X4) (arg10.view.read (Elt F) X10) (p.1.emb x))
      ∧ (∀ y : S12288x512.Idx, (y 0).val < 256 * k → ∃ p ∈ (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).2, y ∈ p.1.set) := by
  intro k
  induction k with
  | zero => intro _; exact ⟨rfl, fun p hp => absurd hp List.not_mem_nil, fun y hy => absurd hy (by omega)⟩
  | succ k ih =>
    intro hk
    obtain ⟨ih0, ih1, ih2⟩ := ih (by omega)
    have hl := lastC_lt i
    have hlast : k < lastC i := by have := trips_t2 i; omega
    have hk48 : k < 48 := by omega
    obtain ⟨tR, tL⟩ := trip2 c i arg2 harg2 arg3 harg3 arg4 harg4 arg5 harg5 arg6 harg6 arg7 harg7 arg8 harg8 arg9 harg9 arg10 harg10 arg1 v23 z v30 x2 v28 X4 X10 ⟨k, hk⟩ ⟨k, hk48⟩ rfl (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).1
    have e : st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 (k + 1) = _ := st_k0_t2_succ (F := F) Variants.none c none i arg2 harg2 arg3 harg3 arg4 harg4 arg5 harg5 arg6 harg6 arg7 harg7 arg8 harg8 arg9 harg9 arg10 harg10 arg1 v23 (k0_pay3 x2) v28 z v30 X4 X10 k0_pay5 ⟨k, hk⟩
    rw [tR, tL] at e
    rw [e]
    refine ⟨?_, ?_, ?_⟩
    · show k0_pay8 _ _ _ _ = mx x2 _ _ (k + 1)
      rw [mx, dif_pos hk48, ih0]
    · intro p hp
      rcases List.mem_append.mp hp with hp | hp
      · rw [List.mem_singleton.mp hp]
        intro x
        have hs : score i x2 (arg4.view.read (Elt F) X4) (arg10.view.read (Elt F) X10) ⟨k, hk48⟩ = _ := if_neg (by show ¬ k = lastC i; omega)
        refine Eq.trans ?_ (score_fits i x2 _ _ ⟨k, hk48⟩ _ (by rw [k0_off5_eq]) (k0_off5_inb i ⟨k, hk⟩) x)
        rw [hs]
      · exact ih1 p hp
    · intro y hy
      by_cases hlt : (y 0).val < 256 * k
      · obtain ⟨p, hp, hy'⟩ := ih2 y hlt
        exact ⟨p, List.mem_append_right _ hp, hy'⟩
      · refine ⟨_, List.mem_append_left _ (List.mem_singleton.mpr rfl), ?_⟩
        have o0 : k0_off5 i ⟨k, hk⟩ 0 = 256 * k := by rw [k0_off5_eq]; rfl
        have o1 : k0_off5 i ⟨k, hk⟩ 1 = 0 := by rw [k0_off5_eq]; rfl
        have y1 : (y 1).val < 512 := (y 1).isLt
        rw [Rect.mem_set_unit]
        intro a
        match a with
        | ⟨0, _⟩ => show k0_off5 i ⟨k, hk⟩ 0 ≤ (y 0).val ∧ (y 0).val < k0_off5 i ⟨k, hk⟩ 0 + 256; omega
        | ⟨1, _⟩ => show k0_off5 i ⟨k, hk⟩ 1 ≤ (y 1).val ∧ (y 1).val < k0_off5 i ⟨k, hk⟩ 1 + 512; omega

/-- The score scratch when the summing loop starts: the last chunk's masked scores over those of the chunks before. -/
theorem read_scores (arg1 v23 z v30 : BitVec 32) (x2 : Vec F S1x1x1x512x128 .fp8e4m3) (v28 : FVec F S8x512 .f32)
    (X4 : BufTy.Contents (Elt F) arg4.view.ty) (X10 : BufTy.Contents (Elt F) arg10.view.ty) (G : BufTy.Contents (Elt F) arg9.view.ty)
    (inb) (y : S12288x512.Idx) (hy : (y 0).val < 256 * (lastC i + 1)) :
    arg9.view.read (Elt F) (arg9.view.writes (Elt F) G
        (⟨Rect.unit (s := S12288x512) (k0_off11 i) S256x512.size inb,
            k0_pay16 (rawLast i x2 (arg4.view.read (Elt F) X4) (arg10.view.read (Elt F) X10)) (k0_pay13 (nWord i)) (k0_pay14 (BitVec.ofNat 32 (i 1).val))⟩
          :: (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 (k0_t2_loop i).trips).2)) y
      = scoreFull i x2 (arg4.view.read (Elt F) X4) (arg10.view.read (Elt F) X10) y := by
  obtain ⟨-, h1, h2⟩ := state2 c i arg2 harg2 arg3 harg3 arg4 harg4 arg5 harg5 arg6 harg6 arg7 harg7 arg8 harg8 arg9 harg9 arg10 harg10 arg1 v23 z v30 x2 v28 X4 X10 (k0_t2_loop i).trips le_rfl
  have ho : 256 * ((64 * (i 1).val + 319) / 256) - 256 = 256 * lastC i := by unfold lastC; omega
  have ho' : k0_off11 i = ![256 * lastC i, 0] := by rw [k0_off11_eq, ho]
  refine View.read_writes_apply_of_pieces _ _ _ _ ?_ y ?_
  · intro p hp
    rcases List.mem_cons.mp hp with rfl | hp
    · intro x
      have hs : score i x2 (arg4.view.read (Elt F) X4) (arg10.view.read (Elt F) X10) ⟨lastC i, lastC_lt i⟩ = _ := if_pos rfl
      refine Eq.trans ?_ (score_fits i x2 _ _ ⟨lastC i, lastC_lt i⟩ _ ho' inb x)
      rw [hs]
    · exact h1 p hp
  · by_cases hlt : (y 0).val < 256 * lastC i
    · obtain ⟨p, hp, hy'⟩ := h2 y (by rw [trips_t2]; exact hlt)
      exact ⟨p, List.mem_cons_of_mem _ hp, hy'⟩
    · refine ⟨_, List.mem_cons_self, ?_⟩
      have o0 : k0_off11 i 0 = 256 * lastC i := by rw [ho']; rfl
      have o1 : k0_off11 i 1 = 0 := by rw [ho']; rfl
      have y1 : (y 1).val < 512 := (y 1).isLt
      rw [Rect.mem_set_unit]
      intro a
      match a with
      | ⟨0, _⟩ => show k0_off11 i 0 ≤ (y 0).val ∧ (y 0).val < k0_off11 i 0 + 256; omega
      | ⟨1, _⟩ => show k0_off11 i 1 ≤ (y 1).val ∧ (y 1).val < k0_off11 i 1 + 512; omega

/-! ### The loop that sums -/

theorem trip4 (v23 v37 : BitVec 32) (x3 : Vec F S1x1x1x1x512 .f32) (v36 : FVec F S8x512 .f32) (v47 : FVec F S256x512 .f32) (v51 v71 : IVec S256x512 32)
    (X6 : BufTy.Contents (Elt F) arg6.view.ty) (X9 : BufTy.Contents (Elt F) arg9.view.ty) (k : Fin (k0_t4_loop i).trips) (k' : Fin 48) (hk : k.val = k'.val)
    (acc : FVec F S8x512 .f32 × FVec F S128x512 .f32) :
    (trip_k0_t4 (F := F) Variants.none c none i arg2 harg2 arg3 harg3 arg4 harg4 arg5 harg5 arg6 harg6 arg7 harg7 arg8 harg8 arg9 harg9 arg10 harg10 v23 (k0_pay4 x3) v36 v37 v47 v51 v71 X6 X9 k).1 acc
      = (k0_pay21 (k0_pay4 x3) v36 v47 v51 v71 acc.1 (aBlock (arg9.view.read (Elt F) X9) k'),
         k0_pay22 (k0_pay4 x3) v36 v47 v51 v71 acc.2 (aBlock (arg9.view.read (Elt F) X9) k') (vBlock (arg6.view.read (Elt F) X6) k')) := by
  unfold trip_k0_t4
  dsimp only
  rw [read_a arg9 X9 k' _ (by rw [k0_off12_eq, hk]), read_v arg6 X6 k' _ (by rw [k0_off13_eq, hk])]

/-- The sums after `k` trips, of scores that are the tile's. -/
theorem state4 (v23 v37 : BitVec 32) (x2 : Vec F S1x1x1x512x128 .fp8e4m3) (x3 : Vec F S1x1x1x1x512 .f32) (x4 : Vec F S1x1x12288x128 .fp8e4m3) (x10 : Vec F S12288x128 .f32)
    (X6 : BufTy.Contents (Elt F) arg6.view.ty) (X9 : BufTy.Contents (Elt F) arg9.view.ty)
    (h9 : ∀ y : S12288x512.Idx, (y 0).val < 256 * (lastC i + 1) → arg9.view.read (Elt F) X9 y = scoreFull i x2 x4 x10 y) :
    ∀ k : ℕ, k ≤ (k0_t4_loop i).trips →
      st_k0_t4 (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 (k0_pay18, k0_pay19) k = sums i x2 x3 x4 x10 (arg6.view.read (Elt F) X6) k := by
  intro k
  induction k with
  | zero => intro _; rfl
  | succ k ih =>
    intro hk
    have hl := lastC_lt i
    have hle : k ≤ lastC i := by have := trips_t4 i; omega
    have hk48 : k < 48 := by omega
    have e := st_k0_t4_succ (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 (k0_pay18, k0_pay19) ⟨k, hk⟩
    refine Eq.trans e ?_
    rw [show tripR_k0_t4 (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 ⟨k, hk⟩ = (trip_k0_t4 (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 ⟨k, hk⟩).1 from rfl]
    rw [trip4 c i arg2 harg2 arg3 harg3 arg4 harg4 arg5 harg5 arg6 harg6 arg7 harg7 arg8 harg8 arg9 harg9 arg10 harg10 v23 v37 x3 _ _ _ _ X6 X9 ⟨k, hk⟩ ⟨k, hk48⟩ rfl, aBlock_scoreFull i x2 x4 x10 ⟨k, hk48⟩ _ h9 hle]
    rw [show (⟨k, hk⟩ : Fin (k0_t4_loop i).trips).val = k from rfl, ih (by omega)]
    conv_rhs => rw [sums]
    rw [dif_pos hk48]

end Cert.Kernel.Attn
-- ==== Proof.Word.Run.lean ====
/- The body of the attention kernel run once, in each of its two cases: at the first query tile of a head it fills
   the scratch of key scales first, at the others it finds that scratch filled. -/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

set_option maxHeartbeats 4000000 in
/-- The body where the scale scratch is filled already: the pieces it stores into the result's block and into the score
    scratch, from the inputs' contents `x2 … x7` and the two scratches' `f9`, `f10`. -/
def runB (hc : ¬ k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    Σ' (L9 : List (View.Piece (Elt F) S12288x512 .f32)), { L8 : List (View.Piece (Elt F) S1x64x1024 .bf16) // ∀ (E : Set ℕ) (K : PUnit → sProp 𝕄),
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare x9 ∗ owns (c : Thread nD τ) arg10 fullShare x10
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ f, (arg8.view.loc (c : Thread nD τ) ↦[arg8.view.set]{fullShare} arg8.view.writes (Elt F) f L8))
            ∗ ((arg9.view.loc (c : Thread nD τ) ↦[arg9.view.set]{fullShare} arg9.view.writes (Elt F) (harg9.unread x9) L9))
            ∗ owns (c : Thread nD τ) arg10 fullShare x10) -∗ K ⟨⟩))
      ⊢ wp frame (wpE (defs₀ (F := F)) Variants.none c none) E (cc0_hadamard_fp8_attention i arg2 harg2 arg3 harg3 arg4 harg4 arg5 harg5 arg6 harg6 arg7 harg7 arg8 harg8 arg9 harg9 arg10 harg10) K } := by
  refine ⟨?_, ?_, fun E K => ?run⟩
  case run =>
    simp only [cc0_hadamard_fp8_attention_eq_skeleton]; unfold cc0_hadamard_fp8_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    rw [harg2.eq_unread hf2, harg3.eq_unread hf3, harg4.eq_unread hf4, harg5.eq_unread hf5, harg6.eq_unread hf6, harg7.eq_unread hf7, harg9.eq_unread hf9, harg10.eq_unread hf10]
    sl_exec
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; iexact H8
    isplitl [H9]
    · iexact H9
    iexists _; isplitr; swap; · iexact H10
    ipureintro; exact harg10.read_unread _

set_option maxHeartbeats 4000000 in
/-- The body where it fills the scale scratch first: the pieces it stores into the result's block and into the two
    scratches, from the inputs' contents `x2 … x7` and the two scratches' `f9`, `f10`. -/
def runA (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    Σ' (L9 : List (View.Piece (Elt F) S12288x512 .f32)) (L10 : List (View.Piece (Elt F) S12288x128 .f32)), { L8 : List (View.Piece (Elt F) S1x64x1024 .bf16) // ∀ (E : Set ℕ) (K : PUnit → sProp 𝕄),
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare x9 ∗ owns (c : Thread nD τ) arg10 fullShare x10
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ f, (arg8.view.loc (c : Thread nD τ) ↦[arg8.view.set]{fullShare} arg8.view.writes (Elt F) f L8))
            ∗ ((arg9.view.loc (c : Thread nD τ) ↦[arg9.view.set]{fullShare} arg9.view.writes (Elt F) (harg9.unread x9) L9))
            ∗ ((arg10.view.loc (c : Thread nD τ) ↦[arg10.view.set]{fullShare} arg10.view.writes (Elt F) (harg10.unread x10) L10))) -∗ K ⟨⟩))
      ⊢ wp frame (wpE (defs₀ (F := F)) Variants.none c none) E (cc0_hadamard_fp8_attention i arg2 harg2 arg3 harg3 arg4 harg4 arg5 harg5 arg6 harg6 arg7 harg7 arg8 harg8 arg9 harg9 arg10 harg10) K } := by
  refine ⟨?_, ?_, ?_, fun E K => ?run⟩
  case run =>
    simp only [cc0_hadamard_fp8_attention_eq_skeleton]; unfold cc0_hadamard_fp8_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    rw [harg2.eq_unread hf2, harg3.eq_unread hf3, harg4.eq_unread hf4, harg5.eq_unread hf5, harg6.eq_unread hf6, harg7.eq_unread hf7, harg9.eq_unread hf9, harg10.eq_unread hf10]
    sl_exec
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; iexact H8
    isplitl [H9]
    · iexact H9
    iexact H10

end Cert.Kernel.Attn
-- ==== Proof.Word.Out.lean ====
/- The block of the result that one run of the body leaves: the tile's output rows, head by head. -/
module

public import proofs.«01_k».proof.Proof.Word.Scores
public import proofs.«01_k».proof.Proof.Word.Run
import all proofs.«01_k».proof.Proof.Word.Run

@[expose] public section

set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

/-! ### The eight stores into the block -/

/-- Head `g`'s 64 rows of the tile, rounded. -/
def headOf (v : FVec F S512x128 .f32) (g : Fin 8) : FVec F S1x64x128 .bf16 :=
  fun x => truncf .bf16 v bitsLt_bf16_f32 (ix2 ⟨64 * g.val + (x 1).val, by have := (x 1).isLt; change (x 1).val < 64 at this; omega⟩ (x 2))

theorem head0 (a : FVec F S8x512 .f32) (b : FVec F S128x512 .f32) (w : Vec F S1x1x1x128 .f32) (x : S1x64x128.Idx) : k0_pay27 a b w x = headOf (k0_pay26 a b w) 0 x := by
  unfold k0_pay27 headOf
  pointwise

theorem head1 (v : FVec F S512x128 .f32) (x : S1x64x128.Idx) : k0_pay28 v x = headOf v 1 x := by
  unfold k0_pay28 headOf
  pointwise

theorem head2 (v : FVec F S512x128 .f32) (x : S1x64x128.Idx) : k0_pay29 v x = headOf v 2 x := by
  unfold k0_pay29 headOf
  pointwise

theorem head3 (v : FVec F S512x128 .f32) (x : S1x64x128.Idx) : k0_pay30 v x = headOf v 3 x := by
  unfold k0_pay30 headOf
  pointwise

theorem head4 (v : FVec F S512x128 .f32) (x : S1x64x128.Idx) : k0_pay31 v x = headOf v 4 x := by
  unfold k0_pay31 headOf
  pointwise

theorem head5 (v : FVec F S512x128 .f32) (x : S1x64x128.Idx) : k0_pay32 v x = headOf v 5 x := by
  unfold k0_pay32 headOf
  pointwise

theorem head6 (v : FVec F S512x128 .f32) (x : S1x64x128.Idx) : k0_pay33 v x = headOf v 6 x := by
  unfold k0_pay33 headOf
  pointwise

theorem head7 (v : FVec F S512x128 .f32) (x : S1x64x128.Idx) : k0_pay1 (k0_pay34 v) x = headOf v 7 x := by
  unfold k0_pay1 k0_pay34 headOf
  pointwise

/-- The block whose heads are the rows of `v`. -/
def blkOf (v : FVec F S512x128 .f32) : FVec F S1x64x1024 .bf16 :=
  fun y => truncf .bf16 v bitsLt_bf16_f32
    (ix2 ⟨64 * ((y 2).val / 128) + (y 1).val, by
      have h1 := (y 1).isLt; have h2 := (y 2).isLt; change (y 1).val < 64 at h1; change (y 2).val < 1024 at h2; omega⟩
      ⟨(y 2).val % 128, Nat.mod_lt _ (by omega)⟩)

theorem headOf_fits (v : FVec F S512x128 .f32) (g : Fin 8) (n : ℕ) (hn : n = 128 * g.val) (inb) (x : S1x64x128.Idx) :
    headOf v g x = blkOf v ((Rect.unit (s := S1x64x1024) ![0, 0, n] ![1, 64, 128] inb).emb x) := by
  subst hn
  have h2 : (x 2).val < 128 := (x 2).isLt
  unfold headOf blkOf
  congr 1
  funext a
  match a with
  | ⟨0, _⟩ => exact Fin.ext (by
      show 64 * g.val + (x 1).val = 64 * ((128 * g.val + 1 * (x 2).val) / 128) + (0 + 1 * (x 1).val)
      omega)
  | ⟨1, _⟩ => exact Fin.ext (by show (x 2).val = (128 * g.val + 1 * (x 2).val) % 128; omega)

/-- The eight stores of one tile, the last first. -/
def stores (v : FVec F S512x128 .f32) : List (View.Piece (Elt F) S1x64x1024 .bf16) :=
  [⟨Rect.unit ![0, 0, 896] ![1, 64, 128] inb_S1x64x1024_S1x64x128_0_0_896, k0_pay1 (k0_pay34 v)⟩,
   ⟨Rect.unit ![0, 0, 768] ![1, 64, 128] inb_S1x64x1024_S1x64x128_0_0_768, k0_pay33 v⟩,
   ⟨Rect.unit ![0, 0, 640] ![1, 64, 128] inb_S1x64x1024_S1x64x128_0_0_640, k0_pay32 v⟩,
   ⟨Rect.unit ![0, 0, 512] ![1, 64, 128] inb_S1x64x1024_S1x64x128_0_0_512, k0_pay31 v⟩,
   ⟨Rect.unit ![0, 0, 384] ![1, 64, 128] inb_S1x64x1024_S1x64x128_0_0_384, k0_pay30 v⟩,
   ⟨Rect.unit ![0, 0, 256] ![1, 64, 128] inb_S1x64x1024_S1x64x128_0_0_256, k0_pay29 v⟩,
   ⟨Rect.unit ![0, 0, 128] ![1, 64, 128] inb_S1x64x1024_S1x64x128_0_0_128, k0_pay28 v⟩,
   ⟨Rect.unit ![0, 0, 0] ![1, 64, 128] inb_S1x64x1024_S1x64x128_0_0_0, headOf v 0⟩]

/-- The block after the eight stores: they cover it. -/
theorem read_stores (v : FVec F S512x128 .f32) (f : BufTy.Contents (Elt F) arg8.view.ty) :
    arg8.view.read (Elt F) (arg8.view.writes (Elt F) f (stores v)) = blkOf v := by
  funext y
  refine View.read_writes_apply_of_pieces _ _ _ _ ?_ y ?_
  · intro p hp
    unfold stores at hp
    simp only [List.mem_cons, List.not_mem_nil, or_false] at hp
    rcases hp with rfl | rfl | rfl | rfl | rfl | rfl | rfl | rfl <;> intro x
    · exact (head7 v x).trans (headOf_fits v 7 896 rfl inb_S1x64x1024_S1x64x128_0_0_896 x)
    · exact (head6 v x).trans (headOf_fits v 6 768 rfl inb_S1x64x1024_S1x64x128_0_0_768 x)
    · exact (head5 v x).trans (headOf_fits v 5 640 rfl inb_S1x64x1024_S1x64x128_0_0_640 x)
    · exact (head4 v x).trans (headOf_fits v 4 512 rfl inb_S1x64x1024_S1x64x128_0_0_512 x)
    · exact (head3 v x).trans (headOf_fits v 3 384 rfl inb_S1x64x1024_S1x64x128_0_0_384 x)
    · exact (head2 v x).trans (headOf_fits v 2 256 rfl inb_S1x64x1024_S1x64x128_0_0_256 x)
    · exact (head1 v x).trans (headOf_fits v 1 128 rfl inb_S1x64x1024_S1x64x128_0_0_128 x)
    · exact headOf_fits v 0 0 rfl inb_S1x64x1024_S1x64x128_0_0_0 x
  · exact View.cover_of_tiled (stores v) ![1, 64, 128] (by rfl) y

/-! ### The loads of whole buffers, and the loops that make no trip -/

theorem st3_none (a1 v23 v28 z v30) (v25) (X4) (X10) (init) :
    st_k0_t3 (F := F) Variants.none c none i arg2 harg2 arg3 harg3 arg4 harg4 arg5 harg5 arg6 harg6 arg7 harg7 arg8 harg8 arg9 harg9 arg10 harg10 a1 v23 v25 v28 z v30 X4 X10 init (Scf.trips (k0_t3_loop i).lb (k0_t3_loop i).ub (k0_t3_loop i).st) = (init, []) := by
  rw [show Scf.trips (k0_t3_loop i).lb (k0_t3_loop i).ub (k0_t3_loop i).st = 0 from trips_t3 i]
  rfl

theorem st5_none (v23 v26 v36 v37 v47 v51 v71) (X6) (X9) (init) :
    st_k0_t5 (F := F) Variants.none c none i arg2 harg2 arg3 harg3 arg4 harg4 arg5 harg5 arg6 harg6 arg7 harg7 arg8 harg8 arg9 harg9 arg10 harg10 v23 v26 v36 v37 v47 v51 v71 X6 X9 init (Scf.trips (k0_t5_loop i).lb (k0_t5_loop i).ub (k0_t5_loop i).st) = init := by
  rw [show Scf.trips (k0_t5_loop i).lb (k0_t5_loop i).ub (k0_t5_loop i).st = 0 from trips_t5 i]
  rfl

/-- The tile's output rows as the body computes them: from the loops' states to the one-tile functions. -/
theorem tile_rows (v23 v30 v37 : BitVec 32) (h23 : v23 = nWord i)
    (x2 : Vec F S1x1x1x512x128 .fp8e4m3) (x3 : Vec F S1x1x1x1x512 .f32) (x7 : Vec F S1x1x1x128 .f32)
    (X4 : BufTy.Contents (Elt F) arg4.view.ty) (X6 : BufTy.Contents (Elt F) arg6.view.ty)
    (X10 : BufTy.Contents (Elt F) arg10.view.ty) (G : BufTy.Contents (Elt F) arg9.view.ty)
    (raw : FVec F S256x512 .f32) (hraw : raw = rawLast i x2 (arg4.view.read (Elt F) X4) (arg10.view.read (Elt F) X10)) (inb)
    (S2 : FVec F S8x512 .f32 × List (View.Piece (Elt F) S12288x512 .f32))
    (hS2 : S2 = st_k0_t2 (F := F) Variants.none c none i arg2 harg2 arg3 harg3 arg4 harg4 arg5 harg5 arg6 harg6 arg7 harg7 arg8 harg8 arg9 harg9 arg10 harg10 (BitVec.ofNat 32 (i 1).val) v23 (k0_pay3 x2) k0_pay5 (0#32) v30 X4 X10 k0_pay5 (Scf.trips (k0_t2_loop i).lb (k0_t2_loop i).ub (k0_t2_loop i).st))
    (S3 : FVec F S8x512 .f32 × List (View.Piece (Elt F) S12288x512 .f32))
    (hS3 : S3 = st_k0_t3 (F := F) Variants.none c none i arg2 harg2 arg3 harg3 arg4 harg4 arg5 harg5 arg6 harg6 arg7 harg7 arg8 harg8 arg9 harg9 arg10 harg10 (BitVec.ofNat 32 (i 1).val) v23 (k0_pay3 x2) k0_pay5 (0#32) v30 X4 X10 S2.1 (Scf.trips (k0_t3_loop i).lb (k0_t3_loop i).ub (k0_t3_loop i).st))
    (X9 : BufTy.Contents (Elt F) arg9.view.ty)
    (hX9 : X9 = arg9.view.writes (Elt F) G (⟨Rect.unit (s := S12288x512) (k0_off11 i) S256x512.size inb, k0_pay16 raw (k0_pay13 v23) (k0_pay14 (BitVec.ofNat 32 (i 1).val))⟩ :: (S3.2 ++ S2.2)))
    (S4 : FVec F S8x512 .f32 × FVec F S128x512 .f32)
    (hS4 : S4 = st_k0_t4 (F := F) Variants.none c none i arg2 harg2 arg3 harg3 arg4 harg4 arg5 harg5 arg6 harg6 arg7 harg7 arg8 harg8 arg9 harg9 arg10 harg10 v23 (k0_pay4 x3) S3.1 v37 raw (k0_pay13 v23) (k0_pay14 (BitVec.ofNat 32 (i 1).val)) X6 X9 (k0_pay18, k0_pay19) (Scf.trips (k0_t4_loop i).lb (k0_t4_loop i).ub (k0_t4_loop i).st))
    (S5 : FVec F S8x512 .f32 × FVec F S128x512 .f32)
    (hS5 : S5 = st_k0_t5 (F := F) Variants.none c none i arg2 harg2 arg3 harg3 arg4 harg4 arg5 harg5 arg6 harg6 arg7 harg7 arg8 harg8 arg9 harg9 arg10 harg10 v23 (k0_pay4 x3) S3.1 v37 raw (k0_pay13 v23) (k0_pay14 (BitVec.ofNat 32 (i 1).val)) X6 X9 S4 (Scf.trips (k0_t5_loop i).lb (k0_t5_loop i).ub (k0_t5_loop i).st)) :
    k0_pay26 S5.1 S5.2 x7 = outRows i x2 x3 (arg4.view.read (Elt F) X4) (arg10.view.read (Elt F) X10) (arg6.view.read (Elt F) X6) x7 := by
  rw [st3_none] at hS3
  rw [st5_none] at hS5
  have h2 : S2.1 = mx x2 (arg4.view.read (Elt F) X4) (arg10.view.read (Elt F) X10) (lastC i) := by
    rw [hS2, ← trips_t2 i]
    exact (state2 c i arg2 harg2 arg3 harg3 arg4 harg4 arg5 harg5 arg6 harg6 arg7 harg7 arg8 harg8 arg9 harg9 arg10 harg10 (BitVec.ofNat 32 (i 1).val) v23 (0#32) v30 x2 k0_pay5 X4 X10 (k0_t2_loop i).trips le_rfl).1
  have h9 : ∀ y : S12288x512.Idx, (y 0).val < 256 * (lastC i + 1) →
      arg9.view.read (Elt F) X9 y = scoreFull i x2 (arg4.view.read (Elt F) X4) (arg10.view.read (Elt F) X10) y := by
    intro y hy
    rw [hX9, hS3, hraw, h23, hS2]
    exact read_scores c i arg2 harg2 arg3 harg3 arg4 harg4 arg5 harg5 arg6 harg6 arg7 harg7 arg8 harg8 arg9 harg9 arg10 harg10 (BitVec.ofNat 32 (i 1).val) v23 (0#32) v30 x2 k0_pay5 X4 X10 G inb y hy
  have h4 : S4 = sums i x2 x3 (arg4.view.read (Elt F) X4) (arg10.view.read (Elt F) X10) (arg6.view.read (Elt F) X6) (lastC i + 1) := by
    rw [hS4, hS3, hraw]
    show st_k0_t4 (F := F) Variants.none c none i arg2 harg2 arg3 harg3 arg4 harg4 arg5 harg5 arg6 harg6 arg7 harg7 arg8 harg8 arg9 harg9 arg10 harg10 v23 (k0_pay4 x3) S2.1 v37 _ _ _ X6 X9 _ (k0_t4_loop i).trips = _
    rw [h2, h23, trips_t4]
    exact state4 c i arg2 harg2 arg3 harg3 arg4 harg4 arg5 harg5 arg6 harg6 arg7 harg7 arg8 harg8 arg9 harg9 arg10 harg10 (nWord i) v37 x2 x3 _ _ X6 X9 h9 (lastC i + 1) (trips_t4 i).ge
  rw [hS5, h4]
  rfl

theorem chunksB (i : grid0.Coords) : runB.sl.v23 i = nWord i := by
  have h : ∀ n : Fin 192, runB.sl.v23 (atTile n) = nWord (atTile n) := by decide +kernel
  exact h (i 1)

/-- The rows that the run at a later tile stores. -/
theorem rowsB
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    runB.sl.r_6 c i arg2 harg2 arg3 harg3 arg4 harg4 arg5 harg5 arg6 harg6 arg7 harg7 arg8 harg8 arg9 harg9 arg10 harg10 x2 x3 x4 x6 x7 x9 x10 = outRows i x2 x3 x4 x10 x6 x7 := by
  have e2 : runB.sl.r c arg2 harg2 x2 = k0_pay3 x2 := by
    unfold runB.sl.r
    rw [View.readAt_full, harg2.read_unread]
  have e3 : runB.sl.r_1 c arg3 harg3 x3 = k0_pay4 x3 := by
    unfold runB.sl.r_1
    rw [View.readAt_full, harg3.read_unread]
  have eraw : runB.sl.r_3 c i arg2 harg2 arg4 harg4 arg10 harg10 x2 x4 x10 = rawLast i x2 (arg4.view.read (Elt F) (harg4.unread x4)) (arg10.view.read (Elt F) (harg10.unread x10)) := by
    have ho : 256 * ((64 * (i 1).val + 319) / 256) - 256 = 256 * lastC i := by unfold lastC; omega
    unfold runB.sl.r_3
    rw [e2, read_k arg4 _ ⟨lastC i, lastC_lt i⟩ _ (by rw [k0_off9_eq, ho]), read_s arg10 _ ⟨lastC i, lastC_lt i⟩ _ (by rw [k0_off10_eq, ho])]
    rfl
  have key := tile_rows c i arg2 harg2 arg3 harg3 arg4 harg4 arg5 harg5 arg6 harg6 arg7 harg7 arg8 harg8 arg9 harg9 arg10 harg10 (runB.sl.v23 i) (runB.sl.v30 i) (runB.sl.v37 i) (chunksB i) x2 x3 x7 (harg4.unread x4) (harg6.unread x6) (harg10.unread x10) (harg9.unread x9)
    (runB.sl.r_3 c i arg2 harg2 arg4 harg4 arg10 harg10 x2 x4 x10) eraw (k0_off11_inb i) _ rfl _ rfl _ rfl _ rfl _ rfl
  rw [harg4.read_unread, harg6.read_unread, harg10.read_unread] at key
  rw [← key]
  unfold runB.sl.r_6 runB.sl.r_2 runB.sl.r_4 runB.sl.r_5
  rw [e2, e3, View.readAt_full, harg7.read_unread]

theorem chunksA (i : grid0.Coords) : runA.sl.v23 i = nWord i := by
  have h : ∀ n : Fin 192, runA.sl.v23 (atTile n) = nWord (atTile n) := by decide +kernel
  exact h (i 1)

/-- The rows that the run at a head's first tile stores. -/
theorem rowsA (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    runA.sl.r_6 c i arg2 harg2 arg3 harg3 arg4 harg4 arg5 harg5 arg6 harg6 arg7 harg7 arg8 harg8 arg9 harg9 arg10 harg10 hc x2 x3 x4 x5 x6 x7 x9 x10 = outRows i x2 x3 x4 (ksFull x5) x6 x7 := by
  have e2 : runA.sl.r c arg2 harg2 x2 = k0_pay3 x2 := by
    unfold runA.sl.r
    rw [View.readAt_full, harg2.read_unread]
  have e3 : runA.sl.r_1 c arg3 harg3 x3 = k0_pay4 x3 := by
    unfold runA.sl.r_1
    rw [View.readAt_full, harg3.read_unread]
  have eraw : runA.sl.r_3 c i arg2 harg2 arg3 harg3 arg4 harg4 arg5 harg5 arg6 harg6 arg7 harg7 arg8 harg8 arg9 harg9 arg10 harg10 hc x2 x4 x5 x10 = rawLast i x2 (arg4.view.read (Elt F) (harg4.unread x4)) (arg10.view.read (Elt F) (arg10.view.writes (Elt F) (harg10.unread x10) (pb_k0_t1 (F := F) Variants.none c none i arg2 harg2 arg3 harg3 arg4 harg4 arg5 harg5 arg6 harg6 arg7 harg7 arg8 harg8 arg9 harg9 arg10 harg10 hc (harg5.unread x5) k0_t1_loop.trips))) := by
    have ho : 256 * ((64 * (i 1).val + 319) / 256) - 256 = 256 * lastC i := by unfold lastC; omega
    unfold runA.sl.r_3
    rw [e2, read_k arg4 _ ⟨lastC i, lastC_lt i⟩ _ (by rw [k0_off9_eq, ho]), read_s arg10 _ ⟨lastC i, lastC_lt i⟩ _ (by rw [k0_off10_eq, ho])]
    rfl
  have key := tile_rows c i arg2 harg2 arg3 harg3 arg4 harg4 arg5 harg5 arg6 harg6 arg7 harg7 arg8 harg8 arg9 harg9 arg10 harg10 (runA.sl.v23 i) (runA.sl.v30 i) (runA.sl.v37 i) (chunksA i) x2 x3 x7 (harg4.unread x4) (harg6.unread x6) (arg10.view.writes (Elt F) (harg10.unread x10) (pb_k0_t1 (F := F) Variants.none c none i arg2 harg2 arg3 harg3 arg4 harg4 arg5 harg5 arg6 harg6 arg7 harg7 arg8 harg8 arg9 harg9 arg10 harg10 hc (harg5.unread x5) k0_t1_loop.trips)) (harg9.unread x9)
    (runA.sl.r_3 c i arg2 harg2 arg3 harg3 arg4 harg4 arg5 harg5 arg6 harg6 arg7 harg7 arg8 harg8 arg9 harg9 arg10 harg10 hc x2 x4 x5 x10) eraw (k0_off11_inb i) _ rfl _ rfl _ rfl _ rfl _ rfl
  rw [harg4.read_unread, harg6.read_unread, read_ksFull c i arg2 harg2 arg3 harg3 arg4 harg4 arg5 harg5 arg6 harg6 arg7 harg7 arg8 harg8 arg9 harg9 arg10 harg10 hc, harg5.read_unread] at key
  rw [← key]
  unfold runA.sl.r_6 runA.sl.r_2 runA.sl.r_4 runA.sl.r_5
  rw [e2, e3, View.readAt_full, harg7.read_unread]

theorem outBlk_eq (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) (x7 : Vec F S1x1x1x128 .f32) : outBlk i x2 x3 x4 x10 x6 x7 = blkOf (outRows i x2 x3 x4 x10 x6 x7) := rfl

/-- The block after the run at a later tile. -/
theorem runB_block (hc : ¬ k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) (f : BufTy.Contents (Elt F) arg8.view.ty) :
    arg8.view.read (Elt F) (arg8.view.writes (Elt F) f (runB c i arg2 harg2 arg3 harg3 arg4 harg4 arg5 harg5 arg6 harg6 arg7 harg7 arg8 harg8 arg9 harg9 arg10 harg10 hc x2 x3 x4 x5 x6 x7 x9 x10).2.1) = outBlk i x2 x3 x4 x10 x6 x7 := by
  have e := rowsB c i arg2 harg2 arg3 harg3 arg4 harg4 arg5 harg5 arg6 harg6 arg7 harg7 arg8 harg8 arg9 harg9 arg10 harg10 x2 x3 x4 x5 x6 x7 x9 x10
  rw [outBlk_eq, ← e, ← read_stores arg8]
  refine congrArg (fun L => arg8.view.read (Elt F) (arg8.view.writes (Elt F) f L)) ?_
  have p0 : runB.sl.r_7 c i arg2 harg2 arg3 harg3 arg4 harg4 arg5 harg5 arg6 harg6 arg7 harg7 arg8 harg8 arg9 harg9 arg10 harg10 x2 x3 x4 x6 x7 x9 x10 = headOf (runB.sl.r_6 c i arg2 harg2 arg3 harg3 arg4 harg4 arg5 harg5 arg6 harg6 arg7 harg7 arg8 harg8 arg9 harg9 arg10 harg10 x2 x3 x4 x6 x7 x9 x10) 0 := funext (head0 _ _ _)
  unfold runB stores
  dsimp only
  rw [p0]
  rfl

/-- The block after the run at a head's first tile. -/
theorem runA_block (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) (f : BufTy.Contents (Elt F) arg8.view.ty) :
    arg8.view.read (Elt F) (arg8.view.writes (Elt F) f (runA c i arg2 harg2 arg3 harg3 arg4 harg4 arg5 harg5 arg6 harg6 arg7 harg7 arg8 harg8 arg9 harg9 arg10 harg10 hc x2 x3 x4 x5 x6 x7 x9 x10).2.2.1) = outBlk i x2 x3 x4 (ksFull x5) x6 x7 := by
  have e := rowsA c i arg2 harg2 arg3 harg3 arg4 harg4 arg5 harg5 arg6 harg6 arg7 harg7 arg8 harg8 arg9 harg9 arg10 harg10 hc x2 x3 x4 x5 x6 x7 x9 x10
  rw [outBlk_eq, ← e, ← read_stores arg8]
  refine congrArg (fun L => arg8.view.read (Elt F) (arg8.view.writes (Elt F) f L)) ?_
  have p0 : runA.sl.r_7 c i arg2 harg2 arg3 harg3 arg4 harg4 arg5 harg5 arg6 harg6 arg7 harg7 arg8 harg8 arg9 harg9 arg10 harg10 hc x2 x3 x4 x5 x6 x7 x9 x10 = headOf (runA.sl.r_6 c i arg2 harg2 arg3 harg3 arg4 harg4 arg5 harg5 arg6 harg6 arg7 harg7 arg8 harg8 arg9 harg9 arg10 harg10 hc x2 x3 x4 x5 x6 x7 x9 x10) 0 := funext (head0 _ _ _)
  unfold runA stores
  dsimp only
  rw [p0]
  rfl

/-- The scale scratch after the run at a head's first tile. -/
theorem runA_scales (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    arg10.view.read (Elt F) (arg10.view.writes (Elt F) (harg10.unread x10) (runA c i arg2 harg2 arg3 harg3 arg4 harg4 arg5 harg5 arg6 harg6 arg7 harg7 arg8 harg8 arg9 harg9 arg10 harg10 hc x2 x3 x4 x5 x6 x7 x9 x10).2.1) = ksFull x5 := by
  have e := read_ksFull c i arg2 harg2 arg3 harg3 arg4 harg4 arg5 harg5 arg6 harg6 arg7 harg7 arg8 harg8 arg9 harg9 arg10 harg10 hc (harg5.unread x5) (harg10.unread x10)
  rw [harg5.read_unread] at e
  exact e

end Cert.Kernel.Attn
-- ==== Proof.Word.Launch.lean ====
/- The launch: what each grid point finds and leaves in its buffers. The score scratch may hold anything between two
   points; the scale scratch holds, after a point, the scales of that point's head, which the next point of the same
   head reads. -/
module

public import proofs.«01_k».proof.Proof.Word.Out
public import proofs.«01_k».proof.Proof.Gen.Kernel.Launch
public import proofs.«01_k».proof.Proof.Gen.Kernel.Points
public import Idealize.ShloMosaic.Lib.Claim

@[expose] public section

set_option maxRecDepth 16384

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The grid -/

/-- The scale scratch is filled at the first tile of each head. -/
theorem cond1_iff : ∀ t : Fin cfg0.N, k0_cond1 (grid0.coords t) = 1#1 ↔ t.val % 192 = 0 :=
  (by decide +kernel : ∀ t : Fin grid0.N, k0_cond1 (grid0.coords t) = 1#1 ↔ t.val % 192 = 0)

theorem index3 : ∀ t : Fin cfg0.N, win0_3.index t = ![t.val / 1536, t.val / 192 % 8, 0, 0] :=
  (by decide +kernel : ∀ t : Fin grid0.N, win0_3.index t = ![t.val / 1536, t.val / 192 % 8, 0, 0])

/-- Two points of one head read the same key scales. -/
theorem scales_same (c : Dev nD) (t t' : Fin cfg0.N) (h : t.val / 192 = t'.val / 192) : iblk m c 3 t = iblk m c 3 t' := by
  have e : win0_3.index t = win0_3.index t' := by
    rw [index3, index3, show t.val / 1536 = t'.val / 1536 by omega, h]
  funext y
  refine congrArg (V m c main_v3) (funext fun a => Fin.ext ?_)
  show win0_3.index t a * win0_3.block.size a + 1 * (y a).val = win0_3.index t' a * win0_3.block.size a + 1 * (y a).val
  rw [e]

/-! ### The invariant -/

/-- The scale scratch after point `t`. -/
def scalesAt (c : Dev nD) (t : Fin cfg0.N) : Vec F S12288x128 .f32 := ksFull (iblk m c 3 t)

/-- Before the first point the scratches hold anything; after point `n` the scale scratch holds its head's scales. -/
def PhiS (c : Dev nD) : (n : ℕ) → n ≤ cfg0.N → sProp 𝕄
  | 0, _ => Pipeline.ΦA spec0 c
  | n + 1, hn => iprop(((∃ x, owns (c : Thread nD τ) (Memref.whole cc0_scratch0) fullShare x)
      ∗ owns (c : Thread nD τ) (Memref.whole cc0_scratch1) fullShare (scalesAt m c ⟨n, hn⟩)) ∗ ∃ r, prngReg c r)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(((∃ x, owns (c : Thread nD τ) (Memref.whole cc0_scratch0) fullShare x)
      ∗ owns (c : Thread nD τ) (Memref.whole cc0_scratch1) fullShare (scalesAt m c ⟨n, hn⟩)) ∗ ∃ r, prngReg c r) := rfl

theorem PhiS_pos (c : Dev nD) (n : ℕ) (h : n ≤ cfg0.N) (hz : n ≠ 0) :
    PhiS m c n h = iprop(((∃ x, owns (c : Thread nD τ) (Memref.whole cc0_scratch0) fullShare x)
      ∗ owns (c : Thread nD τ) (Memref.whole cc0_scratch1) fullShare (scalesAt m c ⟨n - 1, by omega⟩)) ∗ ∃ r, prngReg c r) := by
  obtain ⟨n, rfl⟩ := Nat.exists_eq_succ_of_ne_zero hz
  rfl

theorem PhiA_eq (c : Dev nD) : (Pipeline.ΦA spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

/-- At any position the scratches hold something. -/
theorem PhiS_any (c : Dev nD) (n : ℕ) (h : n ≤ cfg0.N) :
    PhiS m c n h ⊢ iprop(((∃ x, owns (c : Thread nD τ) (Memref.whole cc0_scratch0) fullShare x)
      ∗ (∃ x, owns (c : Thread nD τ) (Memref.whole cc0_scratch1) fullShare x)) ∗ ∃ r, prngReg c r) := by
  by_cases hz : n = 0
  · rw [PhiS_zero m c n h hz, PhiA_eq]
    iintro ⟨⟨⟨%f0, H0⟩, ⟨%f1, H1⟩⟩, Hg⟩
    isplitr [Hg]; swap; · iexact Hg
    isplitl [H0]
    · iexists f0; rw [owns_whole]; iexact H0
    · iexists f1; rw [owns_whole]; iexact H1
  · rw [PhiS_pos m c n h hz]
    iintro ⟨⟨H0, H1⟩, Hg⟩
    isplitr [Hg]; swap; · iexact Hg
    isplitl [H0]; · iexact H0
    iexists _; iexact H1

/-! ### The proof data -/

/-- An input's buffer is left holding its block, the result's holds the tile's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (scalesAt m c t) (iblk m c 4 t) (iblk m c 5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (grid0.coords t) (iblk m c 0 t) (iblk m c 1 t) (iblk m c 2 t) (scalesAt m c t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-! ### The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point, in its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    show (dats m 0 c).owesAt () t.succ = (dats m 0 c).owesAt () t.castSucc from rfl,
    after0_0, after0_1, after0_2, after0_3, after0_4, after0_5, after0_6, PhiS_castSucc m c t]
  by_cases hc : k0_cond1 (grid0.coords t) = 1#1
  · refine (sep_mono (PhiS_any m c _ _) .rfl).trans ?_
    iintro ⟨⟨⟨⟨%x9, HS0⟩, ⟨%x10, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ hc (iblk m c 0 t) (iblk m c 1 t) (iblk m c 2 t) (iblk m c 3 t) (iblk m c 4 t) (iblk m c 5 t) x9 x10).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f, H6⟩, HS0, HS1⟩
    isplitl [Hg HS0 HS1]
    · isplitr [Hg]; swap; · iexact Hg
      isplitl [HS0]
      · iexists _; unfold owns; iexists _; isplitr; swap; · iexact HS0
        ipureintro; rfl
      · unfold owns; iexists _; isplitr; swap; · iexact HS1
        ipureintro; exact runA_scales _ _ _ _ _ _ _ _ _ _ _ _ _ _ _ _ _ _ _ _ hc _ _ _ _ _ _ _ _
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; exact runA_block _ _ _ _ _ _ _ _ _ _ _ _ _ _ _ _ _ _ _ _ hc _ _ _ _ _ _ _ _ _
  · have hz : t.val ≠ 0 := fun h => hc ((cond1_iff t).mpr (by rw [h]))
    have hm : t.val % 192 ≠ 0 := fun h => hc ((cond1_iff t).mpr h)
    have hs : scalesAt m c ⟨t.val - 1, by omega⟩ = scalesAt m c t :=
      congrArg ksFull (scales_same m c _ t (by show (t.val - 1) / 192 = _; omega))
    rw [PhiS_pos m c _ _ hz, hs]
    iintro ⟨⟨⟨⟨%x9, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ _ _ hc (iblk m c 0 t) (iblk m c 1 t) (iblk m c 2 t) (iblk m c 3 t) (iblk m c 4 t) (iblk m c 5 t) x9 (scalesAt m c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f, H6⟩, HS0, HS1⟩
    isplitl [Hg HS0 HS1]
    · isplitr [Hg]; swap; · iexact Hg
      isplitl [HS0]
      · iexists _; unfold owns; iexists _; isplitr; swap; · iexact HS0
        ipureintro; rfl
      · iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; exact runB_block _ _ _ _ _ _ _ _ _ _ _ _ _ _ _ _ _ _ _ _ hc _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  refine (PhiS_any m c _ _).trans ?_
  rw [PhiA_eq]
  simp only [owns_whole]
  iintro ⟨⟨⟨%x0, H0⟩, ⟨%x1, H1⟩⟩, Hg⟩
  isplitr [Hg]; swap; · iexact Hg
  isplitl [H0]
  · iexists x0; iexact H0
  · iexists x1; iexact H1

set_option backward.isDefEq.respectTransparency.types false in
set_option maxHeartbeats 800000 in
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame, at any interpretation of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Attn
-- ==== Proof.Body.Block.lean ====
/- What one grid point of the attention kernel computes, as plain functions of the blocks it reads: the key chunks, the
   chunk of scaled scores, the running maximum, the running sums and the block of the result. And how many chunks of
   256 keys the query tile `i` visits. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.PointwiseCore

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The chunk of keys that the last query of the tile lies in: the last chunk visited, the one that is masked. -/
def lastC (i : grid0.Coords) : ℕ := (i 1).val / 4

theorem i1_lt (i : grid0.Coords) : (i 1).val < 192 := (i 1).isLt

theorem lastC_lt (i : grid0.Coords) : lastC i < 48 := by have := i1_lt i; unfold lastC; omega

/-- The coordinates of query tile `n` of head 0: the trip counts depend on the tile only. -/
def atTile (n : Fin 192) : grid0.Coords := Fin.cons (0 : Fin 16) (Fin.cons n finZeroElim)

theorem trips_t1 : k0_t1_loop.trips = 96 := by decide +kernel

theorem trips_t2 (i : grid0.Coords) : (k0_t2_loop i).trips = lastC i := by
  have h : ∀ n : Fin 192, (k0_t2_loop (atTile n)).trips = n.val / 4 := by decide +kernel
  exact h (i 1)

theorem trips_t3 (i : grid0.Coords) : (k0_t3_loop i).trips = 0 := by
  have h : ∀ n : Fin 192, (k0_t3_loop (atTile n)).trips = 0 := by decide +kernel
  exact h (i 1)

theorem trips_t4 (i : grid0.Coords) : (k0_t4_loop i).trips = lastC i + 1 := by
  have h : ∀ n : Fin 192, (k0_t4_loop (atTile n)).trips = n.val / 4 + 1 := by decide +kernel
  exact h (i 1)

theorem trips_t5 (i : grid0.Coords) : (k0_t5_loop i).trips = 0 := by
  have h : ∀ n : Fin 192, (k0_t5_loop (atTile n)).trips = 0 := by decide +kernel
  exact h (i 1)

/-- Chunk `k` of 256 keys, of a head's key codes. -/
def kBlock (x4 : Vec F S1x1x12288x128 .fp8e4m3) (k : Fin 48) : Vec F S1x1x256x128 .fp8e4m3 :=
  fun y => x4 (ix4 0 0 ⟨256 * k.val + (y 2).val, by have := (y 2).isLt; change (y 2).val < 256 at this; omega⟩ (y 3))

/-- The rows of chunk `k` of the scratch that holds each key's scale, repeated over 128 lanes. -/
def sBlock (x10 : Vec F S12288x128 .f32) (k : Fin 48) : Vec F S256x128 .f32 :=
  fun y => x10 (ix2 ⟨256 * k.val + (y 0).val, by have := (y 0).isLt; change (y 0).val < 256 at this; omega⟩ (y 1))

/-- Chunk `k` of 256 keys, of a head's transposed value codes. -/
def vBlock (x6 : Vec F S1x1x128x12288 .fp8e4m3) (k : Fin 48) : Vec F S1x1x128x256 .fp8e4m3 :=
  fun y => x6 (ix4 0 0 (y 2) ⟨256 * k.val + (y 3).val, by have := (y 3).isLt; change (y 3).val < 256 at this; omega⟩)

/-- The rows of chunk `k` of the score scratch. -/
def aBlock (x9 : Vec F S12288x512 .f32) (k : Fin 48) : Vec F S256x512 .f32 :=
  fun y => x9 (ix2 ⟨256 * k.val + (y 0).val, by have := (y 0).isLt; change (y 0).val < 256 at this; omega⟩ (y 1))

/-- Row `k` of the 96 rows of 128 key scales. -/
def ksRow (x5 : Vec F S1x1x96x128 .f32) (k : Fin 96) : Vec F S1x1x1x128 .f32 :=
  fun y => x5 (ix4 0 0 k (y 3))

/-- The scale scratch filled: key `t`'s scale times the score scale, on every lane of row `t`. -/
def ksFull (x5 : Vec F S1x1x96x128 .f32) : Vec F S12288x128 .f32 :=
  fun y => k0_pay2 (ksRow x5 ⟨(y 0).val / 128, by have := (y 0).isLt; change (y 0).val < 12288 at this; omega⟩)
    (ix2 ⟨(y 0).val % 128, Nat.mod_lt _ (by omega)⟩ (y 1))

/-- The number of chunks the tile visits, as the 32-bit word the kernel computes. -/
def nWord (i : grid0.Coords) : BitVec 32 := BitVec.ofNat 32 (lastC i + 1)

/-- The running maximum over the first `k` chunks, in the 8 rows that a chunk's maxima are kept in. -/
def mx (x2 : Vec F S1x1x1x512x128 .fp8e4m3) (x4 : Vec F S1x1x12288x128 .fp8e4m3) (x10 : Vec F S12288x128 .f32) : ℕ → FVec F S8x512 .f32
  | 0 => k0_pay5
  | k + 1 => if h : k < 48 then k0_pay8 (k0_pay3 x2) (mx x2 x4 x10 k) (kBlock x4 ⟨k, h⟩) (sBlock x10 ⟨k, h⟩) else mx x2 x4 x10 k

/-- The last chunk's scores before the mask. -/
def rawLast (i : grid0.Coords) (x2 : Vec F S1x1x1x512x128 .fp8e4m3) (x4 : Vec F S1x1x12288x128 .fp8e4m3) (x10 : Vec F S12288x128 .f32) : FVec F S256x512 .f32 :=
  k0_pay12 (k0_pay3 x2) (kBlock x4 ⟨lastC i, lastC_lt i⟩) (sBlock x10 ⟨lastC i, lastC_lt i⟩)

/-- Chunk `j`'s scores as the score scratch holds them: the last one masked. -/
def score (i : grid0.Coords) (x2 : Vec F S1x1x1x512x128 .fp8e4m3) (x4 : Vec F S1x1x12288x128 .fp8e4m3) (x10 : Vec F S12288x128 .f32) (j : Fin 48) : FVec F S256x512 .f32 :=
  if j.val = lastC i then k0_pay16 (rawLast i x2 x4 x10) (k0_pay13 (nWord i)) (k0_pay14 (BitVec.ofNat 32 (i 1).val))
  else k0_pay7 (k0_pay3 x2) (kBlock x4 j) (sBlock x10 j)

/-- The two running sums over the first `k` chunks: of the weights, and of the weighted values. -/
def sums (i : grid0.Coords) (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) : ℕ → FVec F S8x512 .f32 × FVec F S128x512 .f32
  | 0 => (k0_pay18, k0_pay19)
  | k + 1 => if h : k < 48 then
      (k0_pay21 (k0_pay4 x3) (mx x2 x4 x10 (lastC i)) (rawLast i x2 x4 x10) (k0_pay13 (nWord i)) (k0_pay14 (BitVec.ofNat 32 (i 1).val)) (sums i x2 x3 x4 x10 x6 k).1 (score i x2 x4 x10 ⟨k, h⟩),
       k0_pay22 (k0_pay4 x3) (mx x2 x4 x10 (lastC i)) (rawLast i x2 x4 x10) (k0_pay13 (nWord i)) (k0_pay14 (BitVec.ofNat 32 (i 1).val)) (sums i x2 x3 x4 x10 x6 k).2 (score i x2 x4 x10 ⟨k, h⟩) (vBlock x6 ⟨k, h⟩))
      else sums i x2 x3 x4 x10 x6 k

/-- The tile's output rows, the 8 query heads of the group one after another. -/
def outRows (i : grid0.Coords) (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) (x7 : Vec F S1x1x1x128 .f32) : FVec F S512x128 .f32 :=
  k0_pay26 (sums i x2 x3 x4 x10 x6 (lastC i + 1)).1 (sums i x2 x3 x4 x10 x6 (lastC i + 1)).2 x7

/-- The block of the result: rounded, and the 8 heads side by side. -/
def outBlk (i : grid0.Coords) (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) (x7 : Vec F S1x1x1x128 .f32) : FVec F S1x64x1024 .bf16 :=
  fun y => truncf .bf16 (outRows i x2 x3 x4 x10 x6 x7) bitsLt_bf16_f32
    (ix2 ⟨64 * ((y 2).val / 128) + (y 1).val, by
      have h1 := (y 1).isLt; have h2 := (y 2).isLt; change (y 1).val < 64 at h1; change (y 2).val < 1024 at h2; omega⟩
      ⟨(y 2).val % 128, Nat.mod_lt _ (by omega)⟩)

end Cert.KernelIdeal.Attn
-- ==== Proof.Body.Scales.lean ====
/- The kernel's counted loops, trip by trip: what each trip reads, yields and stores, and so what the loops carry and
   leave behind, in the terms of the one-tile functions. -/
module

public import proofs.«01_k».proof.Proof.Body.Block
public import Idealize.ShloMosaic.Lib.VecWindow

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

/-! ### What the loads read -/

omit [FloatOps F] [Named F] in
theorem read_k (X : BufTy.Contents (Elt F) arg4.view.ty) (k : Fin 48) (off : Fin 4 → ℕ) (h : off = ![0, 0, 256 * k.val, 0]) (inb) :
    arg4.view.readAt (Elt F) (Rect.unit (s := S1x1x12288x128) off S1x1x256x128.size inb).toLoadRect X
      = kBlock (arg4.view.read (Elt F) X) k := by
  subst h
  funext y
  refine congrArg (arg4.view.read (Elt F) X) (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show 256 * k.val + 1 * (y 2).val = 256 * k.val + (y 2).val; omega
  | ⟨3, _⟩ => show 0 + 1 * (y 3).val = (y 3).val; omega

omit [FloatOps F] [Named F] in
theorem read_s (X : BufTy.Contents (Elt F) arg10.view.ty) (k : Fin 48) (off : Fin 2 → ℕ) (h : off = ![256 * k.val, 0]) (inb) :
    arg10.view.readAt (Elt F) (Rect.unit (s := S12288x128) off S256x128.size inb).toLoadRect X
      = sBlock (arg10.view.read (Elt F) X) k := by
  subst h
  funext y
  refine congrArg (arg10.view.read (Elt F) X) (funext fun a => Fin.ext ?_)
  match a with
  | ⟨0, _⟩ => show 256 * k.val + 1 * (y 0).val = 256 * k.val + (y 0).val; omega
  | ⟨1, _⟩ => show 0 + 1 * (y 1).val = (y 1).val; omega

omit [FloatOps F] [Named F] in
theorem read_a (X : BufTy.Contents (Elt F) arg9.view.ty) (k : Fin 48) (off : Fin 2 → ℕ) (h : off = ![256 * k.val, 0]) (inb) :
    arg9.view.readAt (Elt F) (Rect.unit (s := S12288x512) off S256x512.size inb).toLoadRect X
      = aBlock (arg9.view.read (Elt F) X) k := by
  subst h
  funext y
  refine congrArg (arg9.view.read (Elt F) X) (funext fun a => Fin.ext ?_)
  match a with
  | ⟨0, _⟩ => show 256 * k.val + 1 * (y 0).val = 256 * k.val + (y 0).val; omega
  | ⟨1, _⟩ => show 0 + 1 * (y 1).val = (y 1).val; omega

omit [FloatOps F] [Named F] in
theorem read_v (X : BufTy.Contents (Elt F) arg6.view.ty) (k : Fin 48) (off : Fin 4 → ℕ) (h : off = ![0, 0, 0, 256 * k.val]) (inb) :
    arg6.view.readAt (Elt F) (Rect.unit (s := S1x1x128x12288) off S1x1x128x256.size inb).toLoadRect X
      = vBlock (arg6.view.read (Elt F) X) k := by
  subst h
  funext y
  refine congrArg (arg6.view.read (Elt F) X) (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show 0 + 1 * (y 2).val = (y 2).val; omega
  | ⟨3, _⟩ => show 256 * k.val + 1 * (y 3).val = 256 * k.val + (y 3).val; omega

omit [FloatOps F] [Named F] in
theorem read_ks (X : BufTy.Contents (Elt F) arg5.view.ty) (k : Fin 96) (off : Fin 4 → ℕ) (h : off = ![0, 0, k.val, 0]) (inb) :
    arg5.view.readAt (Elt F) (Rect.unit (s := S1x1x96x128) off S1x1x1x128.size inb).toLoadRect X
      = ksRow (arg5.view.read (Elt F) X) k := by
  subst h
  funext y
  refine congrArg (arg5.view.read (Elt F) X) (funext fun a => Fin.ext ?_)
  match a with
  | ⟨0, _⟩ => show 0 + 1 * (y 0).val = 0; have := (y 0).isLt; change (y 0).val < 1 at this; omega
  | ⟨1, _⟩ => show 0 + 1 * (y 1).val = 0; have := (y 1).isLt; change (y 1).val < 1 at this; omega
  | ⟨2, _⟩ => show k.val + 1 * (y 2).val = k.val; have := (y 2).isLt; change (y 2).val < 1 at this; omega
  | ⟨3, _⟩ => show 0 + 1 * (y 3).val = (y 3).val; omega

/-! ### The loop over the rows of key scales -/

/-- One trip stores one slab of 128 rows of the scale scratch. -/
theorem trip1 (h1 : k0_cond1 i = 1#1) (X5 : BufTy.Contents (Elt F) arg5.view.ty) (k : Fin k0_t1_loop.trips) (k' : Fin 96) (hk : k.val = k'.val) :
    tripL_k0_t1 (F := F) Variants.none c none i arg2 harg2 arg3 harg3 arg4 harg4 arg5 harg5 arg6 harg6 arg7 harg7 arg8 harg8 arg9 harg9 arg10 harg10 h1 X5 k
      = [⟨Rect.unit (s := S12288x128) (k0_off2 k) S128x128.size (k0_off2_inb i k h1), k0_pay2 (ksRow (arg5.view.read (Elt F) X5) k')⟩] := by
  unfold tripL_k0_t1 trip_k0_t1
  dsimp only
  rw [read_ks arg5 X5 k' _ (by rw [k0_off1_eq, hk])]

/-- A slab as stored is the filled scratch there. -/
theorem slab_fits (x5 : Vec F S1x1x96x128 .f32) (k : Fin 96) (off : Fin 2 → ℕ) (hoff : off = ![128 * k.val, 0]) (inb) (x : S128x128.Idx) :
    k0_pay2 (ksRow x5 k) x = ksFull x5 ((Rect.unit (s := S12288x128) off S128x128.size inb).emb x) := by
  subst hoff
  have hx0 : (x 0).val < 128 := (x 0).isLt
  unfold ksFull
  congr 1
  · congr 2
    refine Fin.ext ?_
    show k.val = (128 * k.val + 1 * (x 0).val) / 128
    omega
  · funext a
    match a with
    | ⟨0, _⟩ => exact Fin.ext (by show (x 0).val = (128 * k.val + 1 * (x 0).val) % 128; omega)
    | ⟨1, _⟩ => exact Fin.ext (by show (x 1).val = 0 + 1 * (x 1).val; omega)

/-- The scale scratch after the loop, whatever it held: filled. -/
theorem read_ksFull (h1 : k0_cond1 i = 1#1) (X5 : BufTy.Contents (Elt F) arg5.view.ty) (G : BufTy.Contents (Elt F) arg10.view.ty) :
    arg10.view.read (Elt F) (arg10.view.writes (Elt F) G (pb_k0_t1 (F := F) Variants.none c none i arg2 harg2 arg3 harg3 arg4 harg4 arg5 harg5 arg6 harg6 arg7 harg7 arg8 harg8 arg9 harg9 arg10 harg10 h1 X5 k0_t1_loop.trips))
      = ksFull (arg5.view.read (Elt F) X5) := by
  have hfit : ∀ k : ℕ, k ≤ k0_t1_loop.trips →
      (∀ p ∈ pb_k0_t1 (F := F) Variants.none c none i arg2 harg2 arg3 harg3 arg4 harg4 arg5 harg5 arg6 harg6 arg7 harg7 arg8 harg8 arg9 harg9 arg10 harg10 h1 X5 k, ∀ x : p.1.shape.Idx, p.2 x = ksFull (arg5.view.read (Elt F) X5) (p.1.emb x))
      ∧ (∀ y : S12288x128.Idx, (y 0).val < 128 * k → ∃ p ∈ pb_k0_t1 (F := F) Variants.none c none i arg2 harg2 arg3 harg3 arg4 harg4 arg5 harg5 arg6 harg6 arg7 harg7 arg8 harg8 arg9 harg9 arg10 harg10 h1 X5 k, y ∈ p.1.set) := by
    intro k
    induction k with
    | zero => intro _; refine ⟨fun p hp => absurd hp List.not_mem_nil, fun y hy => absurd hy (by omega)⟩
    | succ k ih =>
      intro hk
      obtain ⟨ih1, ih2⟩ := ih (by omega)
      have hk96 : k < 96 := by have := trips_t1; omega
      have e : pb_k0_t1 (F := F) Variants.none c none i arg2 harg2 arg3 harg3 arg4 harg4 arg5 harg5 arg6 harg6 arg7 harg7 arg8 harg8 arg9 harg9 arg10 harg10 h1 X5 (k + 1) = _ := pb_k0_t1_succ (F := F) Variants.none c none i arg2 harg2 arg3 harg3 arg4 harg4 arg5 harg5 arg6 harg6 arg7 harg7 arg8 harg8 arg9 harg9 arg10 harg10 h1 X5 ⟨k, hk⟩
      rw [trip1 c i arg2 harg2 arg3 harg3 arg4 harg4 arg5 harg5 arg6 harg6 arg7 harg7 arg8 harg8 arg9 harg9 arg10 harg10 h1 X5 ⟨k, hk⟩ ⟨k, hk96⟩ rfl] at e
      rw [e]
      constructor
      · intro p hp
        rcases List.mem_append.mp hp with hp | hp
        · rw [List.mem_singleton.mp hp]
          intro x
          exact slab_fits _ ⟨k, hk96⟩ _ (by rw [k0_off2_eq]) (k0_off2_inb i ⟨k, hk⟩ h1) x
        · exact ih1 p hp
      · intro y hy
        by_cases hlt : (y 0).val < 128 * k
        · obtain ⟨p, hp, hy'⟩ := ih2 y hlt
          exact ⟨p, List.mem_append_right _ hp, hy'⟩
        · refine ⟨_, List.mem_append_left _ (List.mem_singleton.mpr rfl), ?_⟩
          have o0 : k0_off2 ⟨k, hk⟩ 0 = 128 * k := by rw [k0_off2_eq]; rfl
          have o1 : k0_off2 ⟨k, hk⟩ 1 = 0 := by rw [k0_off2_eq]; rfl
          have y1 : (y 1).val < 128 := (y 1).isLt
          rw [Rect.mem_set_unit]
          intro a
          match a with
          | ⟨0, _⟩ => show k0_off2 ⟨k, hk⟩ 0 ≤ (y 0).val ∧ (y 0).val < k0_off2 ⟨k, hk⟩ 0 + 128; omega
          | ⟨1, _⟩ => show k0_off2 ⟨k, hk⟩ 1 ≤ (y 1).val ∧ (y 1).val < k0_off2 ⟨k, hk⟩ 1 + 128; omega
  funext y
  have hy : (y 0).val < 12288 := (y 0).isLt
  refine View.read_writes_apply_of_pieces _ _ _ _ (hfit _ le_rfl).1 y ((hfit _ le_rfl).2 y ?_)
  rw [trips_t1]; omega

end Cert.KernelIdeal.Attn
-- ==== Proof.Body.Scores.lean ====
/- The loop that scores the chunks and the loop that sums the weights: what they carry, and what the score scratch holds
   when the second one reads it. -/
module

public import proofs.«01_k».proof.Proof.Body.Scales

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

/-! ### The loop over the chunks before the last -/

/-- One trip: the maximum it carries, and the chunk of scores it stores. -/
theorem trip2 (arg1 v23 z v30 : BitVec 32) (x2 : Vec F S1x1x1x512x128 .fp8e4m3) (v28 : FVec F S8x512 .f32)
    (X4 : BufTy.Contents (Elt F) arg4.view.ty) (X10 : BufTy.Contents (Elt F) arg10.view.ty) (k : Fin (k0_t2_loop i).trips) (k' : Fin 48) (hk : k.val = k'.val)
    (acc : FVec F S8x512 .f32) :
    tripR_k0_t2 (F := F) Variants.none c none i arg2 harg2 arg3 harg3 arg4 harg4 arg5 harg5 arg6 harg6 arg7 harg7 arg8 harg8 arg9 harg9 arg10 harg10 arg1 v23 (k0_pay3 x2) v28 z v30 X4 X10 k acc = k0_pay8 (k0_pay3 x2) acc (kBlock (arg4.view.read (Elt F) X4) k') (sBlock (arg10.view.read (Elt F) X10) k')
    ∧ tripL_k0_t2 (F := F) Variants.none c none i arg2 harg2 arg3 harg3 arg4 harg4 arg5 harg5 arg6 harg6 arg7 harg7 arg8 harg8 arg9 harg9 arg10 harg10 arg1 v23 (k0_pay3 x2) v28 z v30 X4 X10 k acc
      = [⟨Rect.unit (s := S12288x512) (k0_off5 i k) S256x512.size (k0_off5_inb i k),
          k0_pay7 (k0_pay3 x2) (kBlock (arg4.view.read (Elt F) X4) k') (sBlock (arg10.view.read (Elt F) X10) k')⟩] := by
  unfold tripR_k0_t2 tripL_k0_t2 trip_k0_t2
  dsimp only
  rw [read_k arg4 X4 k' _ (by rw [k0_off3_eq, hk]), read_s arg10 X10 k' _ (by rw [k0_off4_eq, hk])]
  exact ⟨rfl, rfl⟩

/-- The score scratch as the second loop should find it. -/
def scoreFull (i : grid0.Coords) (x2 : Vec F S1x1x1x512x128 .fp8e4m3) (x4 : Vec F S1x1x12288x128 .fp8e4m3) (x10 : Vec F S12288x128 .f32) : Vec F S12288x512 .f32 :=
  fun y => score i x2 x4 x10 ⟨(y 0).val / 256, by have := (y 0).isLt; change (y 0).val < 12288 at this; omega⟩
    (ix2 ⟨(y 0).val % 256, Nat.mod_lt _ (by omega)⟩ (y 1))

theorem score_fits (x2 : Vec F S1x1x1x512x128 .fp8e4m3) (x4 : Vec F S1x1x12288x128 .fp8e4m3) (x10 : Vec F S12288x128 .f32) (k : Fin 48)
    (off : Fin 2 → ℕ) (hoff : off = ![256 * k.val, 0]) (inb) (x : S256x512.Idx) :
    score i x2 x4 x10 k x = scoreFull i x2 x4 x10 ((Rect.unit (s := S12288x512) off S256x512.size inb).emb x) := by
  subst hoff
  have hx0 : (x 0).val < 256 := (x 0).isLt
  unfold scoreFull
  congr 1
  · congr 1
    refine Fin.ext ?_
    show k.val = (256 * k.val + 1 * (x 0).val) / 256
    omega
  · funext a
    match a with
    | ⟨0, _⟩ => exact Fin.ext (by show (x 0).val = (256 * k.val + 1 * (x 0).val) % 256; omega)
    | ⟨1, _⟩ => exact Fin.ext (by show (x 1).val = 0 + 1 * (x 1).val; omega)

theorem aBlock_scoreFull (x2 : Vec F S1x1x1x512x128 .fp8e4m3) (x4 : Vec F S1x1x12288x128 .fp8e4m3) (x10 : Vec F S12288x128 .f32) (k : Fin 48)
    (x9 : Vec F S12288x512 .f32) (h : ∀ y : S12288x512.Idx, (y 0).val < 256 * (lastC i + 1) → x9 y = scoreFull i x2 x4 x10 y) (hk : k.val ≤ lastC i) :
    aBlock x9 k = score i x2 x4 x10 k := by
  funext x
  have hx0 : (x 0).val < 256 := (x 0).isLt
  have hl := lastC_lt i
  unfold aBlock
  rw [h _ (by show 256 * k.val + (x 0).val < _; omega)]
  unfold scoreFull
  congr 1
  · refine Fin.ext ?_
    show (256 * k.val + (x 0).val) / 256 = k.val
    omega
  · funext a
    match a with
    | ⟨0, _⟩ => exact Fin.ext (by show (256 * k.val + (x 0).val) % 256 = (x 0).val; omega)
    | ⟨1, _⟩ => rfl

/-- The loop's state after `k` trips: the running maximum, and pieces that are the scores of the first `k` chunks. -/
theorem state2 (arg1 v23 z v30 : BitVec 32) (x2 : Vec F S1x1x1x512x128 .fp8e4m3) (v28 : FVec F S8x512 .f32)
    (X4 : BufTy.Contents (Elt F) arg4.view.ty) (X10 : BufTy.Contents (Elt F) arg10.view.ty) :
    ∀ k : ℕ, k ≤ (k0_t2_loop i).trips →
      (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).1 = mx x2 (arg4.view.read (Elt F) X4) (arg10.view.read (Elt F) X10) k
      ∧ (∀ p ∈ (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).2, ∀ x : p.1.shape.Idx,
          p.2 x = scoreFull i x2 (arg4.view.read (Elt F) X4) (arg10.view.read (Elt F) X10) (p.1.emb x))
      ∧ (∀ y : S12288x512.Idx, (y 0).val < 256 * k → ∃ p ∈ (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).2, y ∈ p.1.set) := by
  intro k
  induction k with
  | zero => intro _; exact ⟨rfl, fun p hp => absurd hp List.not_mem_nil, fun y hy => absurd hy (by omega)⟩
  | succ k ih =>
    intro hk
    obtain ⟨ih0, ih1, ih2⟩ := ih (by omega)
    have hl := lastC_lt i
    have hlast : k < lastC i := by have := trips_t2 i; omega
    have hk48 : k < 48 := by omega
    obtain ⟨tR, tL⟩ := trip2 c i arg2 harg2 arg3 harg3 arg4 harg4 arg5 harg5 arg6 harg6 arg7 harg7 arg8 harg8 arg9 harg9 arg10 harg10 arg1 v23 z v30 x2 v28 X4 X10 ⟨k, hk⟩ ⟨k, hk48⟩ rfl (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 k).1
    have e : st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 (k + 1) = _ := st_k0_t2_succ (F := F) Variants.none c none i arg2 harg2 arg3 harg3 arg4 harg4 arg5 harg5 arg6 harg6 arg7 harg7 arg8 harg8 arg9 harg9 arg10 harg10 arg1 v23 (k0_pay3 x2) v28 z v30 X4 X10 k0_pay5 ⟨k, hk⟩
    rw [tR, tL] at e
    rw [e]
    refine ⟨?_, ?_, ?_⟩
    · show k0_pay8 _ _ _ _ = mx x2 _ _ (k + 1)
      rw [mx, dif_pos hk48, ih0]
    · intro p hp
      rcases List.mem_append.mp hp with hp | hp
      · rw [List.mem_singleton.mp hp]
        intro x
        have hs : score i x2 (arg4.view.read (Elt F) X4) (arg10.view.read (Elt F) X10) ⟨k, hk48⟩ = _ := if_neg (by show ¬ k = lastC i; omega)
        refine Eq.trans ?_ (score_fits i x2 _ _ ⟨k, hk48⟩ _ (by rw [k0_off5_eq]) (k0_off5_inb i ⟨k, hk⟩) x)
        rw [hs]
      · exact ih1 p hp
    · intro y hy
      by_cases hlt : (y 0).val < 256 * k
      · obtain ⟨p, hp, hy'⟩ := ih2 y hlt
        exact ⟨p, List.mem_append_right _ hp, hy'⟩
      · refine ⟨_, List.mem_append_left _ (List.mem_singleton.mpr rfl), ?_⟩
        have o0 : k0_off5 i ⟨k, hk⟩ 0 = 256 * k := by rw [k0_off5_eq]; rfl
        have o1 : k0_off5 i ⟨k, hk⟩ 1 = 0 := by rw [k0_off5_eq]; rfl
        have y1 : (y 1).val < 512 := (y 1).isLt
        rw [Rect.mem_set_unit]
        intro a
        match a with
        | ⟨0, _⟩ => show k0_off5 i ⟨k, hk⟩ 0 ≤ (y 0).val ∧ (y 0).val < k0_off5 i ⟨k, hk⟩ 0 + 256; omega
        | ⟨1, _⟩ => show k0_off5 i ⟨k, hk⟩ 1 ≤ (y 1).val ∧ (y 1).val < k0_off5 i ⟨k, hk⟩ 1 + 512; omega

/-- The score scratch when the summing loop starts: the last chunk's masked scores over those of the chunks before. -/
theorem read_scores (arg1 v23 z v30 : BitVec 32) (x2 : Vec F S1x1x1x512x128 .fp8e4m3) (v28 : FVec F S8x512 .f32)
    (X4 : BufTy.Contents (Elt F) arg4.view.ty) (X10 : BufTy.Contents (Elt F) arg10.view.ty) (G : BufTy.Contents (Elt F) arg9.view.ty)
    (inb) (y : S12288x512.Idx) (hy : (y 0).val < 256 * (lastC i + 1)) :
    arg9.view.read (Elt F) (arg9.view.writes (Elt F) G
        (⟨Rect.unit (s := S12288x512) (k0_off11 i) S256x512.size inb,
            k0_pay16 (rawLast i x2 (arg4.view.read (Elt F) X4) (arg10.view.read (Elt F) X10)) (k0_pay13 (nWord i)) (k0_pay14 (BitVec.ofNat 32 (i 1).val))⟩
          :: (st_k0_t2 (F := F) Variants.none c none i arg2 harg2 arg3 harg3 arg4 harg4 arg5 harg5 arg6 harg6 arg7 harg7 arg8 harg8 arg9 harg9 arg10 harg10 arg1 v23 (k0_pay3 x2) v28 z v30 X4 X10 k0_pay5 (k0_t2_loop i).trips).2)) y
      = scoreFull i x2 (arg4.view.read (Elt F) X4) (arg10.view.read (Elt F) X10) y := by
  obtain ⟨-, h1, h2⟩ := state2 c i arg2 harg2 arg3 harg3 arg4 harg4 arg5 harg5 arg6 harg6 arg7 harg7 arg8 harg8 arg9 harg9 arg10 harg10 arg1 v23 z v30 x2 v28 X4 X10 (k0_t2_loop i).trips le_rfl
  have ho : 256 * ((64 * (i 1).val + 319) / 256) - 256 = 256 * lastC i := by unfold lastC; omega
  have ho' : k0_off11 i = ![256 * lastC i, 0] := by rw [k0_off11_eq, ho]
  refine View.read_writes_apply_of_pieces _ _ _ _ ?_ y ?_
  · intro p hp
    rcases List.mem_cons.mp hp with rfl | hp
    · intro x
      have hs : score i x2 (arg4.view.read (Elt F) X4) (arg10.view.read (Elt F) X10) ⟨lastC i, lastC_lt i⟩ = _ := if_pos rfl
      refine Eq.trans ?_ (score_fits i x2 _ _ ⟨lastC i, lastC_lt i⟩ _ ho' inb x)
      rw [hs]
    · exact h1 p hp
  · by_cases hlt : (y 0).val < 256 * lastC i
    · obtain ⟨p, hp, hy'⟩ := h2 y (by rw [trips_t2]; exact hlt)
      exact ⟨p, List.mem_cons_of_mem _ hp, hy'⟩
    · refine ⟨_, List.mem_cons_self, ?_⟩
      have o0 : k0_off11 i 0 = 256 * lastC i := by rw [ho']; rfl
      have o1 : k0_off11 i 1 = 0 := by rw [ho']; rfl
      have y1 : (y 1).val < 512 := (y 1).isLt
      rw [Rect.mem_set_unit]
      intro a
      match a with
      | ⟨0, _⟩ => show k0_off11 i 0 ≤ (y 0).val ∧ (y 0).val < k0_off11 i 0 + 256; omega
      | ⟨1, _⟩ => show k0_off11 i 1 ≤ (y 1).val ∧ (y 1).val < k0_off11 i 1 + 512; omega

/-! ### The loop that sums -/

theorem trip4 (v23 v37 : BitVec 32) (x3 : Vec F S1x1x1x1x512 .f32) (v36 : FVec F S8x512 .f32) (v47 : FVec F S256x512 .f32) (v51 v71 : IVec S256x512 32)
    (X6 : BufTy.Contents (Elt F) arg6.view.ty) (X9 : BufTy.Contents (Elt F) arg9.view.ty) (k : Fin (k0_t4_loop i).trips) (k' : Fin 48) (hk : k.val = k'.val)
    (acc : FVec F S8x512 .f32 × FVec F S128x512 .f32) :
    (trip_k0_t4 (F := F) Variants.none c none i arg2 harg2 arg3 harg3 arg4 harg4 arg5 harg5 arg6 harg6 arg7 harg7 arg8 harg8 arg9 harg9 arg10 harg10 v23 (k0_pay4 x3) v36 v37 v47 v51 v71 X6 X9 k).1 acc
      = (k0_pay21 (k0_pay4 x3) v36 v47 v51 v71 acc.1 (aBlock (arg9.view.read (Elt F) X9) k'),
         k0_pay22 (k0_pay4 x3) v36 v47 v51 v71 acc.2 (aBlock (arg9.view.read (Elt F) X9) k') (vBlock (arg6.view.read (Elt F) X6) k')) := by
  unfold trip_k0_t4
  dsimp only
  rw [read_a arg9 X9 k' _ (by rw [k0_off12_eq, hk]), read_v arg6 X6 k' _ (by rw [k0_off13_eq, hk])]

/-- The sums after `k` trips, of scores that are the tile's. -/
theorem state4 (v23 v37 : BitVec 32) (x2 : Vec F S1x1x1x512x128 .fp8e4m3) (x3 : Vec F S1x1x1x1x512 .f32) (x4 : Vec F S1x1x12288x128 .fp8e4m3) (x10 : Vec F S12288x128 .f32)
    (X6 : BufTy.Contents (Elt F) arg6.view.ty) (X9 : BufTy.Contents (Elt F) arg9.view.ty)
    (h9 : ∀ y : S12288x512.Idx, (y 0).val < 256 * (lastC i + 1) → arg9.view.read (Elt F) X9 y = scoreFull i x2 x4 x10 y) :
    ∀ k : ℕ, k ≤ (k0_t4_loop i).trips →
      st_k0_t4 (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 (k0_pay18, k0_pay19) k = sums i x2 x3 x4 x10 (arg6.view.read (Elt F) X6) k := by
  intro k
  induction k with
  | zero => intro _; rfl
  | succ k ih =>
    intro hk
    have hl := lastC_lt i
    have hle : k ≤ lastC i := by have := trips_t4 i; omega
    have hk48 : k < 48 := by omega
    have e := st_k0_t4_succ (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 (k0_pay18, k0_pay19) ⟨k, hk⟩
    refine Eq.trans e ?_
    rw [show tripR_k0_t4 (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 ⟨k, hk⟩ = (trip_k0_t4 (F := F) Variants.none c none i arg2 harg2 arg3 harg3 arg4 harg4 arg5 harg5 arg6 harg6 arg7 harg7 arg8 harg8 arg9 harg9 arg10 harg10 v23 (k0_pay4 x3) (mx x2 x4 x10 (lastC i)) v37 (rawLast i x2 x4 x10) (k0_pay13 (nWord i))
        (k0_pay14 (BitVec.ofNat 32 (i 1).val)) X6 X9 ⟨k, hk⟩).1 from rfl]
    rw [trip4 c i arg2 harg2 arg3 harg3 arg4 harg4 arg5 harg5 arg6 harg6 arg7 harg7 arg8 harg8 arg9 harg9 arg10 harg10 v23 v37 x3 _ _ _ _ X6 X9 ⟨k, hk⟩ ⟨k, hk48⟩ rfl, aBlock_scoreFull i x2 x4 x10 ⟨k, hk48⟩ _ h9 hle]
    rw [show (⟨k, hk⟩ : Fin (k0_t4_loop i).trips).val = k from rfl, ih (by omega)]
    conv_rhs => rw [sums]
    rw [dif_pos hk48]

end Cert.KernelIdeal.Attn
-- ==== Proof.Body.Run.lean ====
/- The body of the attention kernel run once, in each of its two cases: at the first query tile of a head it fills
   the scratch of key scales first, at the others it finds that scratch filled. -/
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

set_option maxHeartbeats 4000000 in
/-- The body where the scale scratch is filled already: the pieces it stores into the result's block and into the score
    scratch, from the inputs' contents `x2 … x7` and the two scratches' `f9`, `f10`. -/
def runB (hc : ¬ k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    Σ' (L9 : List (View.Piece (Elt F) S12288x512 .f32)), { L8 : List (View.Piece (Elt F) S1x64x1024 .bf16) // ∀ (E : Set ℕ) (K : PUnit → sProp 𝕄),
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare x9 ∗ owns (c : Thread nD τ) arg10 fullShare x10
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ f, (arg8.view.loc (c : Thread nD τ) ↦[arg8.view.set]{fullShare} arg8.view.writes (Elt F) f L8))
            ∗ ((arg9.view.loc (c : Thread nD τ) ↦[arg9.view.set]{fullShare} arg9.view.writes (Elt F) (harg9.unread x9) L9))
            ∗ owns (c : Thread nD τ) arg10 fullShare x10) -∗ K ⟨⟩))
      ⊢ wp frame (wpE (defs₀ (F := F)) Variants.none c none) E (cc0_hadamard_fp8_attention i arg2 harg2 arg3 harg3 arg4 harg4 arg5 harg5 arg6 harg6 arg7 harg7 arg8 harg8 arg9 harg9 arg10 harg10) K } := by
  refine ⟨?_, ?_, fun E K => ?run⟩
  case run =>
    simp only [cc0_hadamard_fp8_attention_eq_skeleton]; unfold cc0_hadamard_fp8_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    rw [harg2.eq_unread hf2, harg3.eq_unread hf3, harg4.eq_unread hf4, harg5.eq_unread hf5, harg6.eq_unread hf6, harg7.eq_unread hf7, harg9.eq_unread hf9, harg10.eq_unread hf10]
    sl_exec
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; iexact H8
    isplitl [H9]
    · iexact H9
    iexists _; isplitr; swap; · iexact H10
    ipureintro; exact harg10.read_unread _

set_option maxHeartbeats 4000000 in
/-- The body where it fills the scale scratch first: the pieces it stores into the result's block and into the two
    scratches, from the inputs' contents `x2 … x7` and the two scratches' `f9`, `f10`. -/
def runA (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    Σ' (L9 : List (View.Piece (Elt F) S12288x512 .f32)) (L10 : List (View.Piece (Elt F) S12288x128 .f32)), { L8 : List (View.Piece (Elt F) S1x64x1024 .bf16) // ∀ (E : Set ℕ) (K : PUnit → sProp 𝕄),
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare x9 ∗ owns (c : Thread nD τ) arg10 fullShare x10
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ f, (arg8.view.loc (c : Thread nD τ) ↦[arg8.view.set]{fullShare} arg8.view.writes (Elt F) f L8))
            ∗ ((arg9.view.loc (c : Thread nD τ) ↦[arg9.view.set]{fullShare} arg9.view.writes (Elt F) (harg9.unread x9) L9))
            ∗ ((arg10.view.loc (c : Thread nD τ) ↦[arg10.view.set]{fullShare} arg10.view.writes (Elt F) (harg10.unread x10) L10))) -∗ K ⟨⟩))
      ⊢ wp frame (wpE (defs₀ (F := F)) Variants.none c none) E (cc0_hadamard_fp8_attention i arg2 harg2 arg3 harg3 arg4 harg4 arg5 harg5 arg6 harg6 arg7 harg7 arg8 harg8 arg9 harg9 arg10 harg10) K } := by
  refine ⟨?_, ?_, ?_, fun E K => ?run⟩
  case run =>
    simp only [cc0_hadamard_fp8_attention_eq_skeleton]; unfold cc0_hadamard_fp8_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    rw [harg2.eq_unread hf2, harg3.eq_unread hf3, harg4.eq_unread hf4, harg5.eq_unread hf5, harg6.eq_unread hf6, harg7.eq_unread hf7, harg9.eq_unread hf9, harg10.eq_unread hf10]
    sl_exec
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; iexact H8
    isplitl [H9]
    · iexact H9
    iexact H10

end Cert.KernelIdeal.Attn
-- ==== Proof.Body.Out.lean ====
/- The block of the result that one run of the body leaves: the tile's output rows, head by head. -/
module

public import proofs.«01_k».proof.Proof.Body.Scores
public import proofs.«01_k».proof.Proof.Body.Run
import all proofs.«01_k».proof.Proof.Body.Run

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (c : Dev nD) (i : grid0.Coords)
  (arg2 : Memref sig .tc .vmem S1x1x1x512x128 .fp8e4m3) (harg2 : arg2.IsWhole)
  (arg3 : Memref sig .tc .vmem S1x1x1x1x512 .f32) (harg3 : arg3.IsWhole)
  (arg4 : Memref sig .tc .vmem S1x1x12288x128 .fp8e4m3) (harg4 : arg4.IsWhole)
  (arg5 : Memref sig .tc .vmem S1x1x96x128 .f32) (harg5 : arg5.IsWhole)
  (arg6 : Memref sig .tc .vmem S1x1x128x12288 .fp8e4m3) (harg6 : arg6.IsWhole)
  (arg7 : Memref sig .tc .vmem S1x1x1x128 .f32) (harg7 : arg7.IsWhole)
  (arg8 : Memref sig .tc .vmem S1x64x1024 .bf16) (harg8 : arg8.IsWhole)
  (arg9 : Memref sig .tc .vmem S12288x512 .f32) (harg9 : arg9.IsWhole)
  (arg10 : Memref sig .tc .vmem S12288x128 .f32) (harg10 : arg10.IsWhole)

/-! ### The eight stores into the block -/

/-- Head `g`'s 64 rows of the tile, rounded. -/
def headOf (v : FVec F S512x128 .f32) (g : Fin 8) : FVec F S1x64x128 .bf16 :=
  fun x => truncf .bf16 v bitsLt_bf16_f32 (ix2 ⟨64 * g.val + (x 1).val, by have := (x 1).isLt; change (x 1).val < 64 at this; omega⟩ (x 2))

theorem head0 (a : FVec F S8x512 .f32) (b : FVec F S128x512 .f32) (w : Vec F S1x1x1x128 .f32) (x : S1x64x128.Idx) : k0_pay27 a b w x = headOf (k0_pay26 a b w) 0 x := by
  unfold k0_pay27 headOf
  pointwise

theorem head1 (v : FVec F S512x128 .f32) (x : S1x64x128.Idx) : k0_pay28 v x = headOf v 1 x := by
  unfold k0_pay28 headOf
  pointwise

theorem head2 (v : FVec F S512x128 .f32) (x : S1x64x128.Idx) : k0_pay29 v x = headOf v 2 x := by
  unfold k0_pay29 headOf
  pointwise

theorem head3 (v : FVec F S512x128 .f32) (x : S1x64x128.Idx) : k0_pay30 v x = headOf v 3 x := by
  unfold k0_pay30 headOf
  pointwise

theorem head4 (v : FVec F S512x128 .f32) (x : S1x64x128.Idx) : k0_pay31 v x = headOf v 4 x := by
  unfold k0_pay31 headOf
  pointwise

theorem head5 (v : FVec F S512x128 .f32) (x : S1x64x128.Idx) : k0_pay32 v x = headOf v 5 x := by
  unfold k0_pay32 headOf
  pointwise

theorem head6 (v : FVec F S512x128 .f32) (x : S1x64x128.Idx) : k0_pay33 v x = headOf v 6 x := by
  unfold k0_pay33 headOf
  pointwise

theorem head7 (v : FVec F S512x128 .f32) (x : S1x64x128.Idx) : k0_pay1 (k0_pay34 v) x = headOf v 7 x := by
  unfold k0_pay1 k0_pay34 headOf
  pointwise

/-- The block whose heads are the rows of `v`. -/
def blkOf (v : FVec F S512x128 .f32) : FVec F S1x64x1024 .bf16 :=
  fun y => truncf .bf16 v bitsLt_bf16_f32
    (ix2 ⟨64 * ((y 2).val / 128) + (y 1).val, by
      have h1 := (y 1).isLt; have h2 := (y 2).isLt; change (y 1).val < 64 at h1; change (y 2).val < 1024 at h2; omega⟩
      ⟨(y 2).val % 128, Nat.mod_lt _ (by omega)⟩)

theorem headOf_fits (v : FVec F S512x128 .f32) (g : Fin 8) (n : ℕ) (hn : n = 128 * g.val) (inb) (x : S1x64x128.Idx) :
    headOf v g x = blkOf v ((Rect.unit (s := S1x64x1024) ![0, 0, n] ![1, 64, 128] inb).emb x) := by
  subst hn
  have h2 : (x 2).val < 128 := (x 2).isLt
  unfold headOf blkOf
  congr 1
  funext a
  match a with
  | ⟨0, _⟩ => exact Fin.ext (by
      show 64 * g.val + (x 1).val = 64 * ((128 * g.val + 1 * (x 2).val) / 128) + (0 + 1 * (x 1).val)
      omega)
  | ⟨1, _⟩ => exact Fin.ext (by show (x 2).val = (128 * g.val + 1 * (x 2).val) % 128; omega)

/-- The eight stores of one tile, the last first. -/
def stores (v : FVec F S512x128 .f32) : List (View.Piece (Elt F) S1x64x1024 .bf16) :=
  [⟨Rect.unit ![0, 0, 896] ![1, 64, 128] inb_S1x64x1024_S1x64x128_0_0_896, k0_pay1 (k0_pay34 v)⟩,
   ⟨Rect.unit ![0, 0, 768] ![1, 64, 128] inb_S1x64x1024_S1x64x128_0_0_768, k0_pay33 v⟩,
   ⟨Rect.unit ![0, 0, 640] ![1, 64, 128] inb_S1x64x1024_S1x64x128_0_0_640, k0_pay32 v⟩,
   ⟨Rect.unit ![0, 0, 512] ![1, 64, 128] inb_S1x64x1024_S1x64x128_0_0_512, k0_pay31 v⟩,
   ⟨Rect.unit ![0, 0, 384] ![1, 64, 128] inb_S1x64x1024_S1x64x128_0_0_384, k0_pay30 v⟩,
   ⟨Rect.unit ![0, 0, 256] ![1, 64, 128] inb_S1x64x1024_S1x64x128_0_0_256, k0_pay29 v⟩,
   ⟨Rect.unit ![0, 0, 128] ![1, 64, 128] inb_S1x64x1024_S1x64x128_0_0_128, k0_pay28 v⟩,
   ⟨Rect.unit ![0, 0, 0] ![1, 64, 128] inb_S1x64x1024_S1x64x128_0_0_0, headOf v 0⟩]

/-- The block after the eight stores: they cover it. -/
theorem read_stores (v : FVec F S512x128 .f32) (f : BufTy.Contents (Elt F) arg8.view.ty) :
    arg8.view.read (Elt F) (arg8.view.writes (Elt F) f (stores v)) = blkOf v := by
  funext y
  refine View.read_writes_apply_of_pieces _ _ _ _ ?_ y ?_
  · intro p hp
    unfold stores at hp
    simp only [List.mem_cons, List.not_mem_nil, or_false] at hp
    rcases hp with rfl | rfl | rfl | rfl | rfl | rfl | rfl | rfl <;> intro x
    · exact (head7 v x).trans (headOf_fits v 7 896 rfl inb_S1x64x1024_S1x64x128_0_0_896 x)
    · exact (head6 v x).trans (headOf_fits v 6 768 rfl inb_S1x64x1024_S1x64x128_0_0_768 x)
    · exact (head5 v x).trans (headOf_fits v 5 640 rfl inb_S1x64x1024_S1x64x128_0_0_640 x)
    · exact (head4 v x).trans (headOf_fits v 4 512 rfl inb_S1x64x1024_S1x64x128_0_0_512 x)
    · exact (head3 v x).trans (headOf_fits v 3 384 rfl inb_S1x64x1024_S1x64x128_0_0_384 x)
    · exact (head2 v x).trans (headOf_fits v 2 256 rfl inb_S1x64x1024_S1x64x128_0_0_256 x)
    · exact (head1 v x).trans (headOf_fits v 1 128 rfl inb_S1x64x1024_S1x64x128_0_0_128 x)
    · exact headOf_fits v 0 0 rfl inb_S1x64x1024_S1x64x128_0_0_0 x
  · exact View.cover_of_tiled (stores v) ![1, 64, 128] (by rfl) y

/-! ### The loads of whole buffers, and the loops that make no trip -/

theorem st3_none (a1 v23 v28 z v30) (v25) (X4) (X10) (init) :
    st_k0_t3 (F := F) Variants.none c none i arg2 harg2 arg3 harg3 arg4 harg4 arg5 harg5 arg6 harg6 arg7 harg7 arg8 harg8 arg9 harg9 arg10 harg10 a1 v23 v25 v28 z v30 X4 X10 init (Scf.trips (k0_t3_loop i).lb (k0_t3_loop i).ub (k0_t3_loop i).st) = (init, []) := by
  rw [show Scf.trips (k0_t3_loop i).lb (k0_t3_loop i).ub (k0_t3_loop i).st = 0 from trips_t3 i]
  rfl

theorem st5_none (v23 v26 v36 v37 v47 v51 v71) (X6) (X9) (init) :
    st_k0_t5 (F := F) Variants.none c none i arg2 harg2 arg3 harg3 arg4 harg4 arg5 harg5 arg6 harg6 arg7 harg7 arg8 harg8 arg9 harg9 arg10 harg10 v23 v26 v36 v37 v47 v51 v71 X6 X9 init (Scf.trips (k0_t5_loop i).lb (k0_t5_loop i).ub (k0_t5_loop i).st) = init := by
  rw [show Scf.trips (k0_t5_loop i).lb (k0_t5_loop i).ub (k0_t5_loop i).st = 0 from trips_t5 i]
  rfl

/-- The tile's output rows as the body computes them: from the loops' states to the one-tile functions. -/
theorem tile_rows (v23 v30 v37 : BitVec 32) (h23 : v23 = nWord i)
    (x2 : Vec F S1x1x1x512x128 .fp8e4m3) (x3 : Vec F S1x1x1x1x512 .f32) (x7 : Vec F S1x1x1x128 .f32)
    (X4 : BufTy.Contents (Elt F) arg4.view.ty) (X6 : BufTy.Contents (Elt F) arg6.view.ty)
    (X10 : BufTy.Contents (Elt F) arg10.view.ty) (G : BufTy.Contents (Elt F) arg9.view.ty)
    (raw : FVec F S256x512 .f32) (hraw : raw = rawLast i x2 (arg4.view.read (Elt F) X4) (arg10.view.read (Elt F) X10)) (inb)
    (S2 : FVec F S8x512 .f32 × List (View.Piece (Elt F) S12288x512 .f32))
    (hS2 : S2 = st_k0_t2 (F := F) Variants.none c none i arg2 harg2 arg3 harg3 arg4 harg4 arg5 harg5 arg6 harg6 arg7 harg7 arg8 harg8 arg9 harg9 arg10 harg10 (BitVec.ofNat 32 (i 1).val) v23 (k0_pay3 x2) k0_pay5 (0#32) v30 X4 X10 k0_pay5 (Scf.trips (k0_t2_loop i).lb (k0_t2_loop i).ub (k0_t2_loop i).st))
    (S3 : FVec F S8x512 .f32 × List (View.Piece (Elt F) S12288x512 .f32))
    (hS3 : S3 = st_k0_t3 (F := F) Variants.none c none i arg2 harg2 arg3 harg3 arg4 harg4 arg5 harg5 arg6 harg6 arg7 harg7 arg8 harg8 arg9 harg9 arg10 harg10 (BitVec.ofNat 32 (i 1).val) v23 (k0_pay3 x2) k0_pay5 (0#32) v30 X4 X10 S2.1 (Scf.trips (k0_t3_loop i).lb (k0_t3_loop i).ub (k0_t3_loop i).st))
    (X9 : BufTy.Contents (Elt F) arg9.view.ty)
    (hX9 : X9 = arg9.view.writes (Elt F) G (⟨Rect.unit (s := S12288x512) (k0_off11 i) S256x512.size inb, k0_pay16 raw (k0_pay13 v23) (k0_pay14 (BitVec.ofNat 32 (i 1).val))⟩ :: (S3.2 ++ S2.2)))
    (S4 : FVec F S8x512 .f32 × FVec F S128x512 .f32)
    (hS4 : S4 = st_k0_t4 (F := F) Variants.none c none i arg2 harg2 arg3 harg3 arg4 harg4 arg5 harg5 arg6 harg6 arg7 harg7 arg8 harg8 arg9 harg9 arg10 harg10 v23 (k0_pay4 x3) S3.1 v37 raw (k0_pay13 v23) (k0_pay14 (BitVec.ofNat 32 (i 1).val)) X6 X9 (k0_pay18, k0_pay19) (Scf.trips (k0_t4_loop i).lb (k0_t4_loop i).ub (k0_t4_loop i).st))
    (S5 : FVec F S8x512 .f32 × FVec F S128x512 .f32)
    (hS5 : S5 = st_k0_t5 (F := F) Variants.none c none i arg2 harg2 arg3 harg3 arg4 harg4 arg5 harg5 arg6 harg6 arg7 harg7 arg8 harg8 arg9 harg9 arg10 harg10 v23 (k0_pay4 x3) S3.1 v37 raw (k0_pay13 v23) (k0_pay14 (BitVec.ofNat 32 (i 1).val)) X6 X9 S4 (Scf.trips (k0_t5_loop i).lb (k0_t5_loop i).ub (k0_t5_loop i).st)) :
    k0_pay26 S5.1 S5.2 x7 = outRows i x2 x3 (arg4.view.read (Elt F) X4) (arg10.view.read (Elt F) X10) (arg6.view.read (Elt F) X6) x7 := by
  rw [st3_none] at hS3
  rw [st5_none] at hS5
  have h2 : S2.1 = mx x2 (arg4.view.read (Elt F) X4) (arg10.view.read (Elt F) X10) (lastC i) := by
    rw [hS2, ← trips_t2 i]
    exact (state2 c i arg2 harg2 arg3 harg3 arg4 harg4 arg5 harg5 arg6 harg6 arg7 harg7 arg8 harg8 arg9 harg9 arg10 harg10 (BitVec.ofNat 32 (i 1).val) v23 (0#32) v30 x2 k0_pay5 X4 X10 (k0_t2_loop i).trips le_rfl).1
  have h9 : ∀ y : S12288x512.Idx, (y 0).val < 256 * (lastC i + 1) →
      arg9.view.read (Elt F) X9 y = scoreFull i x2 (arg4.view.read (Elt F) X4) (arg10.view.read (Elt F) X10) y := by
    intro y hy
    rw [hX9, hS3, hraw, h23, hS2]
    exact read_scores c i arg2 harg2 arg3 harg3 arg4 harg4 arg5 harg5 arg6 harg6 arg7 harg7 arg8 harg8 arg9 harg9 arg10 harg10 (BitVec.ofNat 32 (i 1).val) v23 (0#32) v30 x2 k0_pay5 X4 X10 G inb y hy
  have h4 : S4 = sums i x2 x3 (arg4.view.read (Elt F) X4) (arg10.view.read (Elt F) X10) (arg6.view.read (Elt F) X6) (lastC i + 1) := by
    rw [hS4, hS3, hraw]
    show st_k0_t4 (F := F) Variants.none c none i arg2 harg2 arg3 harg3 arg4 harg4 arg5 harg5 arg6 harg6 arg7 harg7 arg8 harg8 arg9 harg9 arg10 harg10 v23 (k0_pay4 x3) S2.1 v37 _ _ _ X6 X9 _ (k0_t4_loop i).trips = _
    rw [h2, h23, trips_t4]
    exact state4 c i arg2 harg2 arg3 harg3 arg4 harg4 arg5 harg5 arg6 harg6 arg7 harg7 arg8 harg8 arg9 harg9 arg10 harg10 (nWord i) v37 x2 x3 _ _ X6 X9 h9 (lastC i + 1) (trips_t4 i).ge
  rw [hS5, h4]
  rfl

theorem chunksB (i : grid0.Coords) : runB.sl.v23 i = nWord i := by
  have h : ∀ n : Fin 192, runB.sl.v23 (atTile n) = nWord (atTile n) := by decide +kernel
  exact h (i 1)

/-- The rows that the run at a later tile stores. -/
theorem rowsB
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    runB.sl.r_6 c i arg2 harg2 arg3 harg3 arg4 harg4 arg5 harg5 arg6 harg6 arg7 harg7 arg8 harg8 arg9 harg9 arg10 harg10 x2 x3 x4 x6 x7 x9 x10 = outRows i x2 x3 x4 x10 x6 x7 := by
  have e2 : runB.sl.r c arg2 harg2 x2 = k0_pay3 x2 := by
    unfold runB.sl.r
    rw [View.readAt_full, harg2.read_unread]
  have e3 : runB.sl.r_1 c arg3 harg3 x3 = k0_pay4 x3 := by
    unfold runB.sl.r_1
    rw [View.readAt_full, harg3.read_unread]
  have eraw : runB.sl.r_3 c i arg2 harg2 arg4 harg4 arg10 harg10 x2 x4 x10 = rawLast i x2 (arg4.view.read (Elt F) (harg4.unread x4)) (arg10.view.read (Elt F) (harg10.unread x10)) := by
    have ho : 256 * ((64 * (i 1).val + 319) / 256) - 256 = 256 * lastC i := by unfold lastC; omega
    unfold runB.sl.r_3
    rw [e2, read_k arg4 _ ⟨lastC i, lastC_lt i⟩ _ (by rw [k0_off9_eq, ho]), read_s arg10 _ ⟨lastC i, lastC_lt i⟩ _ (by rw [k0_off10_eq, ho])]
    rfl
  have key := tile_rows c i arg2 harg2 arg3 harg3 arg4 harg4 arg5 harg5 arg6 harg6 arg7 harg7 arg8 harg8 arg9 harg9 arg10 harg10 (runB.sl.v23 i) (runB.sl.v30 i) (runB.sl.v37 i) (chunksB i) x2 x3 x7 (harg4.unread x4) (harg6.unread x6) (harg10.unread x10) (harg9.unread x9)
    (runB.sl.r_3 c i arg2 harg2 arg4 harg4 arg10 harg10 x2 x4 x10) eraw (k0_off11_inb i) _ rfl _ rfl _ rfl _ rfl _ rfl
  rw [harg4.read_unread, harg6.read_unread, harg10.read_unread] at key
  rw [← key]
  unfold runB.sl.r_6 runB.sl.r_2 runB.sl.r_4 runB.sl.r_5
  rw [e2, e3, View.readAt_full, harg7.read_unread]

theorem chunksA (i : grid0.Coords) : runA.sl.v23 i = nWord i := by
  have h : ∀ n : Fin 192, runA.sl.v23 (atTile n) = nWord (atTile n) := by decide +kernel
  exact h (i 1)

/-- The rows that the run at a head's first tile stores. -/
theorem rowsA (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    runA.sl.r_6 c i arg2 harg2 arg3 harg3 arg4 harg4 arg5 harg5 arg6 harg6 arg7 harg7 arg8 harg8 arg9 harg9 arg10 harg10 hc x2 x3 x4 x5 x6 x7 x9 x10 = outRows i x2 x3 x4 (ksFull x5) x6 x7 := by
  have e2 : runA.sl.r c arg2 harg2 x2 = k0_pay3 x2 := by
    unfold runA.sl.r
    rw [View.readAt_full, harg2.read_unread]
  have e3 : runA.sl.r_1 c arg3 harg3 x3 = k0_pay4 x3 := by
    unfold runA.sl.r_1
    rw [View.readAt_full, harg3.read_unread]
  have eraw : runA.sl.r_3 c i arg2 harg2 arg3 harg3 arg4 harg4 arg5 harg5 arg6 harg6 arg7 harg7 arg8 harg8 arg9 harg9 arg10 harg10 hc x2 x4 x5 x10 = rawLast i x2 (arg4.view.read (Elt F) (harg4.unread x4)) (arg10.view.read (Elt F) (arg10.view.writes (Elt F) (harg10.unread x10) (pb_k0_t1 (F := F) Variants.none c none i arg2 harg2 arg3 harg3 arg4 harg4 arg5 harg5 arg6 harg6 arg7 harg7 arg8 harg8 arg9 harg9 arg10 harg10 hc (harg5.unread x5) k0_t1_loop.trips))) := by
    have ho : 256 * ((64 * (i 1).val + 319) / 256) - 256 = 256 * lastC i := by unfold lastC; omega
    unfold runA.sl.r_3
    rw [e2, read_k arg4 _ ⟨lastC i, lastC_lt i⟩ _ (by rw [k0_off9_eq, ho]), read_s arg10 _ ⟨lastC i, lastC_lt i⟩ _ (by rw [k0_off10_eq, ho])]
    rfl
  have key := tile_rows c i arg2 harg2 arg3 harg3 arg4 harg4 arg5 harg5 arg6 harg6 arg7 harg7 arg8 harg8 arg9 harg9 arg10 harg10 (runA.sl.v23 i) (runA.sl.v30 i) (runA.sl.v37 i) (chunksA i) x2 x3 x7 (harg4.unread x4) (harg6.unread x6) (arg10.view.writes (Elt F) (harg10.unread x10) (pb_k0_t1 (F := F) Variants.none c none i arg2 harg2 arg3 harg3 arg4 harg4 arg5 harg5 arg6 harg6 arg7 harg7 arg8 harg8 arg9 harg9 arg10 harg10 hc (harg5.unread x5) k0_t1_loop.trips)) (harg9.unread x9)
    (runA.sl.r_3 c i arg2 harg2 arg3 harg3 arg4 harg4 arg5 harg5 arg6 harg6 arg7 harg7 arg8 harg8 arg9 harg9 arg10 harg10 hc x2 x4 x5 x10) eraw (k0_off11_inb i) _ rfl _ rfl _ rfl _ rfl _ rfl
  rw [harg4.read_unread, harg6.read_unread, read_ksFull c i arg2 harg2 arg3 harg3 arg4 harg4 arg5 harg5 arg6 harg6 arg7 harg7 arg8 harg8 arg9 harg9 arg10 harg10 hc, harg5.read_unread] at key
  rw [← key]
  unfold runA.sl.r_6 runA.sl.r_2 runA.sl.r_4 runA.sl.r_5
  rw [e2, e3, View.readAt_full, harg7.read_unread]

theorem outBlk_eq (x2 : Vec F S1x1x1x512x128 .fp8e4m3) (x3 : Vec F S1x1x1x1x512 .f32) (x4 : Vec F S1x1x12288x128 .fp8e4m3) (x10 : Vec F S12288x128 .f32)
    (x6 : Vec F S1x1x128x12288 .fp8e4m3) (x7 : Vec F S1x1x1x128 .f32) : outBlk i x2 x3 x4 x10 x6 x7 = blkOf (outRows i x2 x3 x4 x10 x6 x7) := rfl

/-- The block after the run at a later tile. -/
theorem runB_block (hc : ¬ k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) (f : BufTy.Contents (Elt F) arg8.view.ty) :
    arg8.view.read (Elt F) (arg8.view.writes (Elt F) f (runB c i arg2 harg2 arg3 harg3 arg4 harg4 arg5 harg5 arg6 harg6 arg7 harg7 arg8 harg8 arg9 harg9 arg10 harg10 hc x2 x3 x4 x5 x6 x7 x9 x10).2.1) = outBlk i x2 x3 x4 x10 x6 x7 := by
  have e := rowsB c i arg2 harg2 arg3 harg3 arg4 harg4 arg5 harg5 arg6 harg6 arg7 harg7 arg8 harg8 arg9 harg9 arg10 harg10 x2 x3 x4 x5 x6 x7 x9 x10
  rw [outBlk_eq, ← e, ← read_stores arg8]
  refine congrArg (fun L => arg8.view.read (Elt F) (arg8.view.writes (Elt F) f L)) ?_
  have p0 : runB.sl.r_7 c i arg2 harg2 arg3 harg3 arg4 harg4 arg5 harg5 arg6 harg6 arg7 harg7 arg8 harg8 arg9 harg9 arg10 harg10 x2 x3 x4 x6 x7 x9 x10 = headOf (runB.sl.r_6 c i arg2 harg2 arg3 harg3 arg4 harg4 arg5 harg5 arg6 harg6 arg7 harg7 arg8 harg8 arg9 harg9 arg10 harg10 x2 x3 x4 x6 x7 x9 x10) 0 := funext (head0 _ _ _)
  unfold runB stores
  dsimp only
  rw [p0]
  rfl

/-- The block after the run at a head's first tile. -/
theorem runA_block (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) (f : BufTy.Contents (Elt F) arg8.view.ty) :
    arg8.view.read (Elt F) (arg8.view.writes (Elt F) f (runA c i arg2 harg2 arg3 harg3 arg4 harg4 arg5 harg5 arg6 harg6 arg7 harg7 arg8 harg8 arg9 harg9 arg10 harg10 hc x2 x3 x4 x5 x6 x7 x9 x10).2.2.1) = outBlk i x2 x3 x4 (ksFull x5) x6 x7 := by
  have e := rowsA c i arg2 harg2 arg3 harg3 arg4 harg4 arg5 harg5 arg6 harg6 arg7 harg7 arg8 harg8 arg9 harg9 arg10 harg10 hc x2 x3 x4 x5 x6 x7 x9 x10
  rw [outBlk_eq, ← e, ← read_stores arg8]
  refine congrArg (fun L => arg8.view.read (Elt F) (arg8.view.writes (Elt F) f L)) ?_
  have p0 : runA.sl.r_7 c i arg2 harg2 arg3 harg3 arg4 harg4 arg5 harg5 arg6 harg6 arg7 harg7 arg8 harg8 arg9 harg9 arg10 harg10 hc x2 x3 x4 x5 x6 x7 x9 x10 = headOf (runA.sl.r_6 c i arg2 harg2 arg3 harg3 arg4 harg4 arg5 harg5 arg6 harg6 arg7 harg7 arg8 harg8 arg9 harg9 arg10 harg10 hc x2 x3 x4 x5 x6 x7 x9 x10) 0 := funext (head0 _ _ _)
  unfold runA stores
  dsimp only
  rw [p0]
  rfl

/-- The scale scratch after the run at a head's first tile. -/
theorem runA_scales (hc : k0_cond1 i = 1#1)
    (x2 : Vec F S1x1x1x512x128 .fp8e4m3) (x3 : Vec F S1x1x1x1x512 .f32) (x4 : Vec F S1x1x12288x128 .fp8e4m3)
    (x5 : Vec F S1x1x96x128 .f32) (x6 : Vec F S1x1x128x12288 .fp8e4m3) (x7 : Vec F S1x1x1x128 .f32)
    (x9 : Vec F S12288x512 .f32) (x10 : Vec F S12288x128 .f32) :
    arg10.view.read (Elt F) (arg10.view.writes (Elt F) (harg10.unread x10) (runA c i arg2 harg2 arg3 harg3 arg4 harg4 arg5 harg5 arg6 harg6 arg7 harg7 arg8 harg8 arg9 harg9 arg10 harg10 hc x2 x3 x4 x5 x6 x7 x9 x10).2.1) = ksFull x5 := by
  have e := read_ksFull c i arg2 harg2 arg3 harg3 arg4 harg4 arg5 harg5 arg6 harg6 arg7 harg7 arg8 harg8 arg9 harg9 arg10 harg10 hc (harg5.unread x5) (harg10.unread x10)
  rw [harg5.read_unread] at e
  exact e

end Cert.KernelIdeal.Attn
-- ==== Proof.Body.Launch.lean ====
/- The launch: what each grid point finds and leaves in its buffers. The score scratch may hold anything between two
   points; the scale scratch holds, after a point, the scales of that point's head, which the next point of the same
   head reads. -/
module

public import proofs.«01_k».proof.Proof.Body.Out
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The grid -/

/-- The scale scratch is filled at the first tile of each head. -/
theorem cond1_iff : ∀ t : Fin cfg0.N, k0_cond1 (grid0.coords t) = 1#1 ↔ t.val % 192 = 0 :=
  (by decide +kernel : ∀ t : Fin grid0.N, k0_cond1 (grid0.coords t) = 1#1 ↔ t.val % 192 = 0)

theorem index3 : ∀ t : Fin cfg0.N, win0_3.index t = ![t.val / 1536, t.val / 192 % 8, 0, 0] :=
  (by decide +kernel : ∀ t : Fin grid0.N, win0_3.index t = ![t.val / 1536, t.val / 192 % 8, 0, 0])

/-- Two points of one head read the same key scales. -/
theorem scales_same (c : Dev nD) (t t' : Fin cfg0.N) (h : t.val / 192 = t'.val / 192) : iblk m c 3 t = iblk m c 3 t' := by
  have e : win0_3.index t = win0_3.index t' := by
    rw [index3, index3, show t.val / 1536 = t'.val / 1536 by omega, h]
  funext y
  refine congrArg (V m c main_v3) (funext fun a => Fin.ext ?_)
  show win0_3.index t a * win0_3.block.size a + 1 * (y a).val = win0_3.index t' a * win0_3.block.size a + 1 * (y a).val
  rw [e]

/-! ### The invariant -/

/-- The scale scratch after point `t`. -/
def scalesAt (c : Dev nD) (t : Fin cfg0.N) : Vec F S12288x128 .f32 := ksFull (iblk m c 3 t)

/-- Before the first point the scratches hold anything; after point `n` the scale scratch holds its head's scales. -/
def PhiS (c : Dev nD) : (n : ℕ) → n ≤ cfg0.N → sProp 𝕄
  | 0, _ => Pipeline.ΦA spec0 c
  | n + 1, hn => iprop(((∃ x, owns (c : Thread nD τ) (Memref.whole cc0_scratch0) fullShare x)
      ∗ owns (c : Thread nD τ) (Memref.whole cc0_scratch1) fullShare (scalesAt m c ⟨n, hn⟩)) ∗ ∃ r, prngReg c r)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(((∃ x, owns (c : Thread nD τ) (Memref.whole cc0_scratch0) fullShare x)
      ∗ owns (c : Thread nD τ) (Memref.whole cc0_scratch1) fullShare (scalesAt m c ⟨n, hn⟩)) ∗ ∃ r, prngReg c r) := rfl

theorem PhiS_pos (c : Dev nD) (n : ℕ) (h : n ≤ cfg0.N) (hz : n ≠ 0) :
    PhiS m c n h = iprop(((∃ x, owns (c : Thread nD τ) (Memref.whole cc0_scratch0) fullShare x)
      ∗ owns (c : Thread nD τ) (Memref.whole cc0_scratch1) fullShare (scalesAt m c ⟨n - 1, by omega⟩)) ∗ ∃ r, prngReg c r) := by
  obtain ⟨n, rfl⟩ := Nat.exists_eq_succ_of_ne_zero hz
  rfl

theorem PhiA_eq (c : Dev nD) : (Pipeline.ΦA spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

/-- At any position the scratches hold something. -/
theorem PhiS_any (c : Dev nD) (n : ℕ) (h : n ≤ cfg0.N) :
    PhiS m c n h ⊢ iprop(((∃ x, owns (c : Thread nD τ) (Memref.whole cc0_scratch0) fullShare x)
      ∗ (∃ x, owns (c : Thread nD τ) (Memref.whole cc0_scratch1) fullShare x)) ∗ ∃ r, prngReg c r) := by
  by_cases hz : n = 0
  · rw [PhiS_zero m c n h hz, PhiA_eq]
    iintro ⟨⟨⟨%f0, H0⟩, ⟨%f1, H1⟩⟩, Hg⟩
    isplitr [Hg]; swap; · iexact Hg
    isplitl [H0]
    · iexists f0; rw [owns_whole]; iexact H0
    · iexists f1; rw [owns_whole]; iexact H1
  · rw [PhiS_pos m c n h hz]
    iintro ⟨⟨H0, H1⟩, Hg⟩
    isplitr [Hg]; swap; · iexact Hg
    isplitl [H0]; · iexact H0
    iexists _; iexact H1

/-! ### The proof data -/

/-- An input's buffer is left holding its block, the result's holds the tile's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (scalesAt m c t) (iblk m c 4 t) (iblk m c 5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (grid0.coords t) (iblk m c 0 t) (iblk m c 1 t) (iblk m c 2 t) (scalesAt m c t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-! ### The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point, in its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    show (dats m 0 c).owesAt () t.succ = (dats m 0 c).owesAt () t.castSucc from rfl,
    after0_0, after0_1, after0_2, after0_3, after0_4, after0_5, after0_6, PhiS_castSucc m c t]
  by_cases hc : k0_cond1 (grid0.coords t) = 1#1
  · refine (sep_mono (PhiS_any m c _ _) .rfl).trans ?_
    iintro ⟨⟨⟨⟨%x9, HS0⟩, ⟨%x10, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ hc (iblk m c 0 t) (iblk m c 1 t) (iblk m c 2 t) (iblk m c 3 t) (iblk m c 4 t) (iblk m c 5 t) x9 x10).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f, H6⟩, HS0, HS1⟩
    isplitl [Hg HS0 HS1]
    · isplitr [Hg]; swap; · iexact Hg
      isplitl [HS0]
      · iexists _; unfold owns; iexists _; isplitr; swap; · iexact HS0
        ipureintro; rfl
      · unfold owns; iexists _; isplitr; swap; · iexact HS1
        ipureintro; exact runA_scales _ _ _ _ _ _ _ _ _ _ _ _ _ _ _ _ _ _ _ _ hc _ _ _ _ _ _ _ _
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; exact runA_block _ _ _ _ _ _ _ _ _ _ _ _ _ _ _ _ _ _ _ _ hc _ _ _ _ _ _ _ _ _
  · have hz : t.val ≠ 0 := fun h => hc ((cond1_iff t).mpr (by rw [h]))
    have hm : t.val % 192 ≠ 0 := fun h => hc ((cond1_iff t).mpr h)
    have hs : scalesAt m c ⟨t.val - 1, by omega⟩ = scalesAt m c t :=
      congrArg ksFull (scales_same m c _ t (by show (t.val - 1) / 192 = _; omega))
    rw [PhiS_pos m c _ _ hz, hs]
    iintro ⟨⟨⟨⟨%x9, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ _ _ hc (iblk m c 0 t) (iblk m c 1 t) (iblk m c 2 t) (iblk m c 3 t) (iblk m c 4 t) (iblk m c 5 t) x9 (scalesAt m c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f, H6⟩, HS0, HS1⟩
    isplitl [Hg HS0 HS1]
    · isplitr [Hg]; swap; · iexact Hg
      isplitl [HS0]
      · iexists _; unfold owns; iexists _; isplitr; swap; · iexact HS0
        ipureintro; rfl
      · iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; exact runB_block _ _ _ _ _ _ _ _ _ _ _ _ _ _ _ _ _ _ _ _ hc _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  refine (PhiS_any m c _ _).trans ?_
  rw [PhiA_eq]
  simp only [owns_whole]
  iintro ⟨⟨⟨%x0, H0⟩, ⟨%x1, H1⟩⟩, Hg⟩
  isplitr [Hg]; swap; · iexact Hg
  isplitl [H0]
  · iexists x0; iexact H0
  · iexists x1; iexact H1

set_option backward.isDefEq.respectTransparency.types false in
set_option maxHeartbeats 800000 in
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame, at any interpretation of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.Entry.lean ====
/- The steps of the attention kernel read at one entry, over the extended reals. -/
module

public import proofs.«01_k».proof.Proof.Body.Block
public import Idealize.ShloMosaic.Lib.Pointwise

@[expose] public section

set_option maxRecDepth 16384

noncomputable section

namespace Cert.KernelIdeal.Attn

open Cert.KernelIdeal Cert.KernelIdeal.Gen
open Idealize.ShloMosaic

/-! The patterns' values. -/

theorem ofBits_ninf : Ideal.ofBits .f32 0xFF800000#32 = ⊥ := by simp [Ideal.ofBits, Ideal.ieee]
theorem ofBits_8 : Ideal.ofBits .f32 0x41000000#32 = 8 := by
  have : (8 : EReal) = ((8 : ℝ) : EReal) := rfl
  rw [this]; simp [Ideal.ofBits, Ideal.ieee, -EReal.coe_mul]; norm_num
theorem ofBits_448 : Ideal.ofBits .f32 0x43E00000#32 = 448 := by
  have : (448 : EReal) = ((448 : ℝ) : EReal) := rfl
  rw [this]; simp [Ideal.ofBits, Ideal.ieee, -EReal.coe_mul]; norm_num
theorem ofBits_256 : Ideal.ofBits .f32 0x43800000#32 = 256 := by
  have : (256 : EReal) = ((256 : ℝ) : EReal) := rfl
  rw [this]; simp [Ideal.ofBits, Ideal.ieee, -EReal.coe_mul]; norm_num
theorem ofBits_inv256 : Ideal.ofBits .f32 0x3B800000#32 = (((2 : ℝ) ^ 8)⁻¹ : ℝ) := by
  simp [Ideal.ofBits, Ideal.ieee, -EReal.coe_mul]; norm_num

theorem sle_ofNat (a b : ℕ) (ha : a < 2 ^ 31) (hb : b < 2 ^ 31) :
    (BitVec.ofNat 32 a).sle (BitVec.ofNat 32 b) = decide (a ≤ b) := by
  have h (n : ℕ) (hn : n < 2 ^ 31) : (BitVec.ofNat 32 n).toInt = n := by
    rw [BitVec.toInt_eq_toNat_of_lt (by rw [BitVec.toNat_ofNat]; omega), BitVec.toNat_ofNat, Nat.mod_eq_of_lt (by omega)]
  rw [BitVec.sle, h a ha, h b hb]
  simp

/-- The scale scratch: the key's scale times the score factor, on every lane. -/
theorem pay2_apply (v : Vec Ideal S1x1x1x128 .f32) (t l : Fin 128) :
    k0_pay2 v (ix2 t l) = v (ix4 0 0 0 t) * Named.named (F := Ideal) κ "score_log2" (φ := .f32) 0x3A8293EE#32 := by
  pointwise [k0_pay2]

/-- One raw score: the codes' product times the key's scale. -/
theorem pay6_apply (q : FVec Ideal S512x128 .fp8e4m3) (k : Vec Ideal S1x1x256x128 .fp8e4m3) (s : Vec Ideal S256x128 .f32)
    (j : Fin 256) (r : Fin 512) (hs : ∀ l : Fin 128, s (ix2 j l) = s (ix2 j 0)) :
    k0_pay6 q k s (ix2 j r) = (∑ d : Fin 128, k (ix4 0 0 j d) * q (ix2 r d)) * s (ix2 j 0) := by
  pointwise [k0_pay6]
  congr 1
  split_ifs <;> exact hs _

theorem pay12_eq (q : FVec Ideal S512x128 .fp8e4m3) (k : Vec Ideal S1x1x256x128 .fp8e4m3) (s : Vec Ideal S256x128 .f32) :
    k0_pay12 q k s = k0_pay6 q k s := rfl

theorem pay8_apply (q : FVec Ideal S512x128 .fp8e4m3) (m : FVec Ideal S8x512 .f32) (k : Vec Ideal S1x1x256x128 .fp8e4m3) (s : Vec Ideal S256x128 .f32)
    (u : Fin 8) (r : Fin 512) :
    k0_pay8 q m k s (ix2 u r) = max (m (ix2 u r)) ((Finset.univ : Finset (Fin 32)).sup fun g =>
      k0_pay6 q k s (ix2 ⟨g.val * 8 + u.val, by omega⟩ r)) := by
  pointwise [k0_pay8]
  rw [ofBits_ninf]; rfl

theorem pay15_apply (x : FVec Ideal S256x512 .f32) (a b : IVec S256x512 32) (j : Fin 256) (r : Fin 512) :
    k0_pay15 x a b (ix2 j r) = if (a (ix2 j r)).sle (b (ix2 j r)) then x (ix2 j r) else ⊥ := by
  pointwise [k0_pay15]
  rw [ofBits_ninf]
  show Scalar.select (BitVec.ofBool _) _ _ = _
  cases (a (ix2 j r)).sle (b (ix2 j r)) <;> rfl

theorem pay13_apply (n : ℕ) (hn : n < 48) (j : Fin 256) (r : Fin 512) :
    k0_pay13 (BitVec.ofNat 32 (n + 1)) (ix2 j r) = BitVec.ofNat 32 (256 * n + j.val) := by
  pointwise [k0_pay13]
  apply BitVec.eq_of_toNat_eq
  show ((BitVec.ofNat 32 (n + 1) - 1#32) * 256#32 + BitVec.ofNat 32 j.val).toNat = _
  simp only [BitVec.toNat_add, BitVec.toNat_mul, BitVec.toNat_sub, BitVec.toNat_ofNat]
  omega

/-- The kernel's remainder of a row's number by 64, as the words compute it. -/
def remWord (r : ℕ) : BitVec 32 :=
  Scalar.select
    (IntOp.andi
      (IntOp.xori
        (IntOp.cmpi CmpIPredicate.slt
          (IntOp.remsi ArithUnit.vector (BitVec.ofNat 32 r)
            (Scalar.select (Scalar.cmpi CmpIPredicate.eq 64#32 0#32) 1#32 64#32))
          0#32)
        (Scalar.cmpi CmpIPredicate.slt (Scalar.select (Scalar.cmpi CmpIPredicate.eq 64#32 0#32) 1#32 64#32) 0#32))
      (IntOp.cmpi CmpIPredicate.ne
        (IntOp.remsi ArithUnit.vector (BitVec.ofNat 32 r)
          (Scalar.select (Scalar.cmpi CmpIPredicate.eq 64#32 0#32) 1#32 64#32))
        0#32))
    (IntOp.addi
      (IntOp.remsi ArithUnit.vector (BitVec.ofNat 32 r)
        (Scalar.select (Scalar.cmpi CmpIPredicate.eq 64#32 0#32) 1#32 64#32))
      (Scalar.select (Scalar.cmpi CmpIPredicate.eq 64#32 0#32) 1#32 64#32))
    (IntOp.remsi ArithUnit.vector (BitVec.ofNat 32 r)
      (Scalar.select (Scalar.cmpi CmpIPredicate.eq 64#32 0#32) 1#32 64#32))

theorem rem64 : ∀ r : Fin 512, remWord r.val = BitVec.ofNat 32 (r.val % 64) := by decide +kernel

theorem pay14_apply (n : ℕ) (hn : n < 192) (j : Fin 256) (r : Fin 512) :
    k0_pay14 (BitVec.ofNat 32 n) (ix2 j r) = BitVec.ofNat 32 (64 * n + r.val % 64) := by
  pointwise [k0_pay14]
  have h := rem64 r
  unfold remWord at h
  rw [h]
  apply BitVec.eq_of_toNat_eq
  show (BitVec.ofNat 32 n * 64#32 + BitVec.ofNat 32 (r.val % 64)).toNat = _
  simp only [BitVec.toNat_add, BitVec.toNat_mul, BitVec.toNat_ofNat]
  omega

theorem pay17_apply (qs : FVec Ideal S1x512 .f32) (m : FVec Ideal S8x512 .f32) (x : FVec Ideal S256x512 .f32) (a b : IVec S256x512 32) (r : Fin 512) :
    k0_pay17 qs m x a b (ix2 0 r) = ((Finset.univ : Finset (Fin 8)).sup fun u => max (m (ix2 u r)) ((Finset.univ : Finset (Fin 32)).sup fun g =>
      k0_pay15 x a b (ix2 ⟨g.val * 8 + u.val, by omega⟩ r))) * qs (ix2 0 r) - 8 := by
  pointwise [k0_pay17]
  rw [ofBits_ninf, ofBits_8]; rfl

theorem pay20_apply (qs : FVec Ideal S1x512 .f32) (m : FVec Ideal S8x512 .f32) (x : FVec Ideal S256x512 .f32) (a b : IVec S256x512 32) (s : Vec Ideal S256x512 .f32) (j : Fin 256) (r : Fin 512) :
    k0_pay20 qs m x a b s (ix2 j r) = Ideal.exp2 (s (ix2 j r) * qs (ix2 0 r) - k0_pay17 qs m x a b (ix2 0 r)) := by
  pointwise [k0_pay20]
  rfl

theorem pay21_apply (qs : FVec Ideal S1x512 .f32) (m : FVec Ideal S8x512 .f32) (x : FVec Ideal S256x512 .f32) (a b : IVec S256x512 32) (acc : FVec Ideal S8x512 .f32) (s : Vec Ideal S256x512 .f32) (u : Fin 8) (r : Fin 512) :
    k0_pay21 qs m x a b acc s (ix2 u r) = acc (ix2 u r) + ∑ g : Fin 32, k0_pay20 qs m x a b s (ix2 ⟨g.val * 8 + u.val, by omega⟩ r) := by
  pointwise [k0_pay21]

theorem pay22_apply (qs : FVec Ideal S1x512 .f32) (m : FVec Ideal S8x512 .f32) (x : FVec Ideal S256x512 .f32) (a b : IVec S256x512 32) (acc : FVec Ideal S128x512 .f32) (s : Vec Ideal S256x512 .f32)
    (v : Vec Ideal S1x1x128x256 .fp8e4m3) (d : Fin 128) (r : Fin 512) :
    k0_pay22 qs m x a b acc s v (ix2 d r) = acc (ix2 d r) + ∑ j : Fin 256, v (ix4 0 0 d j) * min 448 (max 0 (k0_pay20 qs m x a b s (ix2 j r))) := by
  pointwise [k0_pay22]
  rw [ofBits_448]

theorem pay26_apply (l : FVec Ideal S8x512 .f32) (acc : FVec Ideal S128x512 .f32) (vs : Vec Ideal S1x1x1x128 .f32) (r : Fin 512) (d : Fin 128) :
    k0_pay26 l acc vs (ix2 r d) = Ideal.div (acc (ix2 d r)) (∑ u : Fin 8, l (ix2 u r)) * vs (ix4 0 0 0 d) := by
  pointwise [k0_pay26]

theorem pay3_apply (q : Vec Ideal S1x1x1x512x128 .fp8e4m3) (r : Fin 512) (d : Fin 128) :
    k0_pay3 q (ix2 r d) = q (ix5 0 0 0 r d) := by
  pointwise [k0_pay3]

theorem pay4_apply (q : Vec Ideal S1x1x1x1x512 .f32) (r : Fin 512) :
    k0_pay4 q (ix2 0 r) = q (ix5 0 0 0 0 r) := by
  pointwise [k0_pay4]

theorem pay5_apply (u : Fin 8) (r : Fin 512) : k0_pay5 (F := Ideal) (ix2 u r) = ⊥ := by
  pointwise [k0_pay5]
  exact ofBits_ninf

theorem pay16_eq (x : FVec Ideal S256x512 .f32) (a b : IVec S256x512 32) : k0_pay16 x a b = k0_pay15 x a b := by
  funext y
  obtain ⟨j, r, rfl⟩ : ∃ (j : Fin 256) (r : Fin 512), y = ix2 j r := ⟨y 0, y 1, eq_ix2 y⟩
  pointwise [k0_pay16]

theorem pay7_eq (q : FVec Ideal S512x128 .fp8e4m3) (k : Vec Ideal S1x1x256x128 .fp8e4m3) (s : Vec Ideal S256x128 .f32) : k0_pay7 q k s = k0_pay6 q k s := by
  funext y
  obtain ⟨j, r, rfl⟩ : ∃ (j : Fin 256) (r : Fin 512), y = ix2 j r := ⟨y 0, y 1, eq_ix2 y⟩
  pointwise [k0_pay7]

theorem pay18_apply (u : Fin 8) (r : Fin 512) : k0_pay18 (F := Ideal) (ix2 u r) = 0 := by
  pointwise [k0_pay18]

theorem pay19_apply (d : Fin 128) (r : Fin 512) : k0_pay19 (F := Ideal) (ix2 d r) = 0 := by
  pointwise [k0_pay19]

end Cert.KernelIdeal.Attn

end
-- ==== Proof.Row.lean ====
/- One query row of causal attention over the extended reals, written twice. The plain way scores every key, subtracts the
   row's greatest score before the exponential, and divides the weighted sum of values by the sum of the weights. The other
   way looks only at the first `K` keys, folds the score factor and the change to base two into the key scales, scales by the
   query's scale last, and shifts the exponent by 8. They agree for every row whose query scale is positive (`row_eq`). -/
module

public import Idealize.ShloMosaic.PureOps.Ideal
public import Idealize.ShloMosaic.PureOps.Ideal.Laws

@[expose] public section

noncomputable section

namespace Cert.Row

open Idealize.ShloMosaic Finset

/-- `log₂ e`. -/
def e2 : ℝ := (Real.log 2)⁻¹
/-- The factor of a score: `128^(-3/2)`. -/
def c1 : ℝ := (128 * Real.sqrt 128)⁻¹
/-- The factor of a score in base two. -/
def c2 : ℝ := ((128 * Real.sqrt 128) * Real.log 2)⁻¹

theorem e2_pos : 0 < e2 := inv_pos.mpr (Real.log_pos (by norm_num))
theorem c2_eq : c2 = c1 * e2 := by unfold c2 c1 e2; rw [mul_inv]

section plain
variable (a ks vf : ℕ → EReal) (qs vs : EReal) (pos N : ℕ)

/-- The score of key `t`, masked. `a t` is the product of the query's codes with the key's. -/
def score (t : ℕ) : EReal := if t ≤ pos then a t * qs * ks t * (c1 : EReal) else ⊥
/-- The greatest score of the row. -/
def top : EReal := (range N).sup (score a ks qs pos)
/-- The weight of key `t` before the division. -/
def weight (t : ℕ) : EReal := Ideal.exp (score a ks qs pos t - top a ks qs pos N)
/-- The sum of the weights. -/
def total : EReal := ∑ t ∈ range N, weight a ks qs pos N t
/-- The weighted sum of values, each weight as the code it is rounded to: 256 times it, kept in [0, 448]. -/
def mix : EReal := ∑ t ∈ range N, vf t * min 448 (max 0 (weight a ks qs pos N t * 256))
/-- One element of the row's result. -/
def out : EReal := Ideal.div (mix a ks vf qs pos N * (((2 : ℝ) ^ 8)⁻¹ : ℝ)) (total a ks qs pos N) * vs
end plain

section based
variable (a ks vf : ℕ → EReal) (qs vs : EReal) (pos K : ℕ)

/-- The masked score in base two, before the query's scale. -/
def score2 (t : ℕ) : EReal := if t ≤ pos then a t * (ks t * (c2 : EReal)) else ⊥
/-- The greatest of them over the keys visited. -/
def top2 : EReal := (range K).sup (score2 a ks pos)
/-- The weight of key `t`, 256 times the plain one. -/
def weight2 (t : ℕ) : EReal := Ideal.exp2 (score2 a ks pos t * qs - (top2 a ks pos K * qs - 8))
def total2 : EReal := ∑ t ∈ range K, weight2 a ks qs pos K t
def mix2 : EReal := ∑ t ∈ range K, vf t * min 448 (max 0 (weight2 a ks qs pos K t))
def out2 : EReal := Ideal.div (mix2 a ks vf qs pos K) (total2 a ks qs pos K) * vs
end based

theorem exp_nonneg (x : EReal) : 0 ≤ Ideal.exp x := by
  induction x with
  | bot => exact le_refl _
  | top => exact le_top
  | coe r => exact EReal.coe_nonneg.mpr (Real.exp_pos r).le

theorem exp_b : Ideal.exp ⊥ = 0 := rfl
theorem exp_t : Ideal.exp ⊤ = ⊤ := rfl
theorem exp2_b : Ideal.exp2 ⊥ = 0 := rfl
theorem exp2_t : Ideal.exp2 ⊤ = ⊤ := rfl

/-- An exponential in base two, shifted by 8, is 256 times the natural one: at the infinities too. -/
theorem exp2_shift (x M : EReal) :
    Ideal.exp2 (x * (e2 : EReal) - (M * (e2 : EReal) - 8)) = Ideal.exp (x - M) * 256 := by
  have h8 : (8 : EReal) = ((8 : ℝ) : EReal) := rfl
  have h256 : (256 : EReal) = ((256 : ℝ) : EReal) := rfl
  have hp : (0 : EReal) < (e2 : EReal) := by exact_mod_cast e2_pos
  have ht : (⊤ : EReal) * 256 = ⊤ := by rw [h256]; exact EReal.top_mul_coe_of_pos (by norm_num)
  induction M with
  | bot =>
    rw [EReal.bot_mul_of_pos hp]
    have : (⊥ : EReal) - 8 = ⊥ := by rw [h8]; rfl
    rw [this]
    induction x with
    | bot => rw [EReal.bot_mul_of_pos hp, EReal.bot_sub, exp2_b, exp_b, zero_mul]
    | top => rw [EReal.top_mul_of_pos hp, EReal.top_sub_bot, exp2_t, exp_t, ht]
    | coe r => rw [← EReal.coe_mul, EReal.coe_sub_bot, EReal.coe_sub_bot, exp2_t, exp_t, ht]
  | top =>
    rw [EReal.top_mul_of_pos hp]
    have : (⊤ : EReal) - 8 = ⊤ := by rw [h8]; rfl
    rw [this, EReal.sub_top, EReal.sub_top, exp2_b, exp_b, zero_mul]
  | coe s =>
    rw [← EReal.coe_mul, h8, ← EReal.coe_sub]
    induction x with
    | bot => rw [EReal.bot_mul_of_pos hp, EReal.bot_sub, EReal.bot_sub, exp2_b, exp_b, zero_mul]
    | top =>
      rw [EReal.top_mul_of_pos hp, EReal.top_sub_coe, EReal.top_sub_coe]; exact ht.symm
    | coe r =>
      rw [← EReal.coe_mul, ← EReal.coe_sub, ← EReal.coe_sub, h256]
      show ((Real.rpow 2 _ : ℝ) : EReal) = ((Real.exp (r - s) : ℝ) : EReal) * ((256 : ℝ) : EReal)
      rw [← EReal.coe_mul]
      congr 1
      have hl : Real.log 2 ≠ 0 := (Real.log_pos (by norm_num)).ne'
      show (2 : ℝ) ^ (r * e2 - (s * e2 - 8)) = _
      have : r * e2 - (s * e2 - 8) = (r - s) * e2 + (8 : ℕ) := by push_cast; ring
      rw [this, Real.rpow_add (by norm_num), Real.rpow_natCast, Real.rpow_def_of_pos (by norm_num)]
      congr 1
      · congr 1; unfold e2; field_simp
      · norm_num

section
variable (a ks vf : ℕ → EReal) (qs vs : EReal) (pos K N : ℕ)

theorem score2_eq (hq : 0 < qs) (t : ℕ) : score2 a ks pos t * qs = score a ks qs pos t * (e2 : EReal) := by
  unfold score2 score
  split
  · rw [c2_eq, EReal.coe_mul]; ac_rfl
  · rw [EReal.bot_mul_of_pos hq, EReal.bot_mul_of_pos (by exact_mod_cast e2_pos)]

theorem top_visited (h : pos < K) (hK : K ≤ N) : top a ks qs pos N = top a ks qs pos K := by
  apply le_antisymm
  · refine Finset.sup_le fun t ht => ?_
    by_cases hp : t ≤ pos
    · exact Finset.le_sup (f := score a ks qs pos) (mem_range.mpr (by omega))
    · unfold score; rw [if_neg hp]; exact bot_le
  · exact Finset.sup_mono (range_subset_range.mpr hK)

theorem sup_mul (f : ℕ → EReal) (q : EReal) (hq : 0 < q) (hK : 0 < K) : (range K).sup f * q = (range K).sup fun t => f t * q := by
  apply le_antisymm
  · obtain ⟨t, ht, h⟩ := Finset.exists_mem_eq_sup (range K) ⟨0, mem_range.mpr hK⟩ f
    rw [h]; exact Finset.le_sup (f := fun t => f t * q) ht
  · exact Finset.sup_le fun t ht => mul_le_mul_of_nonneg_right (Finset.le_sup ht) hq.le

theorem top2_eq (hq : 0 < qs) (h : pos < K) (hK : K ≤ N) : top2 a ks pos K * qs = top a ks qs pos N * (e2 : EReal) := by
  rw [top_visited a ks qs pos K N h hK]
  unfold top2 top
  rw [sup_mul K _ _ hq (by omega), sup_mul K _ _ (by exact_mod_cast e2_pos) (by omega)]
  congr 1; funext t; exact score2_eq a ks qs pos hq t

theorem weight2_eq (hq : 0 < qs) (h : pos < K) (hK : K ≤ N) (t : ℕ) :
    weight2 a ks qs pos K t = weight a ks qs pos N t * 256 := by
  unfold weight2 weight
  rw [score2_eq a ks qs pos hq, top2_eq a ks qs pos K N hq h hK, exp2_shift]

theorem weight_masked (t : ℕ) (h : pos < t) : weight a ks qs pos N t = 0 := by
  unfold weight score
  rw [if_neg (by omega), EReal.bot_sub]; rfl

theorem sum_mul_256 (s : Finset ℕ) (f : ℕ → EReal) (hf : ∀ t, 0 ≤ f t) : ∑ t ∈ s, f t * 256 = (∑ t ∈ s, f t) * 256 := by
  classical
  induction s using Finset.induction_on with
  | empty => simp
  | insert x s hx ih =>
    rw [sum_insert hx, sum_insert hx, ih, EReal.right_distrib_of_nonneg (hf x) (sum_nonneg fun t _ => hf t)]

theorem sum_visited (f : ℕ → EReal) (hK : K ≤ N) (hf : ∀ t, K ≤ t → f t = 0) : ∑ t ∈ range N, f t = ∑ t ∈ range K, f t := by
  symm
  exact sum_subset (range_subset_range.mpr hK) fun t _ ht => hf t (by simpa using ht)

theorem total2_eq (hq : 0 < qs) (h : pos < K) (hK : K ≤ N) : total2 a ks qs pos K = total a ks qs pos N * 256 := by
  unfold total2 total
  rw [sum_visited K N _ hK fun t ht => weight_masked a ks qs pos N t (by omega),
    ← sum_mul_256 (range K) (weight a ks qs pos N) fun t => exp_nonneg _]
  exact sum_congr rfl fun t _ => weight2_eq a ks qs pos K N hq h hK t

theorem mix2_eq (hq : 0 < qs) (h : pos < K) (hK : K ≤ N) : mix2 a ks vf qs pos K = mix a ks vf qs pos N := by
  unfold mix2 mix
  rw [sum_visited K N _ hK fun t ht => by
    rw [weight_masked a ks qs pos N t (by omega), zero_mul, max_self, min_eq_right (by norm_num), mul_zero]]
  exact sum_congr rfl fun t _ => by rw [weight2_eq a ks qs pos K N hq h hK t]

theorem div_scaled (o l : EReal) : Ideal.div o (l * 256) = Ideal.div (o * (((2 : ℝ) ^ 8)⁻¹ : ℝ)) l := by
  have h256 : (256 : EReal) = ((256 : ℝ) : EReal) := rfl
  have hi : (0 : EReal) < ((((2 : ℝ) ^ 8)⁻¹ : ℝ) : EReal) := by exact_mod_cast (by positivity)
  have hz : l * 256 = 0 ↔ l = 0 := by
    rw [mul_eq_zero]; constructor
    · rintro (h | h)
      · exact h
      · exact absurd h (by rw [h256]; exact_mod_cast (by norm_num : (256 : ℝ) ≠ 0))
    · exact Or.inl
  unfold Ideal.div
  by_cases hl : l = 0
  · rw [if_pos hl, if_pos (hz.mpr hl)]
    have : 0 < o ↔ 0 < o * ((((2 : ℝ) ^ 8)⁻¹ : ℝ) : EReal) := by
      rw [EReal.mul_pos_iff]
      constructor
      · intro h; exact Or.inl ⟨h, hi⟩
      · rintro (h | h)
        · exact h.1
        · exact absurd h.2 (not_lt.mpr hi.le)
    by_cases ho : 0 < o
    · rw [if_pos ho, if_pos (this.mp ho)]
    · rw [if_neg ho, if_neg (fun h => ho (this.mpr h))]
  · rw [if_neg hl, if_neg (fun h => hl (hz.mp h)), EReal.mul_inv, h256, ← EReal.coe_inv,
      show ((2 : ℝ) ^ 8) = 256 by norm_num]
    ac_rfl

/-- The two ways agree. -/
theorem row_eq (hq : 0 < qs) (h : pos < K) (hK : K ≤ N) : out2 a ks vf qs vs pos K = out a ks vf qs vs pos N := by
  unfold out2 out
  rw [total2_eq a ks qs pos K N hq h hK, mix2_eq a ks vf qs pos K N hq h hK, div_scaled]

end

end Cert.Row

end
-- ==== Proof.Tile.lean ====
/- What one grid point's block of the result holds, entry by entry, over the extended reals: row `r` of query tile `n` is the
   row of causal attention at position `64·n + r mod 64`, over the keys of the chunks the tile visits. -/
module

public import proofs.«01_k».proof.Proof.Entry
public import proofs.«01_k».proof.Proof.Row

@[expose] public section

set_option maxRecDepth 16384

noncomputable section

namespace Cert.KernelIdeal.Attn

open Cert.KernelIdeal Cert.KernelIdeal.Gen
open Idealize.ShloMosaic Finset Cert

/-! Sums and maxima over chunks of 256. -/

theorem sum_chunk (f : ℕ → EReal) : ∑ u : Fin 8, ∑ g : Fin 32, f (g.val * 8 + u.val) = ∑ t ∈ range 256, f t := by
  rw [Finset.sum_comm, Finset.sum_range (n := 256) f, ← Finset.sum_product', Finset.univ_product_univ]
  refine Fintype.sum_equiv (finProdFinEquiv (m := 32) (n := 8)) _ _ fun p => ?_
  show f _ = f (p.2.val + 8 * p.1.val)
  congr 1; omega

theorem sum_chunks (f : ℕ → EReal) (k : ℕ) : ∑ c ∈ range k, ∑ t ∈ range 256, f (256 * c + t) = ∑ t ∈ range (256 * k), f t := by
  induction k with
  | zero => rfl
  | succ k ih => rw [sum_range_succ, ih, Nat.mul_succ, sum_range_add]

theorem sum_rows (f : ℕ → EReal) (k : ℕ) :
    ∑ u : Fin 8, ∑ c ∈ range k, ∑ g : Fin 32, f (256 * c + (g.val * 8 + u.val)) = ∑ t ∈ range (256 * k), f t := by
  rw [Finset.sum_comm, ← sum_chunks f k]
  exact sum_congr rfl fun c _ => sum_chunk fun t => f (256 * c + t)

section
variable (i : grid0.Coords) (x2 : Vec Ideal S1x1x1x512x128 .fp8e4m3) (x3 : Vec Ideal S1x1x1x1x512 .f32)
  (x4 : Vec Ideal S1x1x12288x128 .fp8e4m3) (x5 : Vec Ideal S1x1x96x128 .f32)
  (x6 : Vec Ideal S1x1x128x12288 .fp8e4m3) (x7 : Vec Ideal S1x1x1x128 .f32)

/-- The product of row `r`'s query codes with key `t`'s codes. -/
def qk (r : Fin 512) (t : ℕ) : EReal := if h : t < 12288 then ∑ d : Fin 128, x4 (ix4 0 0 ⟨t, h⟩ d) * x2 (ix5 0 0 0 r d) else 0
/-- Key `t`'s scale. -/
def ksc (t : ℕ) : EReal := if h : t < 12288 then x5 (ix4 0 0 ⟨t / 128, by omega⟩ ⟨t % 128, by omega⟩) else 0
/-- Channel `d` of key `t`'s value codes. -/
def vv (d : Fin 128) (t : ℕ) : EReal := if h : t < 12288 then x6 (ix4 0 0 d ⟨t, h⟩) else 0
/-- The position of row `r`. -/
def posOf (r : Fin 512) : ℕ := 64 * (i 1).val + r.val % 64

theorem named_c2 : Named.named (F := Ideal) κ "score_log2" (φ := .f32) 0x3A8293EE#32 = (Row.c2 : EReal) :=
  IdealRules.named_const.ideal_named_scalar _ _ _ _ rfl

theorem sBlock_apply (c : Fin 48) (j : Fin 256) (l : Fin 128) :
    sBlock (ksFull x5) c (ix2 j l) = ksc x5 (256 * c.val + j.val) * (Row.c2 : EReal) := by
  have h : 256 * c.val + j.val < 12288 := by omega
  refine (pay2_apply _ ⟨(256 * c.val + j.val) % 128, by omega⟩ l).trans ?_
  rw [named_c2]
  unfold ksc
  rw [dif_pos h]
  rfl

theorem raw_apply (c : Fin 48) (j : Fin 256) (r : Fin 512) :
    k0_pay6 (k0_pay3 x2) (kBlock x4 c) (sBlock (ksFull x5) c) (ix2 j r)
      = qk x2 x4 r (256 * c.val + j.val) * (ksc x5 (256 * c.val + j.val) * (Row.c2 : EReal)) := by
  have h : 256 * c.val + j.val < 12288 := by omega
  rw [pay6_apply _ _ _ _ _ (fun l => by rw [sBlock_apply, sBlock_apply]), sBlock_apply]
  congr 1
  unfold qk
  rw [dif_pos h]
  refine sum_congr rfl fun d _ => ?_
  rw [pay3_apply]; rfl

/-- Before the last chunk every key is visible. -/
theorem raw_visible (c : Fin 48) (hc : c.val < lastC i) (j : Fin 256) (r : Fin 512) :
    k0_pay6 (k0_pay3 x2) (kBlock x4 c) (sBlock (ksFull x5) c) (ix2 j r)
      = Row.score2 (qk x2 x4 r) (ksc x5) (posOf i r) (256 * c.val + j.val) := by
  rw [raw_apply]
  unfold Row.score2
  rw [if_pos]
  unfold lastC at hc; unfold posOf; omega

/-- The last chunk, masked. -/
theorem last_apply (j : Fin 256) (r : Fin 512) :
    k0_pay15 (rawLast i x2 x4 (ksFull x5)) (k0_pay13 (nWord i)) (k0_pay14 (BitVec.ofNat 32 (i 1).val)) (ix2 j r)
      = Row.score2 (qk x2 x4 r) (ksc x5) (posOf i r) (256 * lastC i + j.val) := by
  have hl := lastC_lt i
  have hi := i1_lt i
  unfold nWord rawLast
  rw [pay15_apply, pay13_apply _ hl, pay14_apply _ hi, sle_ofNat _ _ (by omega) (by omega), pay12_eq, raw_apply]
  unfold Row.score2 posOf
  simp only [decide_eq_true_eq]

theorem score_apply (c : Fin 48) (hc : c.val ≤ lastC i) (j : Fin 256) (r : Fin 512) :
    score i x2 x4 (ksFull x5) c (ix2 j r) = Row.score2 (qk x2 x4 r) (ksc x5) (posOf i r) (256 * c.val + j.val) := by
  unfold score
  by_cases h : c.val = lastC i
  · rw [if_pos h, pay16_eq, last_apply, h]
  · rw [if_neg h, pay7_eq, raw_visible i x2 x4 x5 c (by omega)]

theorem mx_apply (k : ℕ) (hk : k ≤ lastC i) (u : Fin 8) (r : Fin 512) :
    mx x2 x4 (ksFull x5) k (ix2 u r) = (range k).sup fun c => (univ : Finset (Fin 32)).sup fun g =>
      Row.score2 (qk x2 x4 r) (ksc x5) (posOf i r) (256 * c + (g.val * 8 + u.val)) := by
  have hl := lastC_lt i
  induction k with
  | zero => exact pay5_apply u r
  | succ k ih =>
    rw [mx, dif_pos (by omega : k < 48), pay8_apply, ih (by omega), range_add_one, sup_insert, sup_comm]
    congr 1
    refine Finset.sup_congr rfl fun g _ => ?_
    rw [raw_visible i x2 x4 x5 _ (by show k < _; omega)]

/-- The shift of the exponents: the row's greatest score, in base two, less 8. -/
theorem shift_apply (r : Fin 512) :
    k0_pay17 (k0_pay4 x3) (mx x2 x4 (ksFull x5) (lastC i)) (rawLast i x2 x4 (ksFull x5)) (k0_pay13 (nWord i)) (k0_pay14 (BitVec.ofNat 32 (i 1).val)) (ix2 0 r)
      = Row.top2 (qk x2 x4 r) (ksc x5) (posOf i r) (256 * (lastC i + 1)) * x3 (ix5 0 0 0 0 r) - 8 := by
  rw [pay17_apply, pay4_apply]
  congr 2
  apply eq_of_forall_ge_iff
  intro z
  unfold Row.top2
  simp only [Finset.sup_le_iff, max_le_iff, mem_univ, true_imp_iff, mx_apply i x2 x4 x5 _ le_rfl, last_apply, mem_range]
  constructor
  · intro h t ht
    have e : t = 256 * (t / 256) + (t % 256 / 8 * 8 + t % 8) := by omega
    have hu : t % 8 < 8 := by omega
    have hg : t % 256 / 8 < 32 := by omega
    rw [e]
    by_cases hc : t / 256 < lastC i
    · exact (h ⟨t % 8, hu⟩).1 _ hc ⟨t % 256 / 8, hg⟩
    · have := (h ⟨t % 8, hu⟩).2 ⟨t % 256 / 8, hg⟩
      have hq : t / 256 = lastC i := by omega
      rw [hq]; exact this
  · intro h u
    exact ⟨fun c hc g => h _ (by omega), fun g => h _ (by omega)⟩

theorem weight_apply (c : Fin 48) (hc : c.val ≤ lastC i) (j : Fin 256) (r : Fin 512) :
    k0_pay20 (k0_pay4 x3) (mx x2 x4 (ksFull x5) (lastC i)) (rawLast i x2 x4 (ksFull x5)) (k0_pay13 (nWord i)) (k0_pay14 (BitVec.ofNat 32 (i 1).val)) (score i x2 x4 (ksFull x5) c) (ix2 j r)
      = Row.weight2 (qk x2 x4 r) (ksc x5) (x3 (ix5 0 0 0 0 r)) (posOf i r) (256 * (lastC i + 1)) (256 * c.val + j.val) := by
  rw [pay20_apply, shift_apply, pay4_apply, score_apply i x2 x4 x5 c hc]; rfl

theorem sums1_apply (k : ℕ) (hk : k ≤ lastC i + 1) (u : Fin 8) (r : Fin 512) :
    (sums i x2 x3 x4 (ksFull x5) x6 k).1 (ix2 u r) = ∑ c ∈ range k, ∑ g : Fin 32,
      Row.weight2 (qk x2 x4 r) (ksc x5) (x3 (ix5 0 0 0 0 r)) (posOf i r) (256 * (lastC i + 1)) (256 * c + (g.val * 8 + u.val)) := by
  have hl := lastC_lt i
  induction k with
  | zero => exact pay18_apply u r
  | succ k ih =>
    rw [sums, dif_pos (by omega : k < 48)]
    show k0_pay21 _ _ _ _ _ _ _ _ = _
    rw [pay21_apply, ih (by omega), sum_range_succ]
    congr 1
    refine sum_congr rfl fun g _ => ?_
    rw [weight_apply i x2 x3 x4 x5 _ (by show k ≤ _; omega)]

theorem sums2_apply (k : ℕ) (hk : k ≤ lastC i + 1) (d : Fin 128) (r : Fin 512) :
    (sums i x2 x3 x4 (ksFull x5) x6 k).2 (ix2 d r) = ∑ c ∈ range k, ∑ t ∈ range 256,
      vv x6 d (256 * c + t) * min 448 (max 0 (Row.weight2 (qk x2 x4 r) (ksc x5) (x3 (ix5 0 0 0 0 r)) (posOf i r) (256 * (lastC i + 1)) (256 * c + t))) := by
  have hl := lastC_lt i
  induction k with
  | zero => exact pay19_apply d r
  | succ k ih =>
    rw [sums, dif_pos (by omega : k < 48)]
    show k0_pay22 _ _ _ _ _ _ _ _ _ = _
    rw [pay22_apply, ih (by omega), sum_range_succ]
    congr 1
    rw [sum_range (n := 256)]
    refine sum_congr rfl fun j _ => ?_
    rw [weight_apply i x2 x3 x4 x5 _ (by show k ≤ _; omega)]
    have h : 256 * k + j.val < 12288 := by omega
    congr 1
    unfold vv
    rw [dif_pos h]; rfl

/-- One entry of the tile's rows. -/
theorem outRows_apply (r : Fin 512) (d : Fin 128) :
    outRows i x2 x3 x4 (ksFull x5) x6 x7 (ix2 r d)
      = Row.out2 (qk x2 x4 r) (ksc x5) (vv x6 d) (x3 (ix5 0 0 0 0 r)) (x7 (ix4 0 0 0 d)) (posOf i r) (256 * (lastC i + 1)) := by
  unfold outRows
  rw [pay26_apply, sums2_apply i x2 x3 x4 x5 x6 _ le_rfl]
  unfold Row.out2 Row.total2 Row.mix2
  have hl : ∑ u : Fin 8, (sums i x2 x3 x4 (ksFull x5) x6 (lastC i + 1)).1 (ix2 u r)
      = ∑ t ∈ range (256 * (lastC i + 1)), Row.weight2 (qk x2 x4 r) (ksc x5) (x3 (ix5 0 0 0 0 r)) (posOf i r) (256 * (lastC i + 1)) t :=
    (sum_congr rfl fun u _ => sums1_apply i x2 x3 x4 x5 x6 _ le_rfl u r).trans (sum_rows _ _)
  rw [hl]
  congr 2
  exact sum_chunks (fun t => vv x6 d t * min 448 (max 0 (Row.weight2 (qk x2 x4 r) (ksc x5) (x3 (ix5 0 0 0 0 r)) (posOf i r) (256 * (lastC i + 1)) t))) _

/-- The same for a positive query scale: the row of causal attention over all the keys. -/
theorem outRows_row (r : Fin 512) (d : Fin 128) (hq : 0 < x3 (ix5 0 0 0 0 r)) :
    outRows i x2 x3 x4 (ksFull x5) x6 x7 (ix2 r d)
      = Row.out (qk x2 x4 r) (ksc x5) (vv x6 d) (x3 (ix5 0 0 0 0 r)) (x7 (ix4 0 0 0 d)) (posOf i r) 12288 := by
  have hl := lastC_lt i
  rw [outRows_apply]
  exact Row.row_eq _ _ _ _ _ _ _ _ hq (by unfold posOf lastC; omega) (by omega)

end

end Cert.KernelIdeal.Attn

end
-- ==== Proof.Result.lean ====
/- The result of the attention call as a plain function of its six arguments: entry `(b, s, 128·h + d)` is channel `d` of the
   row of causal attention of query head `h` at position `s` of batch `b`, with key and value head `h / 8`. -/
module

public import proofs.«01_k».proof.Proof.Row
public import Idealize.ShloMosaic.Lib.Pointwise

@[expose] public section

noncomputable section

namespace Cert.Attention

open Idealize.ShloMosaic

variable (q : FVec Ideal ⟨5, ![2, 8, 192, 512, 128]⟩ .fp8e4m3) (qs : FVec Ideal ⟨3, ![2, 12288, 64]⟩ .f32)
  (k : FVec Ideal ⟨4, ![2, 8, 12288, 128]⟩ .fp8e4m3) (ks : FVec Ideal ⟨3, ![2, 8, 12288]⟩ .f32)
  (v : FVec Ideal ⟨4, ![2, 8, 128, 12288]⟩ .fp8e4m3) (vs : FVec Ideal ⟨3, ![2, 8, 128]⟩ .f32)

/-- The key and value head of query head `h`. -/
def kvHead (h : Fin 64) : Fin 8 := ⟨h.val / 8, by omega⟩
/-- The row of the tile of 64 positions that holds query head `h` at position `s`. -/
def tileRow (h : Fin 64) (s : Fin 12288) : Fin 512 := ⟨64 * (h.val % 8) + s.val % 64, by omega⟩
/-- The tile of position `s`. -/
def tileOf (s : Fin 12288) : Fin 192 := ⟨s.val / 64, by omega⟩

/-- Every query scale is positive. -/
def Positive : Prop := ∀ y, 0 < (qs y : EReal)

/-- The product of the query's codes with key `t`'s. -/
def codes (b : Fin 2) (h : Fin 64) (s : Fin 12288) (t : ℕ) : EReal :=
  if ht : t < 12288 then ∑ d : Fin 128, k (ix4 b (kvHead h) ⟨t, ht⟩ d) * q (ix5 b (kvHead h) (tileOf s) (tileRow h s) d) else 0
/-- Key `t`'s scale. -/
def scales (b : Fin 2) (h : Fin 64) (t : ℕ) : EReal := if ht : t < 12288 then ks (ix3 b (kvHead h) ⟨t, ht⟩) else 0
/-- Channel `d` of key `t`'s value codes. -/
def values (b : Fin 2) (h : Fin 64) (d : Fin 128) (t : ℕ) : EReal := if ht : t < 12288 then v (ix4 b (kvHead h) d ⟨t, ht⟩) else 0

/-- One entry of the result. -/
def entry (b : Fin 2) (s : Fin 12288) (h : Fin 64) (d : Fin 128) : EReal :=
  Row.out (codes q k b h s) (scales ks b h) (values v b h d) (qs (ix3 b s h)) (vs (ix3 b (kvHead h) d)) s.val 12288

/-- The result. -/
def result : FVec Ideal ⟨3, ![2, 12288, 8192]⟩ .bf16 := fun y =>
  entry q qs k ks v vs (y 0) (y 1) ⟨(y 2).val / 128, by have := (y 2).isLt; change (y 2).val < 8192 at this; omega⟩
    ⟨(y 2).val % 128, Nat.mod_lt _ (by omega)⟩

end Cert.Attention

end
-- ==== Proof.Index.lean ====
/- Where each operand's block lies at each point of the grid: point `t` is query tile `t % 192` of key and value head
   `t / 192 % 8` of batch `t / 1536`. -/
module

public import proofs.«01_k».proof.Proof.Body.Launch

@[expose] public section

set_option maxRecDepth 16384

noncomputable section

namespace Cert.KernelIdeal.Attn

open Cert.KernelIdeal Cert.KernelIdeal.Gen
open Idealize.ShloMosaic Idealize.ShloMosaic.TcCoe

theorem N_eq : cfg0.N = 3072 := by decide +kernel

/-- The batch of point `t`. -/
def tb (t : Fin cfg0.N) : Fin 2 := ⟨t.val / 1536, by have h := t.isLt; have e := N_eq; omega⟩
/-- The key and value head of point `t`. -/
def tn (t : Fin cfg0.N) : Fin 8 := ⟨t.val / 192 % 8, Nat.mod_lt _ (by omega)⟩
/-- The query tile of point `t`. -/
def ti (t : Fin cfg0.N) : Fin 192 := ⟨t.val % 192, Nat.mod_lt _ (by omega)⟩

theorem coords1 : ∀ t : Fin cfg0.N, ((grid0.coords t) 1).val = t.val % 192 :=
  (by decide +kernel : ∀ t : Fin grid0.N, ((grid0.coords t) 1).val = t.val % 192)
theorem index0 : ∀ t : Fin cfg0.N, win0_0.index t = ![t.val / 1536, t.val / 192 % 8, t.val % 192, 0, 0] :=
  (by decide +kernel : ∀ t : Fin grid0.N, win0_0.index t = ![t.val / 1536, t.val / 192 % 8, t.val % 192, 0, 0])
theorem index1 : ∀ t : Fin cfg0.N, win0_1.index t = ![t.val / 1536, t.val / 192 % 8, t.val % 192, 0, 0] :=
  (by decide +kernel : ∀ t : Fin grid0.N, win0_1.index t = ![t.val / 1536, t.val / 192 % 8, t.val % 192, 0, 0])
theorem index2 : ∀ t : Fin cfg0.N, win0_2.index t = ![t.val / 1536, t.val / 192 % 8, 0, 0] :=
  (by decide +kernel : ∀ t : Fin grid0.N, win0_2.index t = ![t.val / 1536, t.val / 192 % 8, 0, 0])
theorem index4 : ∀ t : Fin cfg0.N, win0_4.index t = ![t.val / 1536, t.val / 192 % 8, 0, 0] :=
  (by decide +kernel : ∀ t : Fin grid0.N, win0_4.index t = ![t.val / 1536, t.val / 192 % 8, 0, 0])
theorem index5 : ∀ t : Fin cfg0.N, win0_5.index t = ![t.val / 1536, t.val / 192 % 8, 0, 0] :=
  (by decide +kernel : ∀ t : Fin grid0.N, win0_5.index t = ![t.val / 1536, t.val / 192 % 8, 0, 0])
theorem xsize6 : ∀ t : Fin cfg0.N, win0_6.xsize (grid0.coords t) = ![1, 64, 1024] :=
  (by decide +kernel : ∀ t : Fin grid0.N, win0_6.xsize (grid0.coords t) = ![1, 64, 1024])
theorem index6 : ∀ t : Fin cfg0.N, win0_6.index t = ![t.val / 1536, t.val % 192, t.val / 192 % 8] :=
  (by decide +kernel : ∀ t : Fin grid0.N, win0_6.index t = ![t.val / 1536, t.val % 192, t.val / 192 % 8])

end Cert.KernelIdeal.Attn

end
-- ==== Proof.Whole.lean ====
/- What the kernel's result array holds after the run, over the extended reals: every block is the tile of `Cert.Attention.result`
   it covers, and the blocks tile the array. -/
module

public import proofs.«01_k».proof.Proof.Tile
public import proofs.«01_k».proof.Proof.Result
public import proofs.«01_k».proof.Proof.Index
public import Idealize.ShloMosaic.Lib.Pipeline.Value
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ### The blocks the body reads, as entries of the arguments -/

theorem blk0 (t : Fin cfg0.N) (r : Fin 512) (d : Fin 128) : (iblk m c 0 t : Vec Ideal S1x1x1x512x128 .fp8e4m3) (ix5 (0 : Fin 1) (0 : Fin 1) (0 : Fin 1) r d)
    = (m ((c : Thread nD τ).loc main_arg0) : FVec Ideal S2x8x192x512x128 .fp8e4m3) (ix5 (tb t) (tn t) (ti t) r d) := by
  refine congrArg (m ((c : Thread nD τ).loc main_arg0) : FVec Ideal S2x8x192x512x128 .fp8e4m3) (funext fun a => Fin.ext ?_)
  show win0_0.index t a * win0_0.block.size a + 1 * ((ix5 (0 : Fin 1) (0 : Fin 1) (0 : Fin 1) r d) a).val = _
  rw [index0]
  match a with
  | ⟨0, _⟩ => show t.val / 1536 * 1 + 1 * 0 = t.val / 1536; omega
  | ⟨1, _⟩ => show t.val / 192 % 8 * 1 + 1 * 0 = t.val / 192 % 8; omega
  | ⟨2, _⟩ => show t.val % 192 * 1 + 1 * 0 = t.val % 192; omega
  | ⟨3, _⟩ => show 0 * 512 + 1 * r.val = r.val; omega
  | ⟨4, _⟩ => show 0 * 128 + 1 * d.val = d.val; omega

theorem blk1 (t : Fin cfg0.N) (r : Fin 512) : (iblk m c 1 t : Vec Ideal S1x1x1x1x512 .f32) (ix5 (0 : Fin 1) (0 : Fin 1) (0 : Fin 1) (0 : Fin 1) r)
    = (V m c main_v2 : FVec Ideal S2x8x192x1x512 .f32) (ix5 (tb t) (tn t) (ti t) (0 : Fin 1) r) := by
  refine congrArg (V m c main_v2 : FVec Ideal S2x8x192x1x512 .f32) (funext fun a => Fin.ext ?_)
  show win0_1.index t a * win0_1.block.size a + 1 * ((ix5 (0 : Fin 1) (0 : Fin 1) (0 : Fin 1) (0 : Fin 1) r) a).val = _
  rw [index1]
  match a with
  | ⟨0, _⟩ => show t.val / 1536 * 1 + 1 * 0 = t.val / 1536; omega
  | ⟨1, _⟩ => show t.val / 192 % 8 * 1 + 1 * 0 = t.val / 192 % 8; omega
  | ⟨2, _⟩ => show t.val % 192 * 1 + 1 * 0 = t.val % 192; omega
  | ⟨3, _⟩ => show 0 * 1 + 1 * 0 = 0; omega
  | ⟨4, _⟩ => show 0 * 512 + 1 * r.val = r.val; omega

theorem blk2 (t : Fin cfg0.N) (j : Fin 12288) (d : Fin 128) : (iblk m c 2 t : Vec Ideal S1x1x12288x128 .fp8e4m3) (ix4 (0 : Fin 1) (0 : Fin 1) j d)
    = (m ((c : Thread nD τ).loc main_arg2) : FVec Ideal S2x8x12288x128 .fp8e4m3) (ix4 (tb t) (tn t) j d) := by
  refine congrArg (m ((c : Thread nD τ).loc main_arg2) : FVec Ideal S2x8x12288x128 .fp8e4m3) (funext fun a => Fin.ext ?_)
  show win0_2.index t a * win0_2.block.size a + 1 * ((ix4 (0 : Fin 1) (0 : Fin 1) j d) a).val = _
  rw [index2]
  match a with
  | ⟨0, _⟩ => show t.val / 1536 * 1 + 1 * 0 = t.val / 1536; omega
  | ⟨1, _⟩ => show t.val / 192 % 8 * 1 + 1 * 0 = t.val / 192 % 8; omega
  | ⟨2, _⟩ => show 0 * 12288 + 1 * j.val = j.val; omega
  | ⟨3, _⟩ => show 0 * 128 + 1 * d.val = d.val; omega

theorem blk3 (t : Fin cfg0.N) (e : Fin 96) (l : Fin 128) : (iblk m c 3 t : Vec Ideal S1x1x96x128 .f32) (ix4 (0 : Fin 1) (0 : Fin 1) e l)
    = (V m c main_v3 : FVec Ideal S2x8x96x128 .f32) (ix4 (tb t) (tn t) e l) := by
  refine congrArg (V m c main_v3 : FVec Ideal S2x8x96x128 .f32) (funext fun a => Fin.ext ?_)
  show win0_3.index t a * win0_3.block.size a + 1 * ((ix4 (0 : Fin 1) (0 : Fin 1) e l) a).val = _
  rw [index3]
  match a with
  | ⟨0, _⟩ => show t.val / 1536 * 1 + 1 * 0 = t.val / 1536; omega
  | ⟨1, _⟩ => show t.val / 192 % 8 * 1 + 1 * 0 = t.val / 192 % 8; omega
  | ⟨2, _⟩ => show 0 * 96 + 1 * e.val = e.val; omega
  | ⟨3, _⟩ => show 0 * 128 + 1 * l.val = l.val; omega

theorem blk4 (t : Fin cfg0.N) (d : Fin 128) (j : Fin 12288) : (iblk m c 4 t : Vec Ideal S1x1x128x12288 .fp8e4m3) (ix4 (0 : Fin 1) (0 : Fin 1) d j)
    = (m ((c : Thread nD τ).loc main_arg4) : FVec Ideal S2x8x128x12288 .fp8e4m3) (ix4 (tb t) (tn t) d j) := by
  refine congrArg (m ((c : Thread nD τ).loc main_arg4) : FVec Ideal S2x8x128x12288 .fp8e4m3) (funext fun a => Fin.ext ?_)
  show win0_4.index t a * win0_4.block.size a + 1 * ((ix4 (0 : Fin 1) (0 : Fin 1) d j) a).val = _
  rw [index4]
  match a with
  | ⟨0, _⟩ => show t.val / 1536 * 1 + 1 * 0 = t.val / 1536; omega
  | ⟨1, _⟩ => show t.val / 192 % 8 * 1 + 1 * 0 = t.val / 192 % 8; omega
  | ⟨2, _⟩ => show 0 * 128 + 1 * d.val = d.val; omega
  | ⟨3, _⟩ => show 0 * 12288 + 1 * j.val = j.val; omega

theorem blk5 (t : Fin cfg0.N) (d : Fin 128) : (iblk m c 5 t : Vec Ideal S1x1x1x128 .f32) (ix4 (0 : Fin 1) (0 : Fin 1) (0 : Fin 1) d)
    = (V m c main_v4 : FVec Ideal S2x8x1x128 .f32) (ix4 (tb t) (tn t) (0 : Fin 1) d) := by
  refine congrArg (V m c main_v4 : FVec Ideal S2x8x1x128 .f32) (funext fun a => Fin.ext ?_)
  show win0_5.index t a * win0_5.block.size a + 1 * ((ix4 (0 : Fin 1) (0 : Fin 1) (0 : Fin 1) d) a).val = _
  rw [index5]
  match a with
  | ⟨0, _⟩ => show t.val / 1536 * 1 + 1 * 0 = t.val / 1536; omega
  | ⟨1, _⟩ => show t.val / 192 % 8 * 1 + 1 * 0 = t.val / 192 % 8; omega
  | ⟨2, _⟩ => show 0 * 1 + 1 * 0 = 0; omega
  | ⟨3, _⟩ => show 0 * 128 + 1 * d.val = d.val; omega

theorem V2 (b : Fin 2) (n : Fin 8) (i : Fin 192) (r : Fin 512) : (V m c main_v2 : FVec Ideal S2x8x192x1x512 .f32) (ix5 b n i 0 r)
    = (m ((c : Thread nD τ).loc main_arg1) : FVec Ideal S2x12288x64 .f32) (ix3 b ⟨i.val * 64 + r.val % 64, by omega⟩ ⟨n.val * 8 + r.val / 64, by omega⟩) := by
  entry_read
  pointwise []

theorem V3 (b : Fin 2) (n : Fin 8) (e : Fin 96) (l : Fin 128) : (V m c main_v3 : FVec Ideal S2x8x96x128 .f32) (ix4 b n e l)
    = (m ((c : Thread nD τ).loc main_arg3) : FVec Ideal S2x8x12288 .f32) (ix3 b n ⟨e.val * 128 + l.val, by omega⟩) := by
  entry_read
  pointwise []

theorem V4 (b : Fin 2) (n : Fin 8) (d : Fin 128) : (V m c main_v4 : FVec Ideal S2x8x1x128 .f32) (ix4 b n 0 d)
    = (m ((c : Thread nD τ).loc main_arg5) : FVec Ideal S2x8x128 .f32) (ix3 b n d) := by
  entry_read
  pointwise []

/-! ### One entry of the block a point stores -/

/-- The attention call's result on the arguments. -/
abbrev R : FVec Ideal S2x12288x8192 .bf16 := Cert.Attention.result (m ((c : Thread nD τ).loc main_arg0) : FVec Ideal S2x8x192x512x128 .fp8e4m3) (m ((c : Thread nD τ).loc main_arg1) : FVec Ideal S2x12288x64 .f32) (m ((c : Thread nD τ).loc main_arg2) : FVec Ideal S2x8x12288x128 .fp8e4m3) (m ((c : Thread nD τ).loc main_arg3) : FVec Ideal S2x8x12288 .f32) (m ((c : Thread nD τ).loc main_arg4) : FVec Ideal S2x8x128x12288 .fp8e4m3) (m ((c : Thread nD τ).loc main_arg5) : FVec Ideal S2x8x128 .f32)

/-- The position and the query head of row `r` of point `t`. -/
def posRow (t : Fin cfg0.N) (r : Fin 512) : Fin 12288 := ⟨(ti t).val * 64 + r.val % 64, by have := (ti t).isLt; omega⟩
def headRow (t : Fin cfg0.N) (r : Fin 512) : Fin 64 := ⟨(tn t).val * 8 + r.val / 64, by have := (tn t).isLt; omega⟩

theorem kvHead_row (t : Fin cfg0.N) (r : Fin 512) : Cert.Attention.kvHead (headRow t r) = tn t := by
  apply Fin.ext; show ((tn t).val * 8 + r.val / 64) / 8 = _; have := r.isLt; omega
theorem tileOf_row (t : Fin cfg0.N) (r : Fin 512) : Cert.Attention.tileOf (posRow t r) = ti t := by
  apply Fin.ext; show ((ti t).val * 64 + r.val % 64) / 64 = _; omega
theorem tileRow_row (t : Fin cfg0.N) (r : Fin 512) : Cert.Attention.tileRow (headRow t r) (posRow t r) = r := by
  apply Fin.ext; show 64 * (((tn t).val * 8 + r.val / 64) % 8) + ((ti t).val * 64 + r.val % 64) % 64 = _; have := r.isLt; omega

/-- A row of the tile of point `t` is the row of attention of its head and position. -/
theorem rows_at (hq : Cert.Attention.Positive (m ((c : Thread nD τ).loc main_arg1) : FVec Ideal S2x12288x64 .f32)) (t : Fin cfg0.N) (r : Fin 512) (d : Fin 128) :
    outRows (F := Ideal) (grid0.coords t) (iblk m c 0 t) (iblk m c 1 t) (iblk m c 2 t) (scalesAt m c t) (iblk m c 4 t) (iblk m c 5 t) (ix2 r d)
      = Cert.Attention.entry (m ((c : Thread nD τ).loc main_arg0) : FVec Ideal S2x8x192x512x128 .fp8e4m3) (m ((c : Thread nD τ).loc main_arg1) : FVec Ideal S2x12288x64 .f32) (m ((c : Thread nD τ).loc main_arg2) : FVec Ideal S2x8x12288x128 .fp8e4m3) (m ((c : Thread nD τ).loc main_arg3) : FVec Ideal S2x8x12288 .f32) (m ((c : Thread nD τ).loc main_arg4) : FVec Ideal S2x8x128x12288 .fp8e4m3) (m ((c : Thread nD τ).loc main_arg5) : FVec Ideal S2x8x128 .f32) (tb t) (posRow t r) (headRow t r) d := by
  have e1 : (iblk m c 1 t : Vec Ideal S1x1x1x1x512 .f32) (ix5 0 0 0 0 r) = (m ((c : Thread nD τ).loc main_arg1) : FVec Ideal S2x12288x64 .f32) (ix3 (tb t) (posRow t r) (headRow t r)) :=
    (blk1 m c t r).trans (V2 m c (tb t) (tn t) (ti t) r)
  have e5 : (iblk m c 5 t : Vec Ideal S1x1x1x128 .f32) (ix4 0 0 0 d) = (m ((c : Thread nD τ).loc main_arg5) : FVec Ideal S2x8x128 .f32) (ix3 (tb t) (tn t) d) :=
    (blk5 m c t d).trans (V4 m c (tb t) (tn t) d)
  have ep : posOf (grid0.coords t) r = (posRow t r).val := by
    unfold posOf; rw [coords1]; show _ = (t.val % 192) * 64 + r.val % 64; omega
  have ea : qk (iblk m c 0 t) (iblk m c 2 t) r
      = Cert.Attention.codes (m ((c : Thread nD τ).loc main_arg0) : FVec Ideal S2x8x192x512x128 .fp8e4m3) (m ((c : Thread nD τ).loc main_arg2) : FVec Ideal S2x8x12288x128 .fp8e4m3) (tb t) (headRow t r) (posRow t r) := by
    funext j
    unfold qk Cert.Attention.codes
    rw [kvHead_row, tileOf_row, tileRow_row]
    split
    · refine Finset.sum_congr rfl fun d _ => ?_
      rw [blk2, blk0]
    · rfl
  have es : ksc (iblk m c 3 t) = Cert.Attention.scales (m ((c : Thread nD τ).loc main_arg3) : FVec Ideal S2x8x12288 .f32) (tb t) (headRow t r) := by
    funext j
    unfold ksc Cert.Attention.scales
    rw [kvHead_row]
    split
    · rw [blk3, V3]
      refine congrArg (fun u => (m ((c : Thread nD τ).loc main_arg3) : FVec Ideal S2x8x12288 .f32) (ix3 (tb t) (tn t) u)) (Fin.ext ?_)
      show j / 128 * 128 + j % 128 = j; omega
    · rfl
  have ev : vv (iblk m c 4 t) d = Cert.Attention.values (m ((c : Thread nD τ).loc main_arg4) : FVec Ideal S2x8x128x12288 .fp8e4m3) (tb t) (headRow t r) d := by
    funext j
    unfold vv Cert.Attention.values
    rw [kvHead_row]
    split
    · rw [blk4]
    · rfl
  have h := outRows_row (grid0.coords t) (iblk m c 0 t) (iblk m c 1 t) (iblk m c 2 t) (iblk m c 3 t) (iblk m c 4 t) (iblk m c 5 t) r d
    (by rw [e1]; exact hq _)
  refine h.trans ?_
  rw [e1, e5, ep, ea, es, ev]
  unfold Cert.Attention.entry
  rw [kvHead_row]

/-- Equal coordinates, equal entries. -/
theorem entry_congr {q qs k ks v vs} {b b' : Fin 2} {s s' : Fin 12288} {h h' : Fin 64} {d d' : Fin 128} (eb : b.val = b'.val) (es : s.val = s'.val)
    (eh : h.val = h'.val) (ed : d.val = d'.val) : Cert.Attention.entry q qs k ks v vs b s h d = Cert.Attention.entry q qs k ks v vs b' s' h' d' := by
  rw [Fin.ext eb, Fin.ext es, Fin.ext eh, Fin.ext ed]

/-- What point `t` writes back is block `t` of the result. -/
theorem flushed_eq (hq : Cert.Attention.Positive (m ((c : Thread nD τ).loc main_arg1) : FVec Ideal S2x12288x64 .f32)) (t : Fin cfg0.N) :
    (dats m 0 c).flushed 6 t = ((cfg0.win 6).blk t).view.read (Elt Ideal) (R m c) := by
  show (cfg0.win 6).cut (grid0.coords t) ((dats m 0 c).after 6 t) = _
  rw [after0_6]
  funext y
  have hy1 : (y 1).val < 64 := lt_of_lt_of_le (y 1).isLt (by show win0_6.xsize (grid0.coords t) 1 ≤ 64; rw [xsize6]; exact le_rfl)
  have hy2 : (y 2).val < 1024 := lt_of_lt_of_le (y 2).isLt (by show win0_6.xsize (grid0.coords t) 2 ≤ 1024; rw [xsize6]; exact le_rfl)
  have hy0 : (y 0).val < 1 := lt_of_lt_of_le (y 0).isLt (by show win0_6.xsize (grid0.coords t) 0 ≤ 1; rw [xsize6]; exact le_rfl)
  refine (rows_at m c hq t ⟨64 * ((y 2).val / 128) + (y 1).val, by omega⟩ ⟨(y 2).val % 128, Nat.mod_lt _ (by omega)⟩).trans ?_
  refine entry_congr (q := (m ((c : Thread nD τ).loc main_arg0) : FVec Ideal S2x8x192x512x128 .fp8e4m3)) ?_ ?_ ?_ ?_
  · show t.val / 1536 = win0_6.index t 0 * 1 + 1 * (y 0).val
    rw [index6]; show t.val / 1536 = t.val / 1536 * 1 + 1 * (y 0).val; omega
  · show t.val % 192 * 64 + (64 * ((y 2).val / 128) + (y 1).val) % 64 = win0_6.index t 1 * 64 + 1 * (y 1).val
    rw [index6]; show _ = t.val % 192 * 64 + 1 * (y 1).val; omega
  · show t.val / 192 % 8 * 8 + (64 * ((y 2).val / 128) + (y 1).val) / 64 = (win0_6.index t 2 * 1024 + 1 * (y 2).val) / 128
    rw [index6]; show _ = (t.val / 192 % 8 * 1024 + 1 * (y 2).val) / 128; omega
  · show (y 2).val % 128 = (win0_6.index t 2 * 1024 + 1 * (y 2).val) % 128
    rw [index6]; show _ = (t.val / 192 % 8 * 1024 + 1 * (y 2).val) % 128; omega

/-- An entry of the result is in point `t`'s block when each coordinate is in the block's range. -/
theorem mem_blk (t : Fin cfg0.N) (i : S2x12288x8192.Idx) (h0 : (i 0).val = t.val / 1536) (h1 : (i 1).val / 64 = t.val % 192)
    (h2 : (i 2).val / 1024 = t.val / 192 % 8) : i ∈ ((cfg0.win 6).blk t).view.set := by
  show i ∈ ((View.whole main_v5).slice (win0_6.rect t)).set
  rw [View.set_slice_whole, Rect.mem_set_unit]
  intro a
  show win0_6.index t a * win0_6.size a ≤ (i a).val ∧ (i a).val < win0_6.index t a * win0_6.size a + win0_6.xsize (grid0.coords t) a
  rw [index6, xsize6]
  match a with
  | ⟨0, _⟩ => show t.val / 1536 * 1 ≤ (i 0).val ∧ (i 0).val < t.val / 1536 * 1 + 1; omega
  | ⟨1, _⟩ => show t.val % 192 * 64 ≤ (i 1).val ∧ (i 1).val < t.val % 192 * 64 + 64; omega
  | ⟨2, _⟩ => show t.val / 192 % 8 * 1024 ≤ (i 2).val ∧ (i 2).val < t.val / 192 % 8 * 1024 + 1024; omega

/-- The blocks tile the result. -/
theorem cover (i : S2x12288x8192.Idx) : ∃ t : Fin cfg0.N, (cfg0.win 6).flush t = true ∧ i ∈ ((cfg0.win 6).blk t).view.set := by
  have h0 : (i 0).val < 2 := (i 0).isLt
  have h1 : (i 1).val < 12288 := (i 1).isLt
  have h2 : (i 2).val < 8192 := (i 2).isLt
  have hN := N_eq
  refine ⟨⟨(i 0).val * 1536 + (i 2).val / 1024 * 192 + (i 1).val / 64, by omega⟩, flush0_6 _, mem_blk _ _ ?_ ?_ ?_⟩
  · show _ = ((i 0).val * 1536 + (i 2).val / 1024 * 192 + (i 1).val / 64) / 1536; omega
  · show _ = ((i 0).val * 1536 + (i 2).val / 1024 * 192 + (i 1).val / 64) % 192; omega
  · show _ = ((i 0).val * 1536 + (i 2).val / 1024 * 192 + (i 1).val / 64) / 192 % 8; omega

/-- The result array after the run. -/
theorem final (hq : Cert.Attention.Positive (m ((c : Thread nD τ).loc main_arg1) : FVec Ideal S2x12288x64 .f32)) : (dats m 0 c).arrAt 6 cfg0.N = R m c :=
  (dats m 0 c).arrAt_eq_of_cover 6 (R m c) (fun t _ => flushed_eq m c hq t) cover

end Cert.KernelIdeal.Attn

end
-- ==== Proof.Stages.lean ====
/- The reference's operations read an entry at a time, stretch by stretch: what each result holds in terms of what the buffers
   held before the stretch. -/
module

public import proofs.«01_k».proof.Proof.Gen.ReferenceIdeal.Launch
public import Idealize.ShloMosaic.Lib.Pointwise
public import Idealize.ShloMosaic.Lib.Pipeline.FrameTail
public import proofs.«01_k».proof.Proof.Entry
public import proofs.«01_k».proof.Proof.Row

@[expose] public section

set_option maxRecDepth 16384

noncomputable section

namespace Cert.ReferenceIdeal.Ref

open Cert.ReferenceIdeal Cert.ReferenceIdeal.Gen
open Idealize.ShloMosaic Idealize.ShloMosaic.TcCoe
open Cert.KernelIdeal.Attn (ofBits_ninf ofBits_448 ofBits_256 ofBits_inv256 sle_ofNat)

variable (W : Valuation τ sig (Elt Ideal))

/-- An entry of a float buffer's contents. -/
abbrev entryOf (s : Shape) (φ : FTy) (x : FVec Ideal s φ) (i : s.Idx) : EReal := x i

theorem ofBits_128 : Ideal.ofBits .f32 0x43000000#32 = ((128 : ℝ) : EReal) := by
  simp [Ideal.ofBits, Ideal.ieee, -EReal.coe_mul]; norm_num

/-- The factor of the scores. -/
theorem factor : Ideal.div 1 (Ideal.ofBits .f32 0x43000000#32 * Ideal.sqrt (Ideal.ofBits .f32 0x43000000#32)) = (Row.c1 : EReal) := by
  have h : (128 * Real.sqrt 128 : ℝ) ≠ 0 := by positivity
  rw [ofBits_128, Ideal.sqrt_coe, if_neg (by norm_num), ← EReal.coe_mul, Ideal.div_coe h, one_mul, one_div]
  rfl

/-- The unmasked scores. -/
theorem scores_at (b : Fin 2) (s : Fin 12288) (n g : Fin 8) (t : Fin 12288) :
    entryOf S2x12288x8x8x12288 .f32 (StableHlo.after hostOps1 W (Proc.devRef .tc main_v17)) (ix5 b s n g t)
      = (∑ x : Fin 128, entryOf S2x8x12288x128 .f32 (W (Proc.devRef .tc main_v0_1)) (ix4 b n t x)
          * entryOf S2x8x192x512x128 .f32 (W (Proc.devRef .tc main_v0_0)) (ix5 b n ⟨s.val / 64, by omega⟩ ⟨g.val * 64 + s.val % 64, by omega⟩ x))
        * entryOf S2x12288x64 .f32 (W (Proc.devRef .tc main_arg1)) (ix3 b s ⟨n.val * 8 + g.val, by omega⟩) * entryOf S2x8x12288 .f32 (W (Proc.devRef .tc main_arg3)) (ix3 b n t) * (Row.c1 : EReal) := by
  rw [← factor]
  unfold entryOf
  after_results
  pointwise []

/-- The visible keys. -/
theorem visible_at (s : Fin 12288) (t : Fin 12288) :
    (StableHlo.after hostOps1 W (Proc.devRef .tc main_v24) : IVec S1x12288x1x1x12288 1) (ix5 0 s 0 0 t)
      = BitVec.ofBool (decide (t.val ≤ s.val)) := by
  rw [← sle_ofNat t.val s.val (by omega) (by omega)]
  after_results
  pointwise []
  rfl

theorem mask_cst : entryOf S_ .f32 (StableHlo.after hostOps1 W (Proc.devRef .tc main_cst_2)) (ix0) = ⊥ := by
  rw [← ofBits_ninf]
  unfold entryOf
  after_results
  rfl

/-- The masked scores. -/
theorem masked_at (b : Fin 2) (s : Fin 12288) (n g : Fin 8) (t : Fin 12288) :
    entryOf S2x12288x8x8x12288 .f32 (StableHlo.after hostOps1_1 W (Proc.devRef .tc main_v25)) (ix5 b s n g t)
      = if (W (Proc.devRef .tc main_v24) : IVec S1x12288x1x1x12288 1) (ix5 0 s 0 0 t) = 1#1 then entryOf S2x12288x8x8x12288 .f32 (W (Proc.devRef .tc main_v17)) (ix5 b s n g t)
        else entryOf S_ .f32 (W (Proc.devRef .tc main_cst_2)) (ix0) := by
  unfold entryOf
  after_results
  change (select (broadcastInDim S2x12288x8x8x12288 ![0, 1, 2, 3, 4] bcast_S1x12288x1x1x12288_S2x12288x8x8x12288_0_1_2_3_4
    (W (Proc.devRef .tc main_v24) : IVec S1x12288x1x1x12288 1)) (W (Proc.devRef .tc main_v17) : FVec Ideal S2x12288x8x8x12288 .f32) (broadcastInDim S2x12288x8x8x12288 ![] bcast_S_S2x12288x8x8x12288 (W (Proc.devRef .tc main_cst_2) : FVec Ideal S_ .f32)) :
      FVec Ideal S2x12288x8x8x12288 .f32) (ix5 b s n g t) = _
  pointwise []
  rfl

/-- The weights, from the masked scores. -/
theorem weight_at (b : Fin 2) (s : Fin 12288) (n g : Fin 8) (t : Fin 12288) :
    entryOf S2x12288x8x8x12288 .f32 (StableHlo.after hostOps1_2 W (Proc.devRef .tc main_v30)) (ix5 b s n g t) = Ideal.exp (entryOf S2x12288x8x8x12288 .f32 (W (Proc.devRef .tc main_v25)) (ix5 b s n g t) - Finset.univ.fold max ⊥ fun x : Fin 12288 => entryOf S2x12288x8x8x12288 .f32 (W (Proc.devRef .tc main_v25)) (ix5 b s n g x)) := by
  rw [← ofBits_ninf]
  unfold entryOf
  after_results
  pointwise []

/-- Their sum. -/
theorem total_at (b : Fin 2) (s : Fin 12288) (n g : Fin 8) :
    entryOf S2x12288x8x8 .f32 (StableHlo.after hostOps1_2 W (Proc.devRef .tc main_v31)) (ix4 b s n g) = ∑ t : Fin 12288, Ideal.exp (entryOf S2x12288x8x8x12288 .f32 (W (Proc.devRef .tc main_v25)) (ix5 b s n g t) - Finset.univ.fold max ⊥ fun x : Fin 12288 => entryOf S2x12288x8x8x12288 .f32 (W (Proc.devRef .tc main_v25)) (ix5 b s n g x)) := by
  rw [← ofBits_ninf]
  unfold entryOf
  after_results
  pointwise []

/-- The weights times 256. -/
theorem scaled_at (b : Fin 2) (s : Fin 12288) (n g : Fin 8) (t : Fin 12288) :
    entryOf S2x12288x8x8x12288 .f32 (StableHlo.after hostOps1_2 W (Proc.devRef .tc main_v33)) (ix5 b s n g t) = Ideal.exp (entryOf S2x12288x8x8x12288 .f32 (W (Proc.devRef .tc main_v25)) (ix5 b s n g t) - Finset.univ.fold max ⊥ fun x : Fin 12288 => entryOf S2x12288x8x8x12288 .f32 (W (Proc.devRef .tc main_v25)) (ix5 b s n g x)) * 256 := by
  rw [← ofBits_ninf, ← ofBits_256]
  unfold entryOf
  after_results
  pointwise []

theorem low_cst : entryOf S_ .f32 (StableHlo.after hostOps1_2 W (Proc.devRef .tc main_cst_6)) (ix0) = 0 := by
  unfold entryOf
  after_results
  pointwise []
theorem high_cst : entryOf S_ .f32 (StableHlo.after hostOps1_2 W (Proc.devRef .tc main_cst_7)) (ix0) = 448 := by
  rw [← ofBits_448]
  unfold entryOf
  after_results
  rfl

/-- The clipped weights. -/
theorem clip_at (b : Fin 2) (s : Fin 12288) (n g : Fin 8) (t : Fin 12288) :
    entryOf S2x12288x8x8x12288 .f32 (StableHlo.after hostOps1_3 W (Proc.devRef .tc main_v34)) (ix5 b s n g t) = min (entryOf S_ .f32 (W (Proc.devRef .tc main_cst_7)) (ix0)) (max (entryOf S_ .f32 (W (Proc.devRef .tc main_cst_6)) (ix0)) (entryOf S2x12288x8x8x12288 .f32 (W (Proc.devRef .tc main_v33)) (ix5 b s n g t))) := by
  unfold entryOf
  after_results
  change (minimumf (broadcastInDim S2x12288x8x8x12288 ![] bcast_S_S2x12288x8x8x12288 (W (Proc.devRef .tc main_cst_7) : FVec Ideal S_ .f32))
    (maximumf (broadcastInDim S2x12288x8x8x12288 ![] bcast_S_S2x12288x8x8x12288 (W (Proc.devRef .tc main_cst_6) : FVec Ideal S_ .f32)) (W (Proc.devRef .tc main_v33) : FVec Ideal S2x12288x8x8x12288 .f32)) : FVec Ideal S2x12288x8x8x12288 .f32) (ix5 b s n g t) = _
  pointwise []

/-- The result. -/
theorem out_at (b : Fin 2) (s : Fin 12288) (h : Fin 8192) :
    entryOf S2x12288x8192 .bf16 (StableHlo.after hostOps1_4 W (Proc.devRef .tc main_v46)) (ix3 b s h)
      = Ideal.div ((∑ x : Fin 12288, entryOf S2x8x128x12288 .f32 (W (Proc.devRef .tc main_v0_2)) (ix4 b ⟨h.val / 1024, by omega⟩ ⟨h.val % 128, Nat.mod_lt _ (by omega)⟩ x)
          * entryOf S2x12288x8x8x12288 .f32 (W (Proc.devRef .tc main_v34)) (ix5 b s ⟨h.val / 1024, by omega⟩ ⟨h.val / 128 % 8, Nat.mod_lt _ (by omega)⟩ x)) * (((2 : ℝ) ^ 8)⁻¹ : ℝ))
          (entryOf S2x12288x8x8 .f32 (W (Proc.devRef .tc main_v31)) (ix4 b s ⟨h.val / 1024, by omega⟩ ⟨h.val / 128 % 8, Nat.mod_lt _ (by omega)⟩))
        * entryOf S2x8x128 .f32 (W (Proc.devRef .tc main_arg5)) (ix3 b ⟨h.val / 1024, by omega⟩ ⟨h.val % 128, Nat.mod_lt _ (by omega)⟩) := by
  rw [← ofBits_inv256]
  unfold entryOf
  after_results
  pointwise []

/-! What each stretch leaves alone. -/

theorem keep1_v0_2 : StableHlo.after hostOps1 W (Proc.devRef .tc main_v0_2) = W (Proc.devRef .tc main_v0_2) := by after_results
theorem keep1_arg5 : StableHlo.after hostOps1 W (Proc.devRef .tc main_arg5) = W (Proc.devRef .tc main_arg5) := by after_results
theorem keep1_1_v0_2 : StableHlo.after hostOps1_1 W (Proc.devRef .tc main_v0_2) = W (Proc.devRef .tc main_v0_2) := by after_results
theorem keep1_1_arg5 : StableHlo.after hostOps1_1 W (Proc.devRef .tc main_arg5) = W (Proc.devRef .tc main_arg5) := by after_results
theorem keep1_2_v0_2 : StableHlo.after hostOps1_2 W (Proc.devRef .tc main_v0_2) = W (Proc.devRef .tc main_v0_2) := by after_results
theorem keep1_2_arg5 : StableHlo.after hostOps1_2 W (Proc.devRef .tc main_arg5) = W (Proc.devRef .tc main_arg5) := by after_results
theorem keep1_3_v0_2 : StableHlo.after hostOps1_3 W (Proc.devRef .tc main_v0_2) = W (Proc.devRef .tc main_v0_2) := by after_results
theorem keep1_3_arg5 : StableHlo.after hostOps1_3 W (Proc.devRef .tc main_arg5) = W (Proc.devRef .tc main_arg5) := by after_results
theorem keep1_3_v31 : StableHlo.after hostOps1_3 W (Proc.devRef .tc main_v31) = W (Proc.devRef .tc main_v31) := by after_results

end Cert.ReferenceIdeal.Ref

end
-- ==== Proof.Decode.lean ====
/- What the reference's first call leaves: the codes of the queries, keys and values as numbers. -/
module

public import proofs.«01_k».proof.Proof.Gen.ReferenceIdeal.Frame
public import Idealize.ShloMosaic.Lib.Pipeline.Value
public import Idealize.ShloMosaic.Lib.Pointwise

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The query codes. -/
abbrev qf : FVec Ideal S2x8x192x512x128 .f32 := m ((c : Thread nD τ).loc main_arg0)
/-- The key codes. -/
abbrev kf : FVec Ideal S2x8x12288x128 .f32 := m ((c : Thread nD τ).loc main_arg2)
/-- The value codes. -/
abbrev vf : FVec Ideal S2x8x128x12288 .f32 := m ((c : Thread nD τ).loc main_arg4)

theorem flushed3 (t : Fin cfg0.N) : (dats m 0 c).flushed 3 t = ((cfg0.win 3).blk t).view.read (Elt Ideal) (qf m c) := by
  show (cfg0.win 3).cut (grid0.coords t) ((dats m 0 c).after 3 t) = _
  rw [after0_3]
  unfold out0_3
  rw [View.canon_unit_zero hz5, View.ld_unit_zero hz5]
  rfl
theorem flushed4 (t : Fin cfg0.N) : (dats m 0 c).flushed 4 t = ((cfg0.win 4).blk t).view.read (Elt Ideal) (kf m c) := by
  show (cfg0.win 4).cut (grid0.coords t) ((dats m 0 c).after 4 t) = _
  rw [after0_4]
  unfold out0_4
  rw [View.canon_unit_zero hz4, View.ld_unit_zero hz4]
  rfl
theorem flushed5 (t : Fin cfg0.N) : (dats m 0 c).flushed 5 t = ((cfg0.win 5).blk t).view.read (Elt Ideal) (vf m c) := by
  show (cfg0.win 5).cut (grid0.coords t) ((dats m 0 c).after 5 t) = _
  rw [after0_5]
  unfold out0_5
  rw [View.canon_unit_zero hz4, View.ld_unit_zero hz4]
  rfl

theorem index3 (t : Fin cfg0.N) : win0_3.index t = fun _ => 0 :=
  (by decide +kernel : ∀ t : Fin grid0.N, win0_3.index t = fun _ => 0) t
theorem index4 (t : Fin cfg0.N) : win0_4.index t = fun _ => 0 :=
  (by decide +kernel : ∀ t : Fin grid0.N, win0_4.index t = fun _ => 0) t
theorem index5 (t : Fin cfg0.N) : win0_5.index t = fun _ => 0 :=
  (by decide +kernel : ∀ t : Fin grid0.N, win0_5.index t = fun _ => 0) t
theorem xsize3 (t : Fin cfg0.N) : win0_3.xsize (grid0.coords t) = S2x8x192x512x128.size :=
  (by decide +kernel : ∀ t : Fin grid0.N, win0_3.xsize (grid0.coords t) = S2x8x192x512x128.size) t
theorem xsize4 (t : Fin cfg0.N) : win0_4.xsize (grid0.coords t) = S2x8x12288x128.size :=
  (by decide +kernel : ∀ t : Fin grid0.N, win0_4.xsize (grid0.coords t) = S2x8x12288x128.size) t
theorem xsize5 (t : Fin cfg0.N) : win0_5.xsize (grid0.coords t) = S2x8x128x12288.size :=
  (by decide +kernel : ∀ t : Fin grid0.N, win0_5.xsize (grid0.coords t) = S2x8x128x12288.size) t

theorem N_pos : 0 < cfg0.N := by decide +kernel
/-- The call's one point. -/
def t0 : Fin cfg0.N := ⟨0, N_pos⟩

theorem cover3 (i : S2x8x192x512x128.Idx) : ∃ t : Fin cfg0.N, (cfg0.win 3).flush t = true ∧ i ∈ ((cfg0.win 3).blk t).view.set := by
  refine ⟨t0, flush0_3 _, ?_⟩
  show i ∈ ((View.whole main_v0_0).slice (win0_3.rect t0)).set
  rw [View.set_slice_whole, Rect.mem_set_unit]
  intro a
  show win0_3.index t0 a * win0_3.size a ≤ (i a).val ∧ (i a).val < win0_3.index t0 a * win0_3.size a + win0_3.xsize (grid0.coords t0) a
  rw [index3, xsize3, Nat.zero_mul]
  exact ⟨Nat.zero_le _, by have h := (i a).isLt; omega⟩
theorem cover4 (i : S2x8x12288x128.Idx) : ∃ t : Fin cfg0.N, (cfg0.win 4).flush t = true ∧ i ∈ ((cfg0.win 4).blk t).view.set := by
  refine ⟨t0, flush0_4 _, ?_⟩
  show i ∈ ((View.whole main_v0_1).slice (win0_4.rect t0)).set
  rw [View.set_slice_whole, Rect.mem_set_unit]
  intro a
  show win0_4.index t0 a * win0_4.size a ≤ (i a).val ∧ (i a).val < win0_4.index t0 a * win0_4.size a + win0_4.xsize (grid0.coords t0) a
  rw [index4, xsize4, Nat.zero_mul]
  exact ⟨Nat.zero_le _, by have h := (i a).isLt; omega⟩
theorem cover5 (i : S2x8x128x12288.Idx) : ∃ t : Fin cfg0.N, (cfg0.win 5).flush t = true ∧ i ∈ ((cfg0.win 5).blk t).view.set := by
  refine ⟨t0, flush0_5 _, ?_⟩
  show i ∈ ((View.whole main_v0_2).slice (win0_5.rect t0)).set
  rw [View.set_slice_whole, Rect.mem_set_unit]
  intro a
  show win0_5.index t0 a * win0_5.size a ≤ (i a).val ∧ (i a).val < win0_5.index t0 a * win0_5.size a + win0_5.xsize (grid0.coords t0) a
  rw [index5, xsize5, Nat.zero_mul]
  exact ⟨Nat.zero_le _, by have h := (i a).isLt; omega⟩

theorem final3 : (dats m 0 c).arrAt 3 cfg0.N = qf m c := (dats m 0 c).arrAt_eq_of_cover 3 (qf m c) (fun t _ => flushed3 m c t) cover3
theorem final4 : (dats m 0 c).arrAt 4 cfg0.N = kf m c := (dats m 0 c).arrAt_eq_of_cover 4 (kf m c) (fun t _ => flushed4 m c t) cover4
theorem final5 : (dats m 0 c).arrAt 5 cfg0.N = vf m c := (dats m 0 c).arrAt_eq_of_cover 5 (vf m c) (fun t _ => flushed5 m c t) cover5

end Cert.ReferenceIdeal.Ref

end
-- ==== Proof.Reference.lean ====
/- What the reference's result array holds after the run, over the extended reals: `Cert.Attention.result` of its arguments. -/
module

public import proofs.«01_k».proof.Proof.Stages
public import proofs.«01_k».proof.Proof.Decode
public import proofs.«01_k».proof.Proof.Result

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

/-! ### Folds over all keys -/

theorem fold_max (f : ℕ → EReal) (N : ℕ) : (Finset.univ.fold max ⊥ fun x : Fin N => f x.val) = (Finset.range N).sup f := by
  show (Finset.univ : Finset (Fin N)).sup (fun x => f x.val) = _
  apply le_antisymm
  · exact Finset.sup_le fun x _ => Finset.le_sup (f := f) (Finset.mem_range.mpr x.isLt)
  · exact Finset.sup_le fun x hx => Finset.le_sup (f := fun x : Fin N => f x.val) (Finset.mem_univ (⟨x, Finset.mem_range.mp hx⟩ : Fin N))

/-! ### From the stretches to the row -/

section stretches
variable (W : Valuation τ sig (Elt Ideal))

variable (b : Fin 2) (s : Fin 12288) (h : Fin 64)

/-- The key and value head, and the place in its group, of query head `h`. -/
abbrev hn : Fin 8 := ⟨h.val / 8, by omega⟩
abbrev hg : Fin 8 := ⟨h.val % 8, Nat.mod_lt _ (by omega)⟩

/-- The row's data. -/
abbrev rowA : ℕ → EReal := Attention.codes (W (Proc.devRef .tc main_v0_0) : FVec Ideal S2x8x192x512x128 .f32)
  (W (Proc.devRef .tc main_v0_1) : FVec Ideal S2x8x12288x128 .f32) b h s
abbrev rowK : ℕ → EReal := Attention.scales (W (Proc.devRef .tc main_arg3) : FVec Ideal S2x8x12288 .f32) b h
abbrev rowV (d : Fin 128) : ℕ → EReal := Attention.values (W (Proc.devRef .tc main_v0_2) : FVec Ideal S2x8x128x12288 .f32) b h d
abbrev rowQ : EReal := entryOf S2x12288x64 .f32 (W (Proc.devRef .tc main_arg1)) (ix3 b s h)

theorem masked (t : Fin 12288) : entryOf S2x12288x8x8x12288 .f32 ((StableHlo.after hostOps1_1 (StableHlo.after hostOps1 W)) (Proc.devRef .tc main_v25)) (ix5 b s (hn h) (hg h) t)
    = Row.score (rowA W b s h) (rowK W b h) (rowQ W b s h) s.val t.val := by
  rw [masked_at, visible_at, scores_at, mask_cst]
  unfold Row.score
  have hh : (⟨(hn h).val * 8 + (hg h).val, by omega⟩ : Fin 64) = h := Fin.ext (by show h.val / 8 * 8 + h.val % 8 = h.val; omega)
  have hr : (⟨(hg h).val * 64 + s.val % 64, by omega⟩ : Fin 512) = Attention.tileRow h s :=
    Fin.ext (by show h.val % 8 * 64 + s.val % 64 = 64 * (h.val % 8) + s.val % 64; omega)
  rw [hh, hr]
  by_cases hc : t.val ≤ s.val
  · have e1 : rowA W b s h t.val = ∑ x : Fin 128, entryOf S2x8x12288x128 .f32 (W (Proc.devRef .tc main_v0_1)) (ix4 b (hn h) t x)
        * entryOf S2x8x192x512x128 .f32 (W (Proc.devRef .tc main_v0_0)) (ix5 b (hn h) ⟨s.val / 64, by omega⟩ (Attention.tileRow h s) x) := dif_pos t.isLt
    have e2 : rowK W b h t.val = entryOf S2x8x12288 .f32 (W (Proc.devRef .tc main_arg3)) (ix3 b (hn h) t) := dif_pos t.isLt
    rw [if_pos hc, e1, e2, if_pos (by rw [decide_eq_true hc]; rfl)]
  · rw [if_neg hc, if_neg (by rw [decide_eq_false hc]; exact (by decide : ¬ (BitVec.ofBool false = 1#1)))]

theorem weights (t : Fin 12288) :
    Ideal.exp (entryOf S2x12288x8x8x12288 .f32 ((StableHlo.after hostOps1_1 (StableHlo.after hostOps1 W)) (Proc.devRef .tc main_v25)) (ix5 b s (hn h) (hg h) t)
      - Finset.univ.fold max ⊥ fun x : Fin 12288 => entryOf S2x12288x8x8x12288 .f32 ((StableHlo.after hostOps1_1 (StableHlo.after hostOps1 W)) (Proc.devRef .tc main_v25)) (ix5 b s (hn h) (hg h) x))
    = Row.weight (rowA W b s h) (rowK W b h) (rowQ W b s h) s.val 12288 t.val := by
  have e : (fun x : Fin 12288 => entryOf S2x12288x8x8x12288 .f32 ((StableHlo.after hostOps1_1 (StableHlo.after hostOps1 W)) (Proc.devRef .tc main_v25)) (ix5 b s (hn h) (hg h) x))
      = fun x : Fin 12288 => Row.score (rowA W b s h) (rowK W b h) (rowQ W b s h) s.val x.val := funext (masked W b s h)
  rw [e, masked, fold_max]
  rfl

theorem total : entryOf S2x12288x8x8 .f32 ((StableHlo.after hostOps1_3 (StableHlo.after hostOps1_2 (StableHlo.after hostOps1_1 (StableHlo.after hostOps1 W)))) (Proc.devRef .tc main_v31)) (ix4 b s (hn h) (hg h))
    = Row.total (rowA W b s h) (rowK W b h) (rowQ W b s h) s.val 12288 := by
  rw [keep1_3_v31, total_at]
  unfold Row.total
  rw [Finset.sum_range]
  exact Finset.sum_congr rfl fun t _ => weights W b s h t

theorem clipped (t : Fin 12288) : entryOf S2x12288x8x8x12288 .f32 ((StableHlo.after hostOps1_3 (StableHlo.after hostOps1_2 (StableHlo.after hostOps1_1 (StableHlo.after hostOps1 W)))) (Proc.devRef .tc main_v34)) (ix5 b s (hn h) (hg h) t)
    = min 448 (max 0 (Row.weight (rowA W b s h) (rowK W b h) (rowQ W b s h) s.val 12288 t.val * 256)) := by
  rw [clip_at, high_cst, low_cst, scaled_at, weights]

/-- An entry of the result. -/
theorem result_at (y : Fin 8192) (hy : h.val = y.val / 128) (d : Fin 128) (hd : d.val = y.val % 128) :
    entryOf S2x12288x8192 .bf16 ((StableHlo.after hostOps1_4 (StableHlo.after hostOps1_3 (StableHlo.after hostOps1_2 (StableHlo.after hostOps1_1 (StableHlo.after hostOps1 W))))) (Proc.devRef .tc main_v46)) (ix3 b s y)
    = Attention.entry (W (Proc.devRef .tc main_v0_0) : FVec Ideal S2x8x192x512x128 .f32) (W (Proc.devRef .tc main_arg1) : FVec Ideal S2x12288x64 .f32)
        (W (Proc.devRef .tc main_v0_1) : FVec Ideal S2x8x12288x128 .f32) (W (Proc.devRef .tc main_arg3) : FVec Ideal S2x8x12288 .f32)
        (W (Proc.devRef .tc main_v0_2) : FVec Ideal S2x8x128x12288 .f32) (W (Proc.devRef .tc main_arg5) : FVec Ideal S2x8x128 .f32) b s h d := by
  rw [out_at]
  have en : (⟨y.val / 1024, by omega⟩ : Fin 8) = hn h := Fin.ext (by show y.val / 1024 = h.val / 8; omega)
  have eg : (⟨y.val / 128 % 8, Nat.mod_lt _ (by omega)⟩ : Fin 8) = hg h := Fin.ext (by show y.val / 128 % 8 = h.val % 8; omega)
  have ed : (⟨y.val % 128, Nat.mod_lt _ (by omega)⟩ : Fin 128) = d := Fin.ext hd.symm
  rw [en, eg, ed, total]
  unfold Attention.entry Row.out
  have em : (∑ x : Fin 12288, entryOf S2x8x128x12288 .f32 ((StableHlo.after hostOps1_3 (StableHlo.after hostOps1_2 (StableHlo.after hostOps1_1 (StableHlo.after hostOps1 W)))) (Proc.devRef .tc main_v0_2)) (ix4 b (hn h) d x)
      * entryOf S2x12288x8x8x12288 .f32 ((StableHlo.after hostOps1_3 (StableHlo.after hostOps1_2 (StableHlo.after hostOps1_1 (StableHlo.after hostOps1 W)))) (Proc.devRef .tc main_v34)) (ix5 b s (hn h) (hg h) x))
      = Row.mix (rowA W b s h) (rowK W b h) (rowV W b h d) (rowQ W b s h) s.val 12288 := by
    unfold Row.mix
    rw [Finset.sum_range]
    refine Finset.sum_congr rfl fun x _ => ?_
    rw [clipped, keep1_3_v0_2, keep1_2_v0_2, keep1_1_v0_2, keep1_v0_2]
    have ev : rowV W b h d x.val = entryOf S2x8x128x12288 .f32 (W (Proc.devRef .tc main_v0_2)) (ix4 b (hn h) d x) := dif_pos x.isLt
    rw [ev]
  rw [em, keep1_3_arg5, keep1_2_arg5, keep1_1_arg5, keep1_arg5]
  rfl

end stretches

/-! ### The result array -/

variable (m : (ℓ : Loc nD τ sig) → Buf (Elt Ideal) ℓ) (ρ : Dev nD → PrngReg) (c : Dev nD)

/-- What the buffers hold when the first call has returned. -/
abbrev Wd : Valuation τ sig (Elt Ideal) := Pipeline.withArrays (cfgs 0).spec c (V0 m c) fun w => (dats m 0 c).arrAt w (cfgs 0).N

theorem Wd0 : Wd m c (Proc.devRef .tc main_v0_0) = qf m c :=
  (Pipeline.withArrays_arr spec0 launch0.win.arr_inj c (V0 m c) (fun w => (dats m 0 c).arrAt w cfg0.N) 3).trans (final3 m c)
theorem Wd1 : Wd m c (Proc.devRef .tc main_v0_1) = kf m c :=
  (Pipeline.withArrays_arr spec0 launch0.win.arr_inj c (V0 m c) (fun w => (dats m 0 c).arrAt w cfg0.N) 4).trans (final4 m c)
theorem Wd2 : Wd m c (Proc.devRef .tc main_v0_2) = vf m c :=
  (Pipeline.withArrays_arr spec0 launch0.win.arr_inj c (V0 m c) (fun w => (dats m 0 c).arrAt w cfg0.N) 5).trans (final5 m c)
theorem Wda1 : Wd m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem Wda3 : Wd m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem Wda5 : Wd m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The attention call's result on the arguments. -/
abbrev R : FVec Ideal S2x12288x8192 .bf16 := Cert.Attention.result (m ((c : Thread nD τ).loc main_arg0) : FVec Ideal S2x8x192x512x128 .fp8e4m3)
  (m ((c : Thread nD τ).loc main_arg1) : FVec Ideal S2x12288x64 .f32) (m ((c : Thread nD τ).loc main_arg2) : FVec Ideal S2x8x12288x128 .fp8e4m3)
  (m ((c : Thread nD τ).loc main_arg3) : FVec Ideal S2x8x12288 .f32) (m ((c : Thread nD τ).loc main_arg4) : FVec Ideal S2x8x128x12288 .fp8e4m3)
  (m ((c : Thread nD τ).loc main_arg5) : FVec Ideal S2x8x128 .f32)

theorem after_split : Pipeline.afterTail₀ cfgs (dats m) 0 (V0 m) [hostOps1, hostOps1_1, hostOps1_2, hostOps1_3, hostOps1_4] c main_v46
    = StableHlo.after hostOps1_4 (StableHlo.after hostOps1_3 (StableHlo.after hostOps1_2 (StableHlo.after hostOps1_1 (StableHlo.after hostOps1 (Wd m c))))) (Proc.devRef .tc main_v46) := rfl

/-- The result array after the run. -/
theorem final : Pipeline.afterTail₀ cfgs (dats m) 0 (V0 m) [hostOps1, hostOps1_1, hostOps1_2, hostOps1_3, hostOps1_4] c main_v46 = R m c := by
  rw [after_split]
  funext y
  have h2 : (y 2).val < 8192 := (y 2).isLt
  have ey : y = ix3 (y 0) (y 1) (y 2) := funext fun a => match a with
    | ⟨0, _⟩ => rfl
    | ⟨1, _⟩ => rfl
    | ⟨2, _⟩ => rfl
  have h := result_at (Wd m c) (y 0) (y 1) ⟨(y 2).val / 128, by omega⟩ (y 2) rfl ⟨(y 2).val % 128, Nat.mod_lt _ (by omega)⟩ rfl
  rw [Wd0, Wd1, Wd2, Wda1, Wda3, Wda5] at h
  refine (congrArg (entryOf S2x12288x8192 .bf16 (StableHlo.after hostOps1_4 (StableHlo.after hostOps1_3 (StableHlo.after hostOps1_2 (StableHlo.after hostOps1_1 (StableHlo.after hostOps1 (Wd m c))))) (Proc.devRef .tc main_v46))) ey).trans (h.trans ?_)
  rfl

end Cert.ReferenceIdeal.Ref

end
-- ==== Proof.Equal.lean ====
/- The value claim: over the extended reals, with every query scale positive, the kernel's result array is the reference's. -/
module

public import proofs.«01_k».proof.Defs
public import proofs.«01_k».proof.Proof.Whole
public import proofs.«01_k».proof.Proof.Reference

@[expose] public section

noncomputable section

namespace Cert.Proof

open Idealize.ShloMosaic Idealize.ShloMosaic.TcCoe Idealize.SL.Sem

theorem scales_facts : Cert.Pre_positive_scales.Facts := ⟨by decide +kernel⟩

/-- The precondition read: every query scale is positive. -/
theorem positive (hp : Cert.Pre_positive_scales.Facts) (m : (ℓ : Loc Cert.KernelIdeal.nD Cert.KernelIdeal.τ Cert.KernelIdeal.sig) → Buf (Elt Ideal) ℓ)
    (h : Cert.Pre_KernelIdeal_positive_scales (hPre_positive_scales := hp) m) (c : Dev Cert.KernelIdeal.nD) :
    Cert.Attention.Positive (m ((c : Thread Cert.KernelIdeal.nD Cert.KernelIdeal.τ).loc Cert.KernelIdeal.main_arg1) : FVec Ideal ⟨3, ![2, 12288, 64]⟩ .f32) := by
  intro y
  have e := congrFun (h c) y
  by_contra hn
  have e' : Ideal.cmp .ogt (m ((c : Thread Cert.KernelIdeal.nD Cert.KernelIdeal.τ).loc Cert.KernelIdeal.main_arg1) y) (Ideal.ofBits .f32 0x00000000#32) = 1#1 := e
  rw [Ideal.ofBits_zero] at e'
  simp [Ideal.cmp, hn] at e'

/-- The kernel's run with its result. -/
theorem kernel_run (m : (ℓ : Loc Cert.KernelIdeal.nD Cert.KernelIdeal.τ Cert.KernelIdeal.sig) → Buf (Elt Ideal) ℓ) (ρ : Dev Cert.KernelIdeal.nD → PrngReg)
    (hq : ∀ c : Dev Cert.KernelIdeal.nD, Cert.Attention.Positive (m ((c : Thread Cert.KernelIdeal.nD Cert.KernelIdeal.τ).loc Cert.KernelIdeal.main_arg1) : FVec Ideal ⟨3, ![2, 12288, 64]⟩ .f32)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, r.2.mem ((c : Thread Cert.KernelIdeal.nD Cert.KernelIdeal.τ).loc Cert.KernelIdeal.main_v5) = Cert.KernelIdeal.Attn.R m c) :=
  (θ_run Cert.KernelIdeal.defs _ _).mono (fun _ h c => ((h c).1 6).trans (Cert.KernelIdeal.Attn.final m c (hq c))) (Cert.KernelIdeal.Attn.run_main m ρ)

/-- The reference's run with its result. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD, r.2.mem ((c : Thread Cert.ReferenceIdeal.nD Cert.ReferenceIdeal.τ).loc Cert.ReferenceIdeal.main_v46) = Cert.ReferenceIdeal.Ref.R m c) :=
  (θ_run Cert.ReferenceIdeal.defs _ _).mono (fun _ h c => ((h c).2 Cert.ReferenceIdeal.main_v46 (Pipeline.mem_restRefs_of Cert.ReferenceIdeal.main_v46 (by decide) (by decide))).trans
    (Cert.ReferenceIdeal.Ref.final m c)) (Cert.ReferenceIdeal.Gen.run_main m ρ)

theorem algebraic : Cert.algebraic_KernelIdeal_ReferenceIdeal_pre_positive_scales (hPre_positive_scales := scales_facts) := by
  intro m ρ m' ρ' hpre hagree
  refine ⟨fun c => Cert.KernelIdeal.Attn.R m c,
    (θ_run Cert.KernelIdeal.defs _ _).mono (fun _ h c => ⟨h.1 c, h.2.1 c⟩)
      (θ_run_and (kernel_run m ρ (positive _ m hpre)) (Cert.KernelIdeal.Attn.frame m ρ)),
    (θ_run Cert.ReferenceIdeal.defs _ _).mono (fun _ h c => ⟨(h.1 c).trans ?_, h.2.1 c⟩)
      (θ_run_and (reference_run m' ρ') (Cert.ReferenceIdeal.Gen.frame m' ρ'))⟩
  obtain ⟨h0, h1, h2, h3, h4, h5⟩ := hagree c
  unfold Cert.ReferenceIdeal.Ref.R
  rw [h0, h1, h2, h3, h4, h5]

end Cert.Proof

end
-- ==== Proof.Rotate.Hadamard.lean ====
/- The rotation by the 128 x 128 matrix of signs: its entry at `(k, d)` is minus one exactly when `k` and `d` share an odd number
   of set bits. Its rows are orthogonal, so a rotation neither loses a row of numbers nor makes it much larger. -/
module

public import Idealize.ShloMosaic.Lib.Pointwise

@[expose] public section

noncomputable section

namespace Cert.Rotate

/-- Whether the low seven bits of `n` hold an odd number of ones. -/
def odd (n : ℕ) : Bool :=
  n.testBit 0 ^^ n.testBit 1 ^^ n.testBit 2 ^^ n.testBit 3 ^^ n.testBit 4 ^^ n.testBit 5 ^^ n.testBit 6

/-- The sign at `(k, d)`, as an integer. -/
def sign (k d : ℕ) : ℤ := if odd (k &&& d) then -1 else 1

/-- The sign at `(k, d)`. -/
def had (k d : Fin 128) : ℝ := (sign k.val d.val : ℝ)

theorem odd_xor (a b : ℕ) : odd (a ^^^ b) = (odd a ^^ odd b) := by
  unfold odd
  simp only [Nat.testBit_xor]
  cases a.testBit 0 <;> cases a.testBit 1 <;> cases a.testBit 2 <;> cases a.testBit 3 <;> cases a.testBit 4 <;> cases a.testBit 5 <;>
    cases a.testBit 6 <;> simp

theorem sign_mul (k l d : ℕ) : sign k d * sign l d = sign (k ^^^ l) d := by
  unfold sign
  rw [show (k ^^^ l) &&& d = (k &&& d) ^^^ (l &&& d) by
    apply Nat.eq_of_testBit_eq; intro i; simp only [Nat.testBit_and, Nat.testBit_xor]
    cases k.testBit i <;> cases l.testBit i <;> cases d.testBit i <;> rfl, odd_xor]
  cases odd (k &&& d) <;> cases odd (l &&& d) <;> rfl

/-- The signs of a row other than the first cancel. -/
theorem sum_sign : ∀ l : Fin 128, ∑ d : Fin 128, sign l.val d.val = if l.val = 0 then 128 else 0 := by
  decide +kernel

theorem orthogonal (k l : Fin 128) : ∑ d : Fin 128, had k d * had l d = if k = l then 128 else 0 := by
  have hx : k.val ^^^ l.val < 128 := Nat.xor_lt_two_pow (n := 7) k.isLt l.isLt
  have h := sum_sign ⟨k.val ^^^ l.val, hx⟩
  have e : ∑ d : Fin 128, had k d * had l d = ((∑ d : Fin 128, sign (k.val ^^^ l.val) d.val : ℤ) : ℝ) := by
    rw [Int.cast_sum]
    refine Finset.sum_congr rfl fun d _ => ?_
    unfold had
    rw [← sign_mul, Int.cast_mul]
  rw [e]
  by_cases hkl : k = l
  · subst hkl
    rw [if_pos rfl]
    simp only [Nat.xor_self] at h ⊢
    rw [h]; norm_num
  · have hne : k.val ^^^ l.val ≠ 0 := fun h0 => hkl (Fin.ext (by
      have := congrArg (· ^^^ l.val) h0
      simpa [Nat.xor_assoc] using this))
    rw [if_neg hkl, h, if_neg hne]; norm_num

theorem abs_had (k d : Fin 128) : |had k d| = 1 := by
  unfold had sign
  split <;> norm_num

variable (x : Fin 128 → ℝ)

/-- The rotated row. -/
def rot (d : Fin 128) : ℝ := ∑ k : Fin 128, x k * had k d

/-- The largest size of the rotated row. -/
def peak : ℝ := Finset.univ.sup' ⟨(0 : Fin 128), Finset.mem_univ _⟩ fun d => |rot x d|

theorem le_peak (d : Fin 128) : |rot x d| ≤ peak x := Finset.le_sup' (fun d => |rot x d|) (Finset.mem_univ d)

theorem peak_nonneg : 0 ≤ peak x := (abs_nonneg _).trans (le_peak x 0)

theorem peak_le {M : ℝ} (h : ∀ k, |x k| ≤ M) : peak x ≤ 128 * M := by
  refine Finset.sup'_le _ _ fun d _ => ?_
  refine (Finset.abs_sum_le_sum_abs _ _).trans ?_
  refine (Finset.sum_le_sum (g := fun _ => M) fun k _ => ?_).trans ?_
  · rw [abs_mul, abs_had, mul_one]; exact h k
  · simp

/-- Rotating back: 128 times an entry. -/
theorem back (k : Fin 128) : ∑ d : Fin 128, rot x d * had k d = 128 * x k := by
  unfold rot
  simp only [Finset.sum_mul]
  rw [Finset.sum_comm]
  have : ∀ l : Fin 128, ∑ d : Fin 128, x l * had l d * had k d = if l = k then 128 * x l else 0 := fun l => by
    simp only [mul_assoc]
    rw [← Finset.mul_sum, orthogonal]
    split <;> ring
  simp [this]

theorem abs_le_peak (k : Fin 128) : |x k| ≤ peak x := by
  have h : |128 * x k| ≤ 128 * peak x := by
    rw [← back]
    refine (Finset.abs_sum_le_sum_abs _ _).trans ?_
    refine (Finset.sum_le_sum (g := fun _ => peak x) fun d _ => ?_).trans ?_
    · rw [abs_mul, abs_had, mul_one]; exact le_peak x d
    · simp
  rw [abs_mul, abs_of_pos (by norm_num : (0 : ℝ) < 128)] at h
  linarith

/-- A row of numbers each zero or of ordinary size rotates to zero, or to a row whose largest size is ordinary. -/
theorem peak_range (h : ∀ k, x k = 0 ∨ ((2 : ℝ) ^ (-60 : ℤ) ≤ |x k| ∧ |x k| ≤ (2 : ℝ) ^ (60 : ℤ))) :
    peak x = 0 ∨ ((2 : ℝ) ^ (-60 : ℤ) ≤ peak x ∧ peak x ≤ (2 : ℝ) ^ (67 : ℤ)) := by
  by_cases h0 : ∀ k, x k = 0
  · left
    refine le_antisymm ?_ (peak_nonneg x)
    have := peak_le x (M := 0) fun k => by rw [h0 k, abs_zero]
    linarith
  · right
    obtain ⟨k, hk⟩ := not_forall.mp h0
    refine ⟨((h k).resolve_left hk).1.trans (abs_le_peak x k), ?_⟩
    refine (peak_le x (M := (2 : ℝ) ^ (60 : ℤ)) fun k => ?_).trans (by norm_num)
    rcases h k with e | e
    · rw [e, abs_zero]; positivity
    · exact e.2

end Cert.Rotate

end
-- ==== Proof.Rotate.Exponent.lean ====
/- The scale of a row: the power of two above its largest size over 448. Taken from the logarithm, it is the number whose
   exponent field a count of powers of two gives. -/
module

public import proofs.«01_k».proof.Proof.Rotate.Hadamard

@[expose] public section

noncomputable section

namespace Cert.Rotate

open Idealize.ShloMosaic

/-- The 32-bit number nearest to 1/448. -/
def factor : ℝ := 9586981 * (2 : ℝ) ^ (-32 : ℤ)

theorem factor_pos : 0 < factor := by unfold factor; positivity

theorem ofBits_factor : Ideal.ofBits .f32 0x3B124925#32 = ((factor : ℝ) : EReal) := by
  unfold factor
  simp [Ideal.ofBits, Ideal.ieee, -EReal.coe_mul]

theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_high : Ideal.ofBits .f32 0x43E00000#32 = ((448 : ℝ) : EReal) := by
  simp [Ideal.ofBits, Ideal.ieee, -EReal.coe_mul]; norm_num
theorem ofBits_low : Ideal.ofBits .f32 0xC3E00000#32 = ((-448 : ℝ) : EReal) := by
  simp [Ideal.ofBits, Ideal.ieee, -EReal.coe_mul]; norm_num
theorem ofBits_bot : Ideal.ofBits .f32 0xFF800000#32 = ⊥ := by
  simp [Ideal.ofBits, Ideal.ieee]

theorem log_two_pos : 0 < Real.log 2 := Real.log_pos (by norm_num)

theorem exp_mul_log_two (n : ℤ) : Real.exp (n * Real.log 2) = (2 : ℝ) ^ n := by
  rw [mul_comm, ← Real.rpow_def_of_pos (by norm_num), Real.rpow_intCast]

/-- The whole part of the binary logarithm. -/
def lg (y : ℝ) : ℤ := ⌊Real.log y / Real.log 2⌋

theorem two_pow_lg_le {y : ℝ} (hy : 0 < y) : (2 : ℝ) ^ lg y ≤ y := by
  rw [← exp_mul_log_two]
  have h := mul_le_mul_of_nonneg_right (Int.floor_le (Real.log y / Real.log 2)) log_two_pos.le
  rw [div_mul_cancel₀ _ log_two_pos.ne'] at h
  calc Real.exp (lg y * Real.log 2) ≤ Real.exp (Real.log y) := Real.exp_le_exp.mpr h
    _ = y := Real.exp_log hy

theorem lt_two_pow_lg {y : ℝ} (hy : 0 < y) : y < (2 : ℝ) ^ (lg y + 1) := by
  rw [← exp_mul_log_two]
  have h := mul_lt_mul_of_pos_right (Int.lt_floor_add_one (Real.log y / Real.log 2)) log_two_pos
  rw [div_mul_cancel₀ _ log_two_pos.ne'] at h
  calc y = Real.exp (Real.log y) := (Real.exp_log hy).symm
    _ < Real.exp ((lg y + 1 : ℤ) * Real.log 2) := Real.exp_lt_exp.mpr (by push_cast; exact h)

/-- A power of two is at most a number when its exponent is at most the number's logarithm. -/
theorem two_pow_le_iff {y : ℝ} (hy : 0 < y) (n : ℤ) : (2 : ℝ) ^ n ≤ y ↔ n ≤ lg y := by
  constructor
  · intro h
    have := (zpow_lt_zpow_iff_right₀ (by norm_num : (1 : ℝ) < 2)).mp (h.trans_lt (lt_two_pow_lg hy))
    omega
  · intro h
    exact (zpow_le_zpow_right₀ (by norm_num) h).trans (two_pow_lg_le hy)

variable (x : Fin 128 → ℝ)

/-- The exponent of a row's scale. -/
def expo : ℤ := if peak x = 0 then 0 else lg (peak x * factor) + 1

/-- A row's scale. -/
def scale : ℝ := (2 : ℝ) ^ expo x

/-- The codes of a row, before they are rounded to 8 bits. -/
def code (d : Fin 128) : ℝ := min 448 (max (-448) (rot x d * (2 : ℝ) ^ (-expo x)))

/-- Numbers that are zero or of ordinary size. -/
def Ordinary : Prop := ∀ k, x k = 0 ∨ ((2 : ℝ) ^ (-60 : ℤ) ≤ |x k| ∧ |x k| ≤ (2 : ℝ) ^ (60 : ℤ))

variable {x}

theorem peak_mul_pos (h0 : peak x ≠ 0) : 0 < peak x * factor :=
  mul_pos (lt_of_le_of_ne (peak_nonneg x) (Ne.symm h0)) factor_pos

theorem lg_range (hx : Ordinary x) (h0 : peak x ≠ 0) : -69 ≤ lg (peak x * factor) ∧ lg (peak x * factor) ≤ 67 := by
  have hp := peak_mul_pos h0
  obtain ⟨h1, h2⟩ := (peak_range x hx).resolve_left h0
  have f1 : (2 : ℝ) ^ (-9 : ℤ) ≤ factor := by unfold factor; norm_num
  have f2 : factor ≤ 1 := by unfold factor; norm_num
  constructor
  · rw [← two_pow_le_iff hp]
    calc (2 : ℝ) ^ (-69 : ℤ) = (2 : ℝ) ^ (-60 : ℤ) * (2 : ℝ) ^ (-9 : ℤ) := by norm_num
      _ ≤ peak x * factor := mul_le_mul h1 f1 (by positivity) (peak_nonneg x)
  · have h : (2 : ℝ) ^ lg (peak x * factor) ≤ (2 : ℝ) ^ (67 : ℤ) :=
      (two_pow_lg_le hp).trans ((mul_le_of_le_one_right (peak_nonneg x) f2).trans h2)
    exact (zpow_le_zpow_iff_right₀ (by norm_num : (1 : ℝ) < 2)).mp h

/-! ### The exponent as a word -/

theorem field : ∀ m : Fin 256, ((BitVec.ofNat 32 m.val <<< 23#32).extractLsb' 31 1 == 1#1) = false
    ∧ ((BitVec.ofNat 32 m.val <<< 23#32).extractLsb' 23 8).toNat = m.val ∧ ((BitVec.ofNat 32 m.val <<< 23#32).extractLsb' 0 23).toNat = 0 := by
  decide +kernel

theorem normal_field (n : ℤ) : (2 : ℝ) ^ 23 * (2 : ℝ) ^ (n - (2 ^ (8 - 1) - 1) - 23) = (2 : ℝ) ^ (n - 127) := by
  rw [← zpow_natCast, ← zpow_add₀ (by norm_num)]
  congr 1
  push_cast
  ring

/-- An exponent field with nothing after it: zero, a power of two, or infinity. -/
theorem ofBits_field (m : Fin 256) : Ideal.ofBits .f32 (IntOp.shli .vector (BitVec.ofNat 32 m.val) 23#32)
    = if m.val = 0 then (0 : EReal) else if m.val = 255 then ⊤ else (((2 : ℝ) ^ ((m.val : ℤ) - 127) : ℝ) : EReal) := by
  obtain ⟨h1, h2, h3⟩ := field m
  show Ideal.ieee 8 23 (BitVec.ofNat 32 m.val <<< 23#32) = _
  unfold Ideal.ieee
  simp only [show (8 + 23 : ℕ) = 31 from rfl, h1, h2, h3]
  by_cases e0 : m.val = 0
  · simp [e0]
  by_cases e255 : m.val = 255
  · simp [e255]
  · simp only [e0, e255, if_false, show (2 : ℕ) ^ 8 - 1 = 255 from rfl]
    simp only [Nat.add_zero, Nat.cast_pow, Nat.cast_ofNat, Bool.false_eq_true, if_false, one_mul]
    exact congrArg Real.toEReal (normal_field _)

/-- Adding up bits counts those set. -/
theorem fold_count {ι : Type} [DecidableEq ι] (s : Finset ι) (P : ι → Prop) [DecidablePred P] :
    Finset.fold IntOp.addi (0#32) (fun i => BitVec.setWidth 32 (BitVec.ofBool (decide (P i)))) s = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun hm => ha (Finset.mem_filter.mp hm).1), decide_eq_true h, Nat.add_comm, BitVec.ofNat_add]
      rfl
    · rw [if_neg h, decide_eq_false h]
      show (0#32 : BitVec 32) + _ = _
      rw [BitVec.zero_add]

theorem card_le (n : ℕ) (h : n < 256) : (Finset.univ.filter fun m : Fin 256 => m.val ≤ n).card = n + 1 := by
  have := Fin.card_Iic (⟨n, h⟩ : Fin 256)
  rw [← this]
  congr 1
  ext m
  simp [Fin.le_def]

/-- How many of the fields' numbers are at most `y`. -/
theorem count (y : ℝ) (h : y = 0 ∨ (0 < y ∧ -126 ≤ lg y ∧ lg y ≤ 126)) :
    (Finset.univ.filter fun m : Fin 256 => Ideal.ofBits .f32 (IntOp.shli .vector (BitVec.ofNat 32 m.val) 23#32) ≤ (y : EReal)).card
      = if y = 0 then 1 else (lg y + 128).toNat := by
  rcases h with h | ⟨hp, h1, h2⟩
  · rw [if_pos h]
    refine Eq.trans ?_ (card_le 0 (by norm_num))
    congr 1
    ext m
    simp only [Finset.mem_filter, Finset.mem_univ, true_and]
    rw [ofBits_field, h]
    by_cases e0 : m.val = 0
    · simp [e0]
    · rw [if_neg e0]
      refine ⟨fun hm => ?_, fun hm => by omega⟩
      exfalso
      split at hm
      · simp at hm
      · have hm : (2 : ℝ) ^ ((m.val : ℤ) - 127) ≤ 0 := by exact_mod_cast hm
        exact absurd hm (not_le.mpr (by positivity))
  · rw [if_neg hp.ne', show (lg y + 128).toNat = (lg y + 127).toNat + 1 by omega, ← card_le _ (by omega)]
    congr 1
    ext m
    simp only [Finset.mem_filter, Finset.mem_univ, true_and]
    rw [ofBits_field]
    by_cases e0 : m.val = 0
    · rw [if_pos e0, e0]
      exact ⟨fun _ => by omega, fun _ => by exact_mod_cast hp.le⟩
    · rw [if_neg e0]
      split
      · next e => exact ⟨fun hm => absurd hm (by simp), fun hm => by omega⟩
      · rw [EReal.coe_le_coe_iff, two_pow_le_iff hp]
        omega

/-- The exponent's word from a count of the fields' numbers that are at most `y`. -/
def expoWord (y : EReal) : BitVec 32 :=
  Scalar.select (IntOp.cmpi .eq (IntOp.subi (Finset.fold IntOp.addi (0#32) (fun m : Fin 256 => BitVec.setWidth 32 (BitVec.ofBool (decide
      (Ideal.ofBits .f32 (IntOp.shli .vector (BitVec.ofNat 32 m.val) 23#32) ≤ y)))) Finset.univ) 1#32) 0#32) (0#32)
    (IntOp.subi (IntOp.subi (Finset.fold IntOp.addi (0#32) (fun m : Fin 256 => BitVec.setWidth 32 (BitVec.ofBool (decide
      (Ideal.ofBits .f32 (IntOp.shli .vector (BitVec.ofNat 32 m.val) 23#32) ≤ y)))) Finset.univ) 1#32) 126#32)

theorem words : ∀ j : Fin 200, (BitVec.ofNat 32 (j.val + 27 + 1) - 1#32 == 0#32) = false
    ∧ BitVec.ofNat 32 (j.val + 27 + 1) - 1#32 - 126#32 = BitVec.ofInt 32 ((j.val : ℤ) - 99)
    ∧ BitVec.ofInt 32 ((j.val : ℤ) - 99) + 127#32 = BitVec.ofNat 32 (j.val + 28)
    ∧ 127#32 - BitVec.ofInt 32 ((j.val : ℤ) - 99) = BitVec.ofNat 32 (226 - j.val) := by
  decide +kernel

theorem expoWord_eq (hx : Ordinary x) : expoWord ((peak x * factor : ℝ) : EReal) = BitVec.ofInt 32 (expo x) := by
  unfold expoWord expo
  rw [fold_count]
  by_cases h0 : peak x = 0
  · rw [count _ (Or.inl (by rw [h0, zero_mul])), if_pos h0, if_pos (by rw [h0, zero_mul])]
    rfl
  · have hp := peak_mul_pos h0
    obtain ⟨h1, h2⟩ := lg_range hx h0
    rw [count _ (Or.inr ⟨hp, by omega, by omega⟩), if_neg h0, if_neg hp.ne']
    obtain ⟨w1, w2, -, -⟩ := words ⟨(lg (peak x * factor) + 100).toNat, by omega⟩
    rw [show (lg (peak x * factor) + 128).toNat = (lg (peak x * factor) + 100).toNat + 27 + 1 by omega]
    unfold Scalar.select IntOp.cmpi IntOp.subi
    simp only [w1, w2]
    rw [if_neg (by decide)]
    congr 1
    omega

theorem expo_range (hx : Ordinary x) : -68 ≤ expo x ∧ expo x ≤ 68 := by
  unfold expo
  split
  · omega
  · next h0 => have := lg_range hx h0; omega

/-- The scale from the exponent's word. -/
theorem scale_word (hx : Ordinary x) : Ideal.ofBits .f32 (IntOp.shli .vector (IntOp.addi (BitVec.ofInt 32 (expo x)) 127#32) 23#32) = ((scale x : ℝ) : EReal) := by
  obtain ⟨h1, h2⟩ := expo_range hx
  obtain ⟨-, -, w3, -⟩ := words ⟨(expo x + 99).toNat, by omega⟩
  simp only [show (((expo x + 99).toNat : ℕ) : ℤ) - 99 = expo x by omega] at w3
  rw [IntOp.addi, w3]
  have := ofBits_field ⟨(expo x + 99).toNat + 28, by omega⟩
  simp only at this
  rw [this, if_neg (by omega), if_neg (by omega), scale]
  congr 2
  omega

/-- One over the scale from the exponent's word. -/
theorem inverse_word (hx : Ordinary x) : Ideal.ofBits .f32 (IntOp.shli .vector (IntOp.subi 127#32 (BitVec.ofInt 32 (expo x))) 23#32) = (((2 : ℝ) ^ (-expo x) : ℝ) : EReal) := by
  obtain ⟨h1, h2⟩ := expo_range hx
  obtain ⟨-, -, -, w4⟩ := words ⟨(expo x + 99).toNat, by omega⟩
  simp only [show (((expo x + 99).toNat : ℕ) : ℤ) - 99 = expo x by omega] at w4
  rw [IntOp.subi, w4]
  have := ofBits_field ⟨226 - (expo x + 99).toNat, by omega⟩
  simp only at this
  rw [this, if_neg (by omega), if_neg (by omega)]
  congr 2
  omega

/-! ### The rotated row, its largest size and its codes over the extended reals -/

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem rot_coe (d : Fin 128) : ∑ k : Fin 128, (x k : EReal) * (had k d : EReal) = ((rot x d : ℝ) : EReal) := by
  simp only [← EReal.coe_mul]
  exact sum_coe _ _

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem abs_coe (r : ℝ) : max (r : EReal) (-(r : EReal)) = ((|r| : ℝ) : EReal) := by
  rw [← EReal.coe_neg, ← coe_max]; rfl

theorem peak_coe : Finset.univ.fold max ⊥ (fun d : Fin 128 => max ((rot x d : ℝ) : EReal) (-((rot x d : ℝ) : EReal))) = ((peak x : ℝ) : EReal) := by
  simp only [abs_coe]
  apply le_antisymm
  · rw [Finset.fold_max_le]
    exact ⟨bot_le, fun d _ => EReal.coe_le_coe_iff.mpr (le_peak x d)⟩
  · rw [Finset.le_fold_max]
    obtain ⟨d, hd, e⟩ := Finset.exists_mem_eq_sup' ⟨(0 : Fin 128), Finset.mem_univ _⟩ (fun d => |rot x d|)
    exact Or.inr ⟨d, hd, EReal.coe_le_coe_iff.mpr (le_of_eq e)⟩

theorem code_coe (d : Fin 128) : min ((448 : ℝ) : EReal) (max ((-448 : ℝ) : EReal) (((rot x d : ℝ) : EReal) * (((2 : ℝ) ^ (-expo x) : ℝ) : EReal)))
    = ((code x d : ℝ) : EReal) := by
  rw [← EReal.coe_mul, ← coe_max, ← coe_min]; rfl

/-! ### The exponent, the scale and its inverse by logarithm and exponential -/

/-- The exponent as a logarithm. -/
theorem expo_log (x : Fin 128 → ℝ) : (if Ideal.cmp .oeq ((peak x : ℝ) : EReal) 0 = 1#1 then (0 : EReal)
    else Ideal.liftRound Int.floor (Ideal.div (Ideal.log (((peak x : ℝ) : EReal) * ((factor : ℝ) : EReal))) (Ideal.log ((2 : ℝ) : EReal))) + ((1 : ℝ) : EReal))
      = (((expo x : ℤ) : ℝ) : EReal) := by
  unfold expo
  by_cases h0 : peak x = 0
  · rw [if_pos (by rw [h0]; simp [Ideal.cmp]), if_pos h0]; simp
  · have hp := peak_mul_pos h0
    rw [if_neg (by simp [Ideal.cmp, h0]), if_neg h0, ← EReal.coe_mul, Ideal.log_coe, if_neg (not_le.mpr hp), Ideal.log_coe, if_neg (by norm_num),
      Ideal.div_coe log_two_pos.ne']
    show _ = (((lg (peak x * factor) + 1 : ℤ) : ℝ) : EReal)
    rw [Int.cast_add, EReal.coe_add]
    congr 1
    · rw [← EReal.coe_mul, mul_one_div]; rfl
    · norm_num

theorem exp_log (x : Fin 128 → ℝ) : Ideal.exp ((((expo x : ℤ) : ℝ) : EReal) * Ideal.log ((2 : ℝ) : EReal)) = ((scale x : ℝ) : EReal) := by
  rw [Ideal.log_coe, if_neg (by norm_num), ← EReal.coe_mul]
  show ((Real.exp _ : ℝ) : EReal) = _
  rw [exp_mul_log_two]; rfl

theorem exp_neg_log (x : Fin 128 → ℝ) : Ideal.exp (-(((expo x : ℤ) : ℝ) : EReal) * Ideal.log ((2 : ℝ) : EReal)) = (((2 : ℝ) ^ (-expo x) : ℝ) : EReal) := by
  rw [Ideal.log_coe, if_neg (by norm_num), ← EReal.coe_neg, ← EReal.coe_mul]
  show ((Real.exp _ : ℝ) : EReal) = _
  rw [← Int.cast_neg, exp_mul_log_two]

end Cert.Rotate

end
-- ==== Proof.Rotate.Head.lean ====
/- One head of the kernel's body over the extended reals: its codes and its scale are those of its row of 128 numbers. -/
module

public import proofs.«01_k».proof.Proof.Gen.QuantIdeal.Skeleton
public import proofs.«01_k».proof.Proof.Rotate.Exponent

@[expose] public section

set_option maxRecDepth 16384

noncomputable section

namespace Cert.QuantIdeal.Rotate

open Cert.QuantIdeal Cert.QuantIdeal.Gen Cert.Rotate
open Idealize.ShloMosaic Idealize.ShloMosaic.TcCoe

variable (v0 : Vec Ideal S128x128 .bf16) (v6 : Vec Ideal S1x64x128 .bf16) (r : Fin 64)

theorem rot_at (d : Fin 128) : (k0_pay5 v0 v6 (ix2 r d) : EReal) = ∑ k : Fin 128, (v6 (ix3 0 r k) * v0 (ix2 k d) : EReal) := by
  pointwise [k0_pay5, k0_pay3]

theorem power_at (i : Fin 64) (j : Fin 256) : (k0_pay4 (F := Ideal) (ix2 i j) : EReal) = Ideal.ofBits .f32 (IntOp.shli .vector (BitVec.ofNat 32 j.val) 23#32) := by
  pointwise [k0_pay4]

/-- Not below is at least. -/
theorem not_below (y p : EReal) : IntOp.xori (BitVec.ofBool (decide (y < p))) 1#1 = BitVec.ofBool (decide (p ≤ y)) := by
  by_cases h : y < p
  · rw [decide_eq_true h, decide_eq_false (not_le.mpr h)]; rfl
  · rw [decide_eq_false h, decide_eq_true (not_lt.mp h)]; rfl

theorem word_at : k0_pay6 v0 v6 (ix2 r 0) = expoWord ((Finset.univ.fold max ⊥ fun d : Fin 128 => FloatOps.absf (φ := .f32) (F := Ideal) (k0_pay5 v0 v6 (ix2 r d))) * Ideal.ofBits .f32 0x3B124925#32) := by
  rw [← ofBits_bot]
  unfold expoWord
  simp only [← power_at r, ← not_below]
  pointwise [k0_pay6]

theorem scale_at : (k0_pay7 v0 v6 (ix2 r 0) : EReal) = Ideal.ofBits .f32 (IntOp.shli .vector (IntOp.addi (k0_pay6 v0 v6 (ix2 r 0)) 127#32) 23#32) := by
  pointwise [k0_pay7]

theorem code_at (d : Fin 128) : (k0_pay11 (k0_pay5 v0 v6) (k0_pay8 v0 v6) (ix3 0 r d) : EReal)
    = min (Ideal.ofBits .f32 0x43E00000#32) (max (Ideal.ofBits .f32 0xC3E00000#32) ((k0_pay5 v0 v6 (ix2 r d) : EReal)
      * Ideal.ofBits .f32 (IntOp.shli .vector (IntOp.subi 127#32 (k0_pay6 v0 v6 (ix2 r 0))) 23#32))) := by
  pointwise [k0_pay11, k0_pay9, k0_pay8]

theorem tile_at (d : Fin 128) : (k0_pay10 (k0_pay5 v0 v6) (k0_pay8 v0 v6) (ix5 0 0 0 r d) : EReal)
    = min (Ideal.ofBits .f32 0x43E00000#32) (max (Ideal.ofBits .f32 0xC3E00000#32) ((k0_pay5 v0 v6 (ix2 r d) : EReal)
      * Ideal.ofBits .f32 (IntOp.shli .vector (IntOp.subi 127#32 (k0_pay6 v0 v6 (ix2 r 0))) 23#32))) := by
  pointwise [k0_pay10, k0_pay9, k0_pay8]

/-! ### On a row of numbers of ordinary size -/

variable {v0 v6} (x : Fin 128 → ℝ) (h0 : ∀ k d : Fin 128, (v0 (ix2 k d) : EReal) = ((had k d : ℝ) : EReal)) (h6 : ∀ k : Fin 128, (v6 (ix3 0 r k) : EReal) = ((x k : ℝ) : EReal))
include h0 h6

theorem rot_head (d : Fin 128) : (k0_pay5 v0 v6 (ix2 r d) : EReal) = ((rot x d : ℝ) : EReal) := by
  rw [rot_at, ← rot_coe]
  exact Finset.sum_congr rfl fun k _ => by rw [h0, h6]

variable (hx : Ordinary x)
include hx

theorem word_head : k0_pay6 v0 v6 (ix2 r 0) = BitVec.ofInt 32 (expo x) := by
  have e : (Finset.univ.fold max ⊥ fun d : Fin 128 => FloatOps.absf (φ := .f32) (F := Ideal) (k0_pay5 v0 v6 (ix2 r d)) : EReal) = ((peak x : ℝ) : EReal) := by
    rw [← peak_coe]
    refine congrArg (fun f => Finset.univ.fold max ⊥ f) (funext fun d => ?_)
    rw [rot_head r x h0 h6 d]; rfl
  rw [word_at, e, ofBits_factor, ← EReal.coe_mul, expoWord_eq hx]

theorem scale_head : (k0_pay7 v0 v6 (ix2 r 0) : EReal) = ((scale x : ℝ) : EReal) := by
  rw [scale_at, word_head r x h0 h6 hx, scale_word hx]

theorem code_head (d : Fin 128) : (k0_pay11 (k0_pay5 v0 v6) (k0_pay8 v0 v6) (ix3 0 r d) : EReal) = ((code x d : ℝ) : EReal) := by
  rw [code_at, word_head r x h0 h6 hx, inverse_word hx, rot_head r x h0 h6 d, ofBits_high, ofBits_low, code_coe]

theorem code_tile (d : Fin 128) : (k0_pay10 (k0_pay5 v0 v6) (k0_pay8 v0 v6) (ix5 0 0 0 r d) : EReal) = ((code x d : ℝ) : EReal) := by
  rw [tile_at, word_head r x h0 h6 hx, inverse_word hx, rot_head r x h0 h6 d, ofBits_high, ofBits_low, code_coe]

end Cert.QuantIdeal.Rotate

end
-- ==== Proof.Rotate.Blocks.lean ====
/- The three blocks the kernel's body stores, an entry at a time: each is a family of 64 pieces, one for each head, and each piece is
   that of a row of 128 numbers. -/
module

public import proofs.«01_k».proof.Proof.Gen.QuantIdeal.Frame
public import proofs.«01_k».proof.Proof.Rotate.Head
public import Idealize.ShloMosaic.Lib.Pipeline.Value
public import Idealize.ShloMosaic.Lib.Pipeline.ValueKit.Tiles

@[expose] public section

set_option maxRecDepth 16384

noncomputable section

namespace Cert.QuantIdeal.Rotate

open Cert.QuantIdeal Cert.QuantIdeal.Gen Cert.Rotate
open Idealize.ShloMosaic Idealize.ShloMosaic.TcCoe

/-! ### The pieces -/

theorem inCols (o : ℕ) (h : o + 128 ≤ 8192) : ∀ a, (![0, 0, o] : Fin 3 → ℕ) a + S1x64x128.size a ≤ S1x64x8192.size a
  | ⟨0, _⟩ => by show 0 + 1 ≤ 1; omega
  | ⟨1, _⟩ => by show 0 + 64 ≤ 64; omega
  | ⟨2, _⟩ => h

/-- The 128 columns of head `h`. -/
abbrev cols (h : Fin 64) : Rect S1x64x8192 := Rect.unit ![0, 0, 128 * h.val] S1x64x128.size (inCols _ (by omega))

theorem inTile (a o : ℕ) (ha : a + 1 ≤ 8) (h : o + 64 ≤ 512) : ∀ i, (![0, a, 0, o, 0] : Fin 5 → ℕ) i + S1x1x1x64x128.size i ≤ S1x8x1x512x128.size i
  | ⟨0, _⟩ => by show 0 + 1 ≤ 1; omega
  | ⟨1, _⟩ => ha
  | ⟨2, _⟩ => by show 0 + 1 ≤ 1; omega
  | ⟨3, _⟩ => h
  | ⟨4, _⟩ => by show 0 + 128 ≤ 128; omega

/-- The 64 rows of head `h` in the tiles. -/
abbrev rowsOf (h : Fin 64) : Rect S1x8x1x512x128 := Rect.unit ![0, h.val / 8, 0, 64 * (h.val % 8), 0] S1x1x1x64x128.size (inTile _ _ (by omega) (by omega))

variable (x0 : Vec Ideal S1x64x8192 .bf16) (x1 : Vec Ideal S128x128 .bf16)

/-- The rows of head `h` rotated, and the factors that divide them by their scales. -/
abbrev rotated (h : Fin 64) := k0_pay5 (View.ld x1 r0_0) (View.ld x0 (cols h))
abbrev factors (h : Fin 64) := k0_pay8 (View.ld x1 r0_0) (View.ld x0 (cols h))

theorem out2_eq : out0_2 x0 x1 = View.canon (List.ofFn fun h : Fin 64 => ⟨cols h.rev, k0_pay11 (rotated x0 x1 h.rev) (factors x0 x1 h.rev)⟩) := by rfl
theorem out3_eq : out0_3 x0 x1 = View.canon (List.ofFn fun h : Fin 64 => ⟨rowsOf h.rev, k0_pay10 (rotated x0 x1 h.rev) (factors x0 x1 h.rev)⟩) := by rfl

theorem concats : Shape.Concatenates ((List.ofFn fun _ : Fin 64 => (⟨S64x1, fun _ => 0⟩ : (s : Shape) × (s.Idx → EReal))).map (·.1)) S64x64 1 := by decide +kernel

/-- The scales of all heads, side by side. -/
abbrev sides : FVec Ideal S64x64 .f32 :=
  concatenate S64x64 1 (List.ofFn fun h : Fin 64 => ⟨S64x1, k0_pay7 (View.ld x1 r0_0) (View.ld x0 (cols h))⟩) concats

theorem out4_eq : out0_4 x0 x1 = View.canon [⟨r0_129, k0_pay2 (F := Ideal) (sides x0 x1)⟩] := by rfl

theorem side_at (v : FVec Ideal S64x64 .f32) (r h : Fin 64) : (k0_pay2 (F := Ideal) v (ix3 0 r h) : EReal) = v (ix2 r h) := by
  pointwise [k0_pay2]

/-! ### Families of pieces read at an entry -/

/-- A family of 128 columns for each head, at an entry of head `h`. -/
theorem read2 (P : Fin 64 → Vec Ideal S1x64x128 .fp8e4m3) (y : S1x64x8192.Idx) (r h : Fin 64) (d : Fin 128) (v : EReal) (hr : (y 1).val = r.val) (hd : (y 2).val = h.val * 128 + d.val)
    (hv : (P h (ix3 0 r d) : EReal) = v) :
    (View.canon (List.ofFn fun g : Fin 64 => (⟨cols g.rev, P g.rev⟩ : View.Piece (Elt Ideal) S1x64x8192 .fp8e4m3)) y : EReal) = v := by
  refine View.canon_ofFn_eq_of_forall (Val := Elt Ideal) (S := S1x64x8192) (e := .fp8e4m3) (fun g : Fin 64 => cols g.rev) (fun g : Fin 64 => P g.rev) y v ?_ ?_
  · refine ⟨h.rev, ?_⟩
    rw [Rect.mem_set_unit]
    intro a
    have hy : (y 0).val < 1 := (y 0).isLt
    match a with
    | ⟨0, _⟩ => show 0 ≤ (y 0).val ∧ (y 0).val < 0 + 1; omega
    | ⟨1, _⟩ => show 0 ≤ (y 1).val ∧ (y 1).val < 0 + 64; omega
    | ⟨2, _⟩ => show 128 * h.rev.rev.val ≤ (y 2).val ∧ (y 2).val < 128 * h.rev.rev.val + 128; rw [Fin.rev_rev]; omega
  · intro g x hx
    have hx' : ∀ a, (y a : ℕ) = (![0, 0, 128 * g.rev.val] : Fin 3 → ℕ) a + (x a).val := fun a => by
      rw [← hx]; exact Rect.idx_unit_val _ _ _ _ _
    have e1 : (y 1).val = 0 + (x 1).val := hx' 1
    have e2 : (y 2).val = 128 * g.rev.val + (x 2).val := hx' 2
    have l1 : (x 1).val < 64 := (x 1).isLt
    have l2 : (x 2).val < 128 := (x 2).isLt
    have l0 : (x 0).val < 1 := (x 0).isLt
    have eg : g.rev = h := Fin.ext (by omega)
    have ex : x = ix3 (0 : Fin 1) r d := funext fun a => Fin.ext (match a with
      | ⟨0, _⟩ => by show (x 0).val = 0; omega
      | ⟨1, _⟩ => by show (x 1).val = r.val; omega
      | ⟨2, _⟩ => by show (x 2).val = d.val; rw [eg] at e2; omega)
    rw [ex, eg]
    exact hv

/-- A family of 64 rows for each head, at an entry of head `h`. -/
theorem read3 (P : Fin 64 → Vec Ideal S1x1x1x64x128 .fp8e4m3) (y : S1x8x1x512x128.Idx) (r h : Fin 64) (d : Fin 128) (v : EReal) (hn : (y 1).val = h.val / 8)
    (hr : (y 3).val = 64 * (h.val % 8) + r.val) (hd : (y 4).val = d.val) (hv : (P h (ix5 0 0 0 r d) : EReal) = v) :
    (View.canon (List.ofFn fun g : Fin 64 => (⟨rowsOf g.rev, P g.rev⟩ : View.Piece (Elt Ideal) S1x8x1x512x128 .fp8e4m3)) y : EReal) = v := by
  refine View.canon_ofFn_eq_of_forall (Val := Elt Ideal) (S := S1x8x1x512x128) (e := .fp8e4m3) (fun g : Fin 64 => rowsOf g.rev) (fun g : Fin 64 => P g.rev) y v ?_ ?_
  · refine ⟨h.rev, ?_⟩
    rw [Rect.mem_set_unit]
    intro a
    have hy : (y 0).val < 1 := (y 0).isLt
    have hy2 : (y 2).val < 1 := (y 2).isLt
    match a with
    | ⟨0, _⟩ => show 0 ≤ (y 0).val ∧ (y 0).val < 0 + 1; omega
    | ⟨1, _⟩ => show h.rev.rev.val / 8 ≤ (y 1).val ∧ (y 1).val < h.rev.rev.val / 8 + 1; rw [Fin.rev_rev]; omega
    | ⟨2, _⟩ => show 0 ≤ (y 2).val ∧ (y 2).val < 0 + 1; omega
    | ⟨3, _⟩ => show 64 * (h.rev.rev.val % 8) ≤ (y 3).val ∧ (y 3).val < 64 * (h.rev.rev.val % 8) + 64; rw [Fin.rev_rev]; omega
    | ⟨4, _⟩ => show 0 ≤ (y 4).val ∧ (y 4).val < 0 + 128; omega
  · intro g x hx
    have hx' : ∀ a, (y a : ℕ) = (![0, g.rev.val / 8, 0, 64 * (g.rev.val % 8), 0] : Fin 5 → ℕ) a + (x a).val := fun a => by
      rw [← hx]; exact Rect.idx_unit_val _ _ _ _ _
    have e1 : (y 1).val = g.rev.val / 8 + (x 1).val := hx' 1
    have e3 : (y 3).val = 64 * (g.rev.val % 8) + (x 3).val := hx' 3
    have e4 : (y 4).val = 0 + (x 4).val := hx' 4
    have l0 : (x 0).val < 1 := (x 0).isLt
    have l1 : (x 1).val < 1 := (x 1).isLt
    have l2 : (x 2).val < 1 := (x 2).isLt
    have l3 : (x 3).val < 64 := (x 3).isLt
    have eg : g.rev = h := Fin.ext (by omega)
    have ex : x = ix5 (0 : Fin 1) (0 : Fin 1) (0 : Fin 1) r d := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = r.val; rw [eg] at e3; omega
      | ⟨4, _⟩ => by show (x 4).val = d.val; omega)
    rw [ex, eg]
    exact hv

/-! ### Entries of the blocks -/

theorem hz2 : (![0, 0] : Fin 2 → Nat) = fun _ => 0 := funext fun a => by fin_cases a <;> rfl
theorem hz3 : (![0, 0, 0] : Fin 3 → Nat) = fun _ => 0 := funext fun a => by fin_cases a <;> rfl

variable {x0 x1} (X : Fin 64 → Fin 64 → Fin 128 → ℝ) (h1 : ∀ k d : Fin 128, (x1 (ix2 k d) : EReal) = ((had k d : ℝ) : EReal))
  (h0 : ∀ (r h : Fin 64) (k : Fin 128) (y : S1x64x8192.Idx), (y 1).val = r.val → (y 2).val = h.val * 128 + k.val → (x0 y : EReal) = ((X r h k : ℝ) : EReal))
  (hX : ∀ r h, Ordinary (X r h))

include h1 in
theorem signs (k d : Fin 128) : (View.ld x1 r0_0 (ix2 k d) : EReal) = ((had k d : ℝ) : EReal) := by
  rw [View.ld_unit_zero hz2]; exact h1 k d

include h0 in
theorem numbers (r h : Fin 64) (k : Fin 128) : (View.ld x0 (cols h) (ix3 0 r k) : EReal) = ((X r h k : ℝ) : EReal) :=
  h0 r h k ((cols h).idx (ix3 0 r k)) ((Rect.idx_unit_val _ _ _ _ _).trans (by show 0 + r.val = r.val; omega))
    ((Rect.idx_unit_val _ _ _ _ _).trans (by show 128 * h.val + k.val = h.val * 128 + k.val; omega))

include h0 h1 hX

theorem out2_at (y : S1x64x8192.Idx) (r h : Fin 64) (d : Fin 128) (hr : (y 1).val = r.val) (hd : (y 2).val = h.val * 128 + d.val) :
    (out0_2 x0 x1 y : EReal) = ((code (X r h) d : ℝ) : EReal) := by
  rw [out2_eq]
  refine read2 (fun g : Fin 64 => k0_pay11 (rotated x0 x1 g) (factors x0 x1 g)) y r h d _ hr hd ?_
  exact code_head r (X r h) (signs h1) (numbers X h0 r h) (hX r h) d

theorem out3_at (y : S1x8x1x512x128.Idx) (r h : Fin 64) (d : Fin 128) (hn : (y 1).val = h.val / 8) (hr : (y 3).val = 64 * (h.val % 8) + r.val) (hd : (y 4).val = d.val) :
    (out0_3 x0 x1 y : EReal) = ((code (X r h) d : ℝ) : EReal) := by
  rw [out3_eq]
  refine read3 (fun g : Fin 64 => k0_pay10 (rotated x0 x1 g) (factors x0 x1 g)) y r h d _ hn hr hd ?_
  exact code_tile r (X r h) (signs h1) (numbers X h0 r h) (hX r h) d

theorem out4_at (y : S1x64x64.Idx) (r h : Fin 64) (hr : (y 1).val = r.val) (hh : (y 2).val = h.val) :
    (out0_4 x0 x1 y : EReal) = ((scale (X r h) : ℝ) : EReal) := by
  have hy : (y 0).val < 1 := (y 0).isLt
  have ey : y = ix3 (0 : Fin 1) r h := funext fun a => Fin.ext (match a with
    | ⟨0, _⟩ => by show (y 0).val = 0; omega
    | ⟨1, _⟩ => hr
    | ⟨2, _⟩ => hh)
  rw [out4_eq, View.canon_unit_zero hz3, ey, side_at]
  refine Eq.trans (concatenate_ofFn_unit_apply 1 (fun h : Fin 64 => k0_pay7 (View.ld x1 r0_0) (View.ld x0 (cols h))) concats rfl rfl (ix2 r h) h rfl (ix2 r 0) ?_) ?_
  · intro b hb
    match b with
    | ⟨0, _⟩ => rfl
    | ⟨1, _⟩ => exact absurd rfl hb
  · exact scale_head r (X r h) (signs h1) (numbers X h0 r h) (hX r h)

end Cert.QuantIdeal.Rotate

end
-- ==== Proof.Rotate.Index.lean ====
/- Where each operand's block lies at each point of the quantising call's grid: point `t` is tile `t % 192` of batch `t / 192`. -/
module

public import proofs.«01_k».proof.Proof.Gen.QuantIdeal.Launch

@[expose] public section

set_option maxRecDepth 16384

noncomputable section

namespace Cert.QuantIdeal.Rotate

open Cert.QuantIdeal Cert.QuantIdeal.Gen
open Idealize.ShloMosaic Idealize.ShloMosaic.TcCoe

theorem N_eq : cfg0.N = 384 := by decide +kernel

theorem index0 : ∀ t : Fin cfg0.N, win0_0.index t = ![t.val / 192, t.val % 192, 0] :=
  (by decide +kernel : ∀ t : Fin grid0.N, win0_0.index t = ![t.val / 192, t.val % 192, 0])
theorem index1 : ∀ t : Fin cfg0.N, win0_1.index t = ![0, 0] :=
  (by decide +kernel : ∀ t : Fin grid0.N, win0_1.index t = ![0, 0])
theorem index2 : ∀ t : Fin cfg0.N, win0_2.index t = ![t.val / 192, t.val % 192, 0] :=
  (by decide +kernel : ∀ t : Fin grid0.N, win0_2.index t = ![t.val / 192, t.val % 192, 0])
theorem index3 : ∀ t : Fin cfg0.N, win0_3.index t = ![t.val / 192, 0, t.val % 192, 0, 0] :=
  (by decide +kernel : ∀ t : Fin grid0.N, win0_3.index t = ![t.val / 192, 0, t.val % 192, 0, 0])
theorem index4 : ∀ t : Fin cfg0.N, win0_4.index t = ![t.val / 192, t.val % 192, 0] :=
  (by decide +kernel : ∀ t : Fin grid0.N, win0_4.index t = ![t.val / 192, t.val % 192, 0])
theorem xsize2 : ∀ t : Fin cfg0.N, win0_2.xsize (grid0.coords t) = ![1, 64, 8192] :=
  (by decide +kernel : ∀ t : Fin grid0.N, win0_2.xsize (grid0.coords t) = ![1, 64, 8192])
theorem xsize3 : ∀ t : Fin cfg0.N, win0_3.xsize (grid0.coords t) = ![1, 8, 1, 512, 128] :=
  (by decide +kernel : ∀ t : Fin grid0.N, win0_3.xsize (grid0.coords t) = ![1, 8, 1, 512, 128])
theorem xsize4 : ∀ t : Fin cfg0.N, win0_4.xsize (grid0.coords t) = ![1, 64, 64] :=
  (by decide +kernel : ∀ t : Fin grid0.N, win0_4.xsize (grid0.coords t) = ![1, 64, 64])

end Cert.QuantIdeal.Rotate

end
-- ==== Proof.Rotate.Sign.lean ====
/- The entries of the matrix of signs as both programs compute them: one minus twice the number of shared set bits modulo two. -/
module

public import proofs.«01_k».proof.Proof.Rotate.Hadamard

@[expose] public section

noncomputable section

namespace Cert.Rotate

open Idealize.ShloMosaic

/-- The divisor two, guarded against zero. -/
abbrev two : BitVec 32 := Scalar.select (IntOp.cmpi CmpIPredicate.eq 2#32 0#32) 1#32 2#32

/-- The remainder by two that takes the divisor's sign. -/
abbrev remWord (w : BitVec 32) : BitVec 32 :=
  Scalar.select (IntOp.andi (IntOp.cmpi CmpIPredicate.ne (IntOp.cmpi CmpIPredicate.slt (IntOp.remsi ArithUnit.host w two) 0#32) (IntOp.cmpi CmpIPredicate.slt two 0#32))
    (IntOp.cmpi CmpIPredicate.ne (IntOp.remsi ArithUnit.host w two) 0#32)) (IntOp.addi (IntOp.remsi ArithUnit.host w two) two) (IntOp.remsi ArithUnit.host w two)

/-- The word of the sign at `(k, d)`. -/
abbrev signWord (k d : Fin 128) : BitVec 32 :=
  IntOp.subi (1#32) (IntOp.muli (2#32) (remWord (IntOp.ctpop (IntOp.andi (BitVec.ofNat 32 k.val) (BitVec.ofNat 32 d.val)))))

theorem sign_of_common : ∀ l : Fin 128, (IntOp.subi (1#32) (IntOp.muli (2#32) (remWord (IntOp.ctpop (BitVec.ofNat 32 l.val))))).toInt = if odd l.val then -1 else 1 := by
  decide +kernel

theorem signWord_toInt (k d : Fin 128) : (signWord k d).toInt = sign k.val d.val := by
  have e : IntOp.andi (BitVec.ofNat 32 k.val) (BitVec.ofNat 32 d.val) = BitVec.ofNat 32 (k.val &&& d.val) := by
    apply BitVec.eq_of_toNat_eq
    have hk : k.val < 2 ^ 32 := by omega
    have hd : d.val < 2 ^ 32 := by omega
    have h : k.val &&& d.val < 2 ^ 32 := Nat.and_lt_two_pow _ hd
    rw [IntOp.andi, BitVec.toNat_and, BitVec.toNat_ofNat, BitVec.toNat_ofNat, BitVec.toNat_ofNat, Nat.mod_eq_of_lt hk, Nat.mod_eq_of_lt hd, Nat.mod_eq_of_lt h]
  have hl : k.val &&& d.val < 128 := Nat.and_lt_two_pow (n := 7) _ d.isLt
  rw [signWord, e]
  exact sign_of_common ⟨k.val &&& d.val, hl⟩

/-- The sign as a number of any format. -/
theorem sitofp_signWord (φ : FTy) (k d : Fin 128) : (FloatOps.sitofp φ (signWord k d) : Ideal φ) = ((had k d : ℝ) : EReal) := by
  show (((signWord k d).toInt : ℝ) : EReal) = _
  rw [signWord_toInt]; rfl

end Cert.Rotate

end
-- ==== Proof.Rotate.Signs.lean ====
/- The matrix of signs that the kernel's call is given: the host's operations read an entry at a time. -/
module

public import proofs.«01_k».proof.Proof.Gen.QuantIdeal.Frame
public import proofs.«01_k».proof.Proof.Rotate.Sign

@[expose] public section

set_option maxRecDepth 16384

noncomputable section

namespace Cert.QuantIdeal.Rotate

open Cert.QuantIdeal Cert.QuantIdeal.Gen Cert.Rotate
open Idealize.ShloMosaic Idealize.ShloMosaic.TcCoe

section stretches
variable (W : Valuation τ sig (Elt Ideal))

theorem common_at (i j : Fin 128) : (StableHlo.after hostOps0 W (Proc.devRef .tc main_v6) : IVec S128x128 32) (ix2 i j)
    = IntOp.ctpop (IntOp.andi (BitVec.ofNat 32 i.val) (BitVec.ofNat 32 j.val)) := by
  after_results
  pointwise []

theorem two_eq : (StableHlo.after hostOps0 W (Proc.devRef .tc main_c) : IVec S_ 32) = constantI S_ 32 2#32 := by
  after_results

/-- The guarded divisor. -/
abbrev divisor (c : IVec S_ 32) : IVec S_ 32 := select (cmpi .eq c (constantI S_ 32 0#32)) (constantI S_ 32 1#32) c
/-- The remainder that takes the divisor's sign. -/
abbrev remainder (x : IVec S128x128 32) (c : IVec S_ 32) : IVec S128x128 32 :=
  select (andi (cmpi .ne (cmpi .slt (Host.remsi x (broadcastInDim S128x128 ![] bcast_S_S128x128 (divisor c))) (broadcastInDim S128x128 ![] bcast_S_S128x128 (constantI S_ 32 0#32)))
      (broadcastInDim S128x128 ![] bcast_S_S128x128 (cmpi .slt (divisor c) (constantI S_ 32 0#32))))
    (cmpi .ne (Host.remsi x (broadcastInDim S128x128 ![] bcast_S_S128x128 (divisor c))) (broadcastInDim S128x128 ![] bcast_S_S128x128 (constantI S_ 32 0#32))))
    (addi (Host.remsi x (broadcastInDim S128x128 ![] bcast_S_S128x128 (divisor c))) (broadcastInDim S128x128 ![] bcast_S_S128x128 (divisor c)))
    (Host.remsi x (broadcastInDim S128x128 ![] bcast_S_S128x128 (divisor c)))

theorem remainder_eq : (StableHlo.after hostOps0_1 W (Proc.devRef .tc main_v7) : IVec S128x128 32)
    = remainder (W (Proc.devRef .tc main_v6) : IVec S128x128 32) (W (Proc.devRef .tc main_c) : IVec S_ 32) := by
  after_results
  simp only [StableHlo.TRef.ofBuf_toBuf, id]
  rfl

theorem remainder_at (x : IVec S128x128 32) (i j : Fin 128) : remainder x (constantI S_ 32 2#32) (ix2 i j) = remWord (x (ix2 i j)) := by
  pointwise []

theorem float_at (i j : Fin 128) : ((StableHlo.after hostOps0_2 W (Proc.devRef .tc main_v12) : FVec Ideal S128x128 .bf16) (ix2 i j) : EReal)
    = (FloatOps.sitofp FTy.bf16 (IntOp.subi (1#32) (IntOp.muli (2#32) ((W (Proc.devRef .tc main_v7) : IVec S128x128 32) (ix2 i j)))) : Ideal .bf16) := by
  after_results
  pointwise []

end stretches

/-- The matrix the call is given is the matrix of signs. -/
theorem matrix_at (m : (ℓ : Loc nD τ sig) → Buf (Elt Ideal) ℓ) (c : Dev nD) (k d : Fin 128) :
    ((V m c main_v12 : FVec Ideal S128x128 .bf16) (ix2 k d) : EReal) = ((had k d : ℝ) : EReal) := by
  show ((StableHlo.after hostOps0_2 (StableHlo.after hostOps0_1 (StableHlo.after hostOps0 fun b => m (c, b))) (Proc.devRef .tc main_v12) : FVec Ideal S128x128 .bf16) (ix2 k d) : EReal) = _
  rw [float_at, remainder_eq, two_eq, remainder_at, common_at]
  exact sitofp_signWord .bf16 k d

end Cert.QuantIdeal.Rotate

end
-- ==== Proof.Rotate.Spec.lean ====
/- The three results of the rotation and quantisation over the extended reals: codes, the same codes grouped by tile, and scales. -/
module

public import proofs.«01_k».proof.Proof.Rotate.Exponent

@[expose] public section

noncomputable section

namespace Cert.Rotate

open Idealize.ShloMosaic

abbrev In : Shape := ⟨3, ![2, 12288, 8192]⟩
abbrev Tiles : Shape := ⟨5, ![2, 8, 192, 512, 128]⟩
abbrev Heads : Shape := ⟨3, ![2, 12288, 64]⟩

variable (x : FVec Ideal In .bf16)

/-- The 128 numbers of batch `b`, position `s` and head `h`. -/
def row (b : Fin 2) (s : Fin 12288) (h : Fin 64) : Fin 128 → ℝ := fun k => EReal.toReal (x (ix3 b s ⟨h.val * 128 + k.val, by omega⟩) : EReal)

/-- Every entry is a number that is zero or of ordinary size. -/
def Sized : Prop := ∀ y : In.Idx, ∃ r : ℝ, (x y : EReal) = (r : EReal) ∧ (r = 0 ∨ ((2 : ℝ) ^ (-60 : ℤ) ≤ |r| ∧ |r| ≤ (2 : ℝ) ^ (60 : ℤ)))

/-- The codes, by position. -/
def codes : FVec Ideal In .fp8e4m3 := fun y =>
  ((code (row x (y 0) (y 1) ⟨(y 2).val / 128, by have h : (y 2).val < 8192 := (y 2).isLt; omega⟩) ⟨(y 2).val % 128, Nat.mod_lt _ (by omega)⟩ : ℝ) : EReal)

/-- The codes, by tile. -/
def tiles : FVec Ideal Tiles .fp8e4m3 := fun y =>
  ((code (row x (y 0) ⟨(y 2).val * 64 + (y 3).val % 64, by have h : (y 2).val < 192 := (y 2).isLt; omega⟩
      ⟨(y 1).val * 8 + (y 3).val / 64, by have h : (y 1).val < 8 := (y 1).isLt; have h' : (y 3).val < 512 := (y 3).isLt; omega⟩) (y 4) : ℝ) : EReal)

/-- The scales. -/
def scales : FVec Ideal Heads .f32 := fun y => ((scale (row x (y 0) (y 1) (y 2)) : ℝ) : EReal)

variable {x}

theorem row_coe (hx : Sized x) (b : Fin 2) (s : Fin 12288) (h : Fin 64) (k : Fin 128) (y : In.Idx) (h0 : (y 0).val = b.val) (h1 : (y 1).val = s.val)
    (h2 : (y 2).val = h.val * 128 + k.val) : (x y : EReal) = ((row x b s h k : ℝ) : EReal) := by
  have e : y = ix3 b s ⟨h.val * 128 + k.val, by omega⟩ := funext fun a => Fin.ext (match a with
    | ⟨0, _⟩ => h0
    | ⟨1, _⟩ => h1
    | ⟨2, _⟩ => h2)
  obtain ⟨r, hr, -⟩ := hx y
  unfold row
  rw [← e, hr, EReal.toReal_coe]

theorem row_ordinary (hx : Sized x) (b : Fin 2) (s : Fin 12288) (h : Fin 64) : Ordinary (row x b s h) := by
  intro k
  obtain ⟨r, hr, ho⟩ := hx (ix3 b s ⟨h.val * 128 + k.val, by omega⟩)
  unfold row
  rw [hr, EReal.toReal_coe]
  exact ho

end Cert.Rotate

end
-- ==== Proof.Rotate.Whole.lean ====
/- What the kernel's three result arrays hold after the run, over the extended reals: every block is the part it covers of the array
   of `Cert.Rotate`, and the blocks tile the array. -/
module

public import proofs.«01_k».proof.Proof.Gen.QuantIdeal.Value
public import proofs.«01_k».proof.Proof.Rotate.Blocks
public import proofs.«01_k».proof.Proof.Rotate.Index
public import proofs.«01_k».proof.Proof.Rotate.Signs
public import proofs.«01_k».proof.Proof.Rotate.Spec

@[expose] public section

set_option maxRecDepth 16384

noncomputable section

namespace Cert.QuantIdeal.Rotate

open Cert.QuantIdeal Cert.QuantIdeal.Gen Cert.Rotate
open Idealize.ShloMosaic Idealize.ShloMosaic.TcCoe Idealize.SL.Sem
open Idealize.ShloMosaic.Pipeline (Dat)

variable (m : (ℓ : Loc nD τ sig) → Buf (Elt Ideal) ℓ) (c : Dev nD)

/-- The argument. -/
abbrev arg : FVec Ideal In .bf16 := m ((c : Thread nD τ).loc main_arg0)

/-- The batch of point `t`, and the position of row `r` of point `t`. -/
def tb (t : Fin cfg0.N) : Fin 2 := ⟨t.val / 192, by have h := t.isLt; have e := N_eq; omega⟩
def ts (t : Fin cfg0.N) (r : Fin 64) : Fin 12288 := ⟨t.val % 192 * 64 + r.val, by omega⟩

/-- The numbers of point `t`, by row and head. -/
abbrev X (t : Fin cfg0.N) (r h : Fin 64) : Fin 128 → ℝ := row (arg m c) (tb t) (ts t r) h

/-! ### The blocks the body reads -/

theorem blk1 (t : Fin cfg0.N) (k d : Fin 128) : ((iblk m c 1 t : Vec Ideal S128x128 .bf16) (ix2 k d) : EReal) = ((had k d : ℝ) : EReal) := by
  refine Eq.trans (congrArg (V m c main_v12 : FVec Ideal S128x128 .bf16) (funext fun a => Fin.ext ?_)) (matrix_at m c k d)
  show win0_1.index t a * win0_1.block.size a + 1 * ((ix2 k d) a).val = _
  rw [index1]
  match a with
  | ⟨0, _⟩ => show 0 * 128 + 1 * k.val = k.val; omega
  | ⟨1, _⟩ => show 0 * 128 + 1 * d.val = d.val; omega

variable (hx : Sized (arg m c))
include hx

theorem blk0 (t : Fin cfg0.N) (r h : Fin 64) (k : Fin 128) (y : S1x64x8192.Idx) (h1 : (y 1).val = r.val) (h2 : (y 2).val = h.val * 128 + k.val) :
    ((iblk m c 0 t : Vec Ideal S1x64x8192 .bf16) y : EReal) = ((X m c t r h k : ℝ) : EReal) := by
  refine Eq.trans (congrFun (V_main_arg0 m c) _) (row_coe hx (tb t) (ts t r) h k _ ?_ ?_ ?_)
  · show win0_0.index t 0 * 1 + 1 * (y 0).val = t.val / 192
    have h0 : (y 0).val < 1 := (y 0).isLt
    rw [index0]; show t.val / 192 * 1 + 1 * (y 0).val = t.val / 192; omega
  · show win0_0.index t 1 * 64 + 1 * (y 1).val = t.val % 192 * 64 + r.val
    rw [index0]; show t.val % 192 * 64 + 1 * (y 1).val = _; omega
  · show win0_0.index t 2 * 8192 + 1 * (y 2).val = h.val * 128 + k.val
    rw [index0]; show 0 * 8192 + 1 * (y 2).val = _; omega

theorem ordinary (t : Fin cfg0.N) (r h : Fin 64) : Ordinary (X m c t r h) := row_ordinary hx _ _ _

omit hx

/-- Equal coordinates, equal entries. -/
theorem code_congr {x : FVec Ideal In .bf16} {b b' : Fin 2} {s s' : Fin 12288} {h h' : Fin 64} {d d' : Fin 128} (eb : b.val = b'.val) (es : s.val = s'.val)
    (eh : h.val = h'.val) (ed : d.val = d'.val) : (((code (row x b s h) d : ℝ) : EReal)) = ((code (row x b' s' h') d' : ℝ) : EReal) := by
  rw [Fin.ext eb, Fin.ext es, Fin.ext eh, Fin.ext ed]
theorem scale_congr {x : FVec Ideal In .bf16} {b b' : Fin 2} {s s' : Fin 12288} {h h' : Fin 64} (eb : b.val = b'.val) (es : s.val = s'.val)
    (eh : h.val = h'.val) : (((scale (row x b s h) : ℝ) : EReal)) = ((scale (row x b' s' h') : ℝ) : EReal) := by
  rw [Fin.ext eb, Fin.ext es, Fin.ext eh]

/-! ### The codes by position -/

include hx in
theorem flushed_codes (t : Fin cfg0.N) : (dats m 0 c).flushed 2 t = ((cfg0.win 2).blk t).view.read (Elt Ideal) (codes (arg m c)) := by
  rw [Value.flushed2]
  funext y
  have hy0 : (y 0).val < 1 := lt_of_lt_of_le (y 0).isLt (by show win0_2.xsize (grid0.coords t) 0 ≤ 1; rw [xsize2]; exact le_rfl)
  have hy1 : (y 1).val < 64 := lt_of_lt_of_le (y 1).isLt (by show win0_2.xsize (grid0.coords t) 1 ≤ 64; rw [xsize2]; exact le_rfl)
  have hy2 : (y 2).val < 8192 := lt_of_lt_of_le (y 2).isLt (by show win0_2.xsize (grid0.coords t) 2 ≤ 8192; rw [xsize2]; exact le_rfl)
  refine (out2_at (X m c t) (blk1 m c t) (blk0 m c hx t) (ordinary m c hx t) _ ⟨(y 1).val, hy1⟩ ⟨(y 2).val / 128, by omega⟩ ⟨(y 2).val % 128, Nat.mod_lt _ (by omega)⟩ rfl
    (by show (y 2).val = (y 2).val / 128 * 128 + (y 2).val % 128; omega)).trans ?_
  refine code_congr (x := arg m c) ?_ ?_ ?_ ?_
  · show t.val / 192 = win0_2.index t 0 * 1 + 1 * (y 0).val
    rw [index2]; show t.val / 192 = t.val / 192 * 1 + 1 * (y 0).val; omega
  · show t.val % 192 * 64 + (y 1).val = win0_2.index t 1 * 64 + 1 * (y 1).val
    rw [index2]; show _ = t.val % 192 * 64 + 1 * (y 1).val; omega
  · show (y 2).val / 128 = (win0_2.index t 2 * 8192 + 1 * (y 2).val) / 128
    rw [index2]; show _ = (0 * 8192 + 1 * (y 2).val) / 128; omega
  · show (y 2).val % 128 = (win0_2.index t 2 * 8192 + 1 * (y 2).val) % 128
    rw [index2]; show _ = (0 * 8192 + 1 * (y 2).val) % 128; omega

theorem cover_codes (i : S2x12288x8192.Idx) : ∃ t : Fin cfg0.N, (cfg0.win 2).flush t = true ∧ i ∈ ((cfg0.win 2).blk t).view.set := by
  have h0 : (i 0).val < 2 := (i 0).isLt
  have h1 : (i 1).val < 12288 := (i 1).isLt
  have h2 : (i 2).val < 8192 := (i 2).isLt
  have hN := N_eq
  obtain ⟨t, ht⟩ : ∃ t : Fin cfg0.N, t.val = (i 0).val * 192 + (i 1).val / 64 := ⟨⟨_, by omega⟩, rfl⟩
  refine ⟨t, flush0_2 _, ?_⟩
  show i ∈ ((View.whole main_v13_0).slice (win0_2.rect t)).set
  rw [View.set_slice_whole, Rect.mem_set_unit]
  intro a
  show win0_2.index t a * win0_2.size a ≤ (i a).val ∧ (i a).val < win0_2.index t a * win0_2.size a + win0_2.xsize (grid0.coords t) a
  rw [index2, xsize2]
  match a with
  | ⟨0, _⟩ => show t.val / 192 * 1 ≤ (i 0).val ∧ (i 0).val < t.val / 192 * 1 + 1; omega
  | ⟨1, _⟩ => show t.val % 192 * 64 ≤ (i 1).val ∧ (i 1).val < t.val % 192 * 64 + 64; omega
  | ⟨2, _⟩ => show 0 * 8192 ≤ (i 2).val ∧ (i 2).val < 0 * 8192 + 8192; omega

include hx in
theorem final_codes : (dats m 0 c).arrAt 2 cfg0.N = codes (arg m c) :=
  (dats m 0 c).arrAt_eq_of_cover 2 (codes (arg m c)) (fun t _ => flushed_codes m c hx t) cover_codes

/-! ### The codes by tile -/

include hx in
theorem flushed_tiles (t : Fin cfg0.N) : (dats m 0 c).flushed 3 t = ((cfg0.win 3).blk t).view.read (Elt Ideal) (tiles (arg m c)) := by
  rw [Value.flushed3]
  funext y
  have hy0 : (y 0).val < 1 := lt_of_lt_of_le (y 0).isLt (by show win0_3.xsize (grid0.coords t) 0 ≤ 1; rw [xsize3]; exact le_rfl)
  have hy1 : (y 1).val < 8 := lt_of_lt_of_le (y 1).isLt (by show win0_3.xsize (grid0.coords t) 1 ≤ 8; rw [xsize3]; exact le_rfl)
  have hy2 : (y 2).val < 1 := lt_of_lt_of_le (y 2).isLt (by show win0_3.xsize (grid0.coords t) 2 ≤ 1; rw [xsize3]; exact le_rfl)
  have hy3 : (y 3).val < 512 := lt_of_lt_of_le (y 3).isLt (by show win0_3.xsize (grid0.coords t) 3 ≤ 512; rw [xsize3]; exact le_rfl)
  have hy4 : (y 4).val < 128 := lt_of_lt_of_le (y 4).isLt (by show win0_3.xsize (grid0.coords t) 4 ≤ 128; rw [xsize3]; exact le_rfl)
  refine (out3_at (X m c t) (blk1 m c t) (blk0 m c hx t) (ordinary m c hx t) _ ⟨(y 3).val % 64, Nat.mod_lt _ (by omega)⟩ ⟨(y 1).val * 8 + (y 3).val / 64, by omega⟩ ⟨(y 4).val, hy4⟩
    (by show (y 1).val = ((y 1).val * 8 + (y 3).val / 64) / 8; omega)
    (by show (y 3).val = 64 * (((y 1).val * 8 + (y 3).val / 64) % 8) + (y 3).val % 64; omega) rfl).trans ?_
  refine code_congr (x := arg m c) ?_ ?_ ?_ ?_
  · show t.val / 192 = win0_3.index t 0 * 1 + 1 * (y 0).val
    rw [index3]; show t.val / 192 = t.val / 192 * 1 + 1 * (y 0).val; omega
  · show t.val % 192 * 64 + (y 3).val % 64 = (win0_3.index t 2 * 1 + 1 * (y 2).val) * 64 + (win0_3.index t 3 * 512 + 1 * (y 3).val) % 64
    rw [index3]; show _ = (t.val % 192 * 1 + 1 * (y 2).val) * 64 + (0 * 512 + 1 * (y 3).val) % 64; omega
  · show (y 1).val * 8 + (y 3).val / 64 = (win0_3.index t 1 * 8 + 1 * (y 1).val) * 8 + (win0_3.index t 3 * 512 + 1 * (y 3).val) / 64
    rw [index3]; show _ = (0 * 8 + 1 * (y 1).val) * 8 + (0 * 512 + 1 * (y 3).val) / 64; omega
  · show (y 4).val = win0_3.index t 4 * 128 + 1 * (y 4).val
    rw [index3]; show _ = 0 * 128 + 1 * (y 4).val; omega

theorem cover_tiles (i : S2x8x192x512x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 192 := (i 2).isLt
  have h3 : (i 3).val < 512 := (i 3).isLt
  have h4 : (i 4).val < 128 := (i 4).isLt
  have hN := N_eq
  obtain ⟨t, ht⟩ : ∃ t : Fin cfg0.N, t.val = (i 0).val * 192 + (i 2).val := ⟨⟨_, by omega⟩, rfl⟩
  refine ⟨t, flush0_3 _, ?_⟩
  show i ∈ ((View.whole main_v13_1).slice (win0_3.rect t)).set
  rw [View.set_slice_whole, Rect.mem_set_unit]
  intro a
  show win0_3.index t a * win0_3.size a ≤ (i a).val ∧ (i a).val < win0_3.index t a * win0_3.size a + win0_3.xsize (grid0.coords t) a
  rw [index3, xsize3]
  match a with
  | ⟨0, _⟩ => show t.val / 192 * 1 ≤ (i 0).val ∧ (i 0).val < t.val / 192 * 1 + 1; omega
  | ⟨1, _⟩ => show 0 * 8 ≤ (i 1).val ∧ (i 1).val < 0 * 8 + 8; omega
  | ⟨2, _⟩ => show t.val % 192 * 1 ≤ (i 2).val ∧ (i 2).val < t.val % 192 * 1 + 1; omega
  | ⟨3, _⟩ => show 0 * 512 ≤ (i 3).val ∧ (i 3).val < 0 * 512 + 512; omega
  | ⟨4, _⟩ => show 0 * 128 ≤ (i 4).val ∧ (i 4).val < 0 * 128 + 128; omega

include hx in
theorem final_tiles : (dats m 0 c).arrAt 3 cfg0.N = tiles (arg m c) :=
  (dats m 0 c).arrAt_eq_of_cover 3 (tiles (arg m c)) (fun t _ => flushed_tiles m c hx t) cover_tiles

/-! ### The scales -/

include hx in
theorem flushed_scales (t : Fin cfg0.N) : (dats m 0 c).flushed 4 t = ((cfg0.win 4).blk t).view.read (Elt Ideal) (scales (arg m c)) := by
  rw [Value.flushed4]
  funext y
  have hy0 : (y 0).val < 1 := lt_of_lt_of_le (y 0).isLt (by show win0_4.xsize (grid0.coords t) 0 ≤ 1; rw [xsize4]; exact le_rfl)
  have hy1 : (y 1).val < 64 := lt_of_lt_of_le (y 1).isLt (by show win0_4.xsize (grid0.coords t) 1 ≤ 64; rw [xsize4]; exact le_rfl)
  have hy2 : (y 2).val < 64 := lt_of_lt_of_le (y 2).isLt (by show win0_4.xsize (grid0.coords t) 2 ≤ 64; rw [xsize4]; exact le_rfl)
  refine (out4_at (X m c t) (blk1 m c t) (blk0 m c hx t) (ordinary m c hx t) _ ⟨(y 1).val, hy1⟩ ⟨(y 2).val, hy2⟩ rfl rfl).trans ?_
  refine scale_congr (x := arg m c) ?_ ?_ ?_
  · show t.val / 192 = win0_4.index t 0 * 1 + 1 * (y 0).val
    rw [index4]; show t.val / 192 = t.val / 192 * 1 + 1 * (y 0).val; omega
  · show t.val % 192 * 64 + (y 1).val = win0_4.index t 1 * 64 + 1 * (y 1).val
    rw [index4]; show _ = t.val % 192 * 64 + 1 * (y 1).val; omega
  · show (y 2).val = win0_4.index t 2 * 64 + 1 * (y 2).val
    rw [index4]; show _ = 0 * 64 + 1 * (y 2).val; omega

theorem cover_scales (i : S2x12288x64.Idx) : ∃ t : Fin cfg0.N, (cfg0.win 4).flush t = true ∧ i ∈ ((cfg0.win 4).blk t).view.set := by
  have h0 : (i 0).val < 2 := (i 0).isLt
  have h1 : (i 1).val < 12288 := (i 1).isLt
  have h2 : (i 2).val < 64 := (i 2).isLt
  have hN := N_eq
  obtain ⟨t, ht⟩ : ∃ t : Fin cfg0.N, t.val = (i 0).val * 192 + (i 1).val / 64 := ⟨⟨_, by omega⟩, rfl⟩
  refine ⟨t, flush0_4 _, ?_⟩
  show i ∈ ((View.whole main_v13_2).slice (win0_4.rect t)).set
  rw [View.set_slice_whole, Rect.mem_set_unit]
  intro a
  show win0_4.index t a * win0_4.size a ≤ (i a).val ∧ (i a).val < win0_4.index t a * win0_4.size a + win0_4.xsize (grid0.coords t) a
  rw [index4, xsize4]
  match a with
  | ⟨0, _⟩ => show t.val / 192 * 1 ≤ (i 0).val ∧ (i 0).val < t.val / 192 * 1 + 1; omega
  | ⟨1, _⟩ => show t.val % 192 * 64 ≤ (i 1).val ∧ (i 1).val < t.val % 192 * 64 + 64; omega
  | ⟨2, _⟩ => show 0 * 64 ≤ (i 2).val ∧ (i 2).val < 0 * 64 + 64; omega

include hx in
theorem final_scales : (dats m 0 c).arrAt 4 cfg0.N = scales (arg m c) :=
  (dats m 0 c).arrAt_eq_of_cover 4 (scales (arg m c)) (fun t _ => flushed_scales m c hx t) cover_scales

end Cert.QuantIdeal.Rotate

end
-- ==== Proof.Rotate.Stages.lean ====
/- The plain program's operations read an entry at a time, stretch by stretch. -/
module

public import proofs.«01_k».proof.Proof.Gen.QuantReferenceIdeal.Launch
public import proofs.«01_k».proof.Proof.Rotate.Exponent
public import proofs.«01_k».proof.Proof.Rotate.Sign
public import Idealize.ShloMosaic.Lib.Pipeline.FrameTail

@[expose] public section

set_option maxRecDepth 16384

noncomputable section

namespace Cert.QuantReferenceIdeal.Ref

open Cert.QuantReferenceIdeal Cert.QuantReferenceIdeal.Gen Cert.Rotate
open Idealize.ShloMosaic Idealize.ShloMosaic.TcCoe

variable (W : Valuation τ sig (Elt Ideal))

/-- An entry of a float buffer's contents. -/
abbrev entryOf (s : Shape) (φ : FTy) (x : FVec Ideal s φ) (i : s.Idx) : EReal := x i

/-! ### The matrix of signs -/

theorem common_at (i j : Fin 128) : (StableHlo.after hostOps0 W (Proc.devRef .tc main_v6) : IVec S128x128 32) (ix2 i j)
    = IntOp.ctpop (IntOp.andi (BitVec.ofNat 32 i.val) (BitVec.ofNat 32 j.val)) := by
  after_results
  pointwise []

theorem two_eq : (StableHlo.after hostOps0 W (Proc.devRef .tc main_c) : IVec S_ 32) = constantI S_ 32 2#32 := by
  after_results

/-- The guarded divisor. -/
abbrev divisor (c : IVec S_ 32) : IVec S_ 32 := select (cmpi .eq c (constantI S_ 32 0#32)) (constantI S_ 32 1#32) c
/-- The remainder that takes the divisor's sign. -/
abbrev remainder (x : IVec S128x128 32) (c : IVec S_ 32) : IVec S128x128 32 :=
  select (andi (cmpi .ne (cmpi .slt (Host.remsi x (broadcastInDim S128x128 ![] bcast_S_S128x128 (divisor c))) (broadcastInDim S128x128 ![] bcast_S_S128x128 (constantI S_ 32 0#32)))
      (broadcastInDim S128x128 ![] bcast_S_S128x128 (cmpi .slt (divisor c) (constantI S_ 32 0#32))))
    (cmpi .ne (Host.remsi x (broadcastInDim S128x128 ![] bcast_S_S128x128 (divisor c))) (broadcastInDim S128x128 ![] bcast_S_S128x128 (constantI S_ 32 0#32))))
    (addi (Host.remsi x (broadcastInDim S128x128 ![] bcast_S_S128x128 (divisor c))) (broadcastInDim S128x128 ![] bcast_S_S128x128 (divisor c)))
    (Host.remsi x (broadcastInDim S128x128 ![] bcast_S_S128x128 (divisor c)))

theorem remainder_eq : (StableHlo.after hostOps0_1 W (Proc.devRef .tc main_v7) : IVec S128x128 32)
    = remainder (W (Proc.devRef .tc main_v6) : IVec S128x128 32) (W (Proc.devRef .tc main_c) : IVec S_ 32) := by
  after_results
  simp only [StableHlo.TRef.ofBuf_toBuf, id]
  rfl

theorem remainder_at (x : IVec S128x128 32) (i j : Fin 128) : remainder x (constantI S_ 32 2#32) (ix2 i j) = remWord (x (ix2 i j)) := by
  pointwise []

/-- The shared bits modulo two. -/
theorem parity_at (i j : Fin 128) : (StableHlo.after hostOps0_1 (StableHlo.after hostOps0 W) (Proc.devRef .tc main_v7) : IVec S128x128 32) (ix2 i j)
    = remWord (IntOp.ctpop (IntOp.andi (BitVec.ofNat 32 i.val) (BitVec.ofNat 32 j.val))) := by
  rw [remainder_eq, two_eq, remainder_at, common_at]

/-! ### The rotated rows, their largest sizes and their exponents -/

section row
variable (b : Fin 2) (s : Fin 12288) (h : Fin 64) (x : Fin 128 → ℝ)

theorem rot_at (d : Fin 128) : entryOf S2x12288x64x128 .f32 (StableHlo.after hostOps0_2 W (Proc.devRef .tc main_v15)) (ix4 b s h d)
    = ∑ k : Fin 128, entryOf S2x12288x8192 .bf16 (W (Proc.devRef .tc main_arg0)) (ix3 b s ⟨h.val * 128 + k.val, by omega⟩)
      * (FloatOps.sitofp FTy.f32 (IntOp.subi (1#32) (IntOp.muli (2#32) ((W (Proc.devRef .tc main_v7) : IVec S128x128 32) (ix2 k d)))) : Ideal .f32) := by
  unfold entryOf
  after_results
  pointwise []

theorem peak_at : entryOf S2x12288x64 .f32 (StableHlo.after hostOps0_2 W (Proc.devRef .tc main_v17)) (ix3 b s h)
    = Finset.univ.fold max ⊥ fun d : Fin 128 => FloatOps.absf (φ := .f32) (F := Ideal) (∑ k : Fin 128, entryOf S2x12288x8192 .bf16 (W (Proc.devRef .tc main_arg0)) (ix3 b s ⟨h.val * 128 + k.val, by omega⟩)
      * (FloatOps.sitofp FTy.f32 (IntOp.subi (1#32) (IntOp.muli (2#32) ((W (Proc.devRef .tc main_v7) : IVec S128x128 32) (ix2 k d)))) : Ideal .f32)) := by
  rw [← ofBits_bot]
  unfold entryOf
  after_results
  pointwise []

/-- The exponents by logarithm, from the largest sizes. -/
abbrev logs (a : FVec Ideal S2x12288x64 .f32) : FVec Ideal S2x12288x64 .f32 :=
  addf (Host.floor (Host.divf (Host.log (mulf a (broadcastInDim S2x12288x64 ![] bcast_S_S2x12288x64 (constant S_ .f32 0x3B124925#32 : FVec Ideal S_ .f32))))
    (broadcastInDim S2x12288x64 ![] bcast_S_S2x12288x64 (Host.log (constant S_ .f32 0x40000000#32 : FVec Ideal S_ .f32)))))
   (broadcastInDim S2x12288x64 ![] bcast_S_S2x12288x64 (constant S_ .f32 0x3F800000#32 : FVec Ideal S_ .f32))

theorem logs_eq : (StableHlo.after hostOps0_2 W (Proc.devRef .tc main_v26) : FVec Ideal S2x12288x64 .f32)
    = logs (StableHlo.after hostOps0_2 W (Proc.devRef .tc main_v17) : FVec Ideal S2x12288x64 .f32) := by
  after_results

theorem logs_at (a : FVec Ideal S2x12288x64 .f32) : entryOf S2x12288x64 .f32 (logs a) (ix3 b s h)
    = Ideal.liftRound Int.floor (Ideal.div (Ideal.log (entryOf S2x12288x64 .f32 a (ix3 b s h) * Ideal.ofBits .f32 0x3B124925#32)) (Ideal.log (Ideal.ofBits .f32 0x40000000#32))) + 1 := by
  unfold entryOf
  pointwise []

theorem zero_eq : (StableHlo.after hostOps0_2 W (Proc.devRef .tc main_v28) : IVec S2x12288x64 1)
    = cmpf .oeq (StableHlo.after hostOps0_2 W (Proc.devRef .tc main_v17) : FVec Ideal S2x12288x64 .f32)
      (broadcastInDim S2x12288x64 ![] bcast_S_S2x12288x64 (constant S_ .f32 0x00000000#32 : FVec Ideal S_ .f32)) := by
  after_results

theorem zero_at (a : FVec Ideal S2x12288x64 .f32) : (cmpf .oeq a (broadcastInDim S2x12288x64 ![] bcast_S_S2x12288x64 (constant S_ .f32 0x00000000#32 : FVec Ideal S_ .f32)) : IVec S2x12288x64 1) (ix3 b s h)
    = Ideal.cmp .oeq (entryOf S2x12288x64 .f32 a (ix3 b s h)) 0 := by
  show Ideal.cmp .oeq (entryOf S2x12288x64 .f32 a (ix3 b s h)) (Ideal.ofBits .f32 0x00000000#32) = _
  rw [Ideal.ofBits_zero]

theorem log_two_at : entryOf S_ .f32 (StableHlo.after hostOps0_2 W (Proc.devRef .tc main_v18)) ix0 = Ideal.log ((2 : ℝ) : EReal) := by
  rw [← ofBits_two]
  unfold entryOf
  after_results
  pointwise []

theorem cst_at : entryOf S_ .f32 (StableHlo.after hostOps0_2 W (Proc.devRef .tc main_cst_6)) ix0 = 0 := by
  unfold entryOf
  after_results
  pointwise []

theorem where_at : entryOf S2x12288x64 .f32 (StableHlo.after hostOps0_3 W (Proc.devRef .tc main_v29)) (ix3 b s h)
    = if (W (Proc.devRef .tc main_v28) : IVec S2x12288x64 1) (ix3 b s h) = 1#1 then entryOf S_ .f32 (W (Proc.devRef .tc main_cst_6)) ix0
      else entryOf S2x12288x64 .f32 (W (Proc.devRef .tc main_v26)) (ix3 b s h) := by
  unfold entryOf
  after_results
  change (select (W (Proc.devRef .tc main_v28) : IVec S2x12288x64 1) (broadcastInDim S2x12288x64 ![] bcast_S_S2x12288x64 (W (Proc.devRef .tc main_cst_6) : FVec Ideal S_ .f32))
    (W (Proc.devRef .tc main_v26) : FVec Ideal S2x12288x64 .f32) : FVec Ideal S2x12288x64 .f32) (ix3 b s h) = _
  pointwise []
  rfl

theorem scale_at : entryOf S2x12288x64 .f32 (StableHlo.after hostOps0_4 W (Proc.devRef .tc main_v32)) (ix3 b s h)
    = Ideal.exp (entryOf S2x12288x64 .f32 (W (Proc.devRef .tc main_v29)) (ix3 b s h) * entryOf S_ .f32 (W (Proc.devRef .tc main_v18)) ix0) := by
  unfold entryOf
  after_results
  pointwise []

theorem scaled_at (d : Fin 128) : entryOf S2x12288x64x128 .f32 (StableHlo.after hostOps0_4 W (Proc.devRef .tc main_v39)) (ix4 b s h d)
    = entryOf S2x12288x64x128 .f32 (W (Proc.devRef .tc main_v15)) (ix4 b s h d)
      * Ideal.exp (-entryOf S2x12288x64 .f32 (W (Proc.devRef .tc main_v29)) (ix3 b s h) * entryOf S_ .f32 (W (Proc.devRef .tc main_v18)) ix0) := by
  unfold entryOf
  after_results
  pointwise []

theorem low_at : entryOf S_ .f32 (StableHlo.after hostOps0_4 W (Proc.devRef .tc main_cst_7)) ix0 = ((-448 : ℝ) : EReal) := by
  rw [← ofBits_low]
  unfold entryOf
  after_results
  rfl
theorem high_at : entryOf S_ .f32 (StableHlo.after hostOps0_4 W (Proc.devRef .tc main_cst_8)) ix0 = ((448 : ℝ) : EReal) := by
  rw [← ofBits_high]
  unfold entryOf
  after_results
  rfl

theorem clip_at (d : Fin 128) : entryOf S2x12288x64x128 .f32 (StableHlo.after hostOps0_5 W (Proc.devRef .tc main_v40)) (ix4 b s h d)
    = min (entryOf S_ .f32 (W (Proc.devRef .tc main_cst_8)) ix0) (max (entryOf S_ .f32 (W (Proc.devRef .tc main_cst_7)) ix0)
      (entryOf S2x12288x64x128 .f32 (W (Proc.devRef .tc main_v39)) (ix4 b s h d))) := by
  unfold entryOf
  after_results
  change (minimumf (broadcastInDim S2x12288x64x128 ![] bcast_S_S2x12288x64x128 (W (Proc.devRef .tc main_cst_8) : FVec Ideal S_ .f32))
    (maximumf (broadcastInDim S2x12288x64x128 ![] bcast_S_S2x12288x64x128 (W (Proc.devRef .tc main_cst_7) : FVec Ideal S_ .f32)) (W (Proc.devRef .tc main_v39) : FVec Ideal S2x12288x64x128 .f32)) :
      FVec Ideal S2x12288x64x128 .f32) (ix4 b s h d) = _
  pointwise []

/-! ### What a stretch leaves as it was -/

theorem keep0_arg0 : (StableHlo.after hostOps0 W (Proc.devRef .tc main_arg0) : FVec Ideal S2x12288x8192 .bf16) = W (Proc.devRef .tc main_arg0) := by after_results
theorem keep0_1_arg0 : (StableHlo.after hostOps0_1 W (Proc.devRef .tc main_arg0) : FVec Ideal S2x12288x8192 .bf16) = W (Proc.devRef .tc main_arg0) := by after_results
theorem keep0_3_v15 : (StableHlo.after hostOps0_3 W (Proc.devRef .tc main_v15) : FVec Ideal S2x12288x64x128 .f32) = W (Proc.devRef .tc main_v15) := by after_results
theorem keep0_3_v18 : (StableHlo.after hostOps0_3 W (Proc.devRef .tc main_v18) : FVec Ideal S_ .f32) = W (Proc.devRef .tc main_v18) := by after_results
theorem keep0_5_v32 : (StableHlo.after hostOps0_5 W (Proc.devRef .tc main_v32) : FVec Ideal S2x12288x64 .f32) = W (Proc.devRef .tc main_v32) := by after_results

/-! ### After the call -/

theorem codes_at (d : Fin 8192) : entryOf S2x12288x8192 .fp8e4m3 (StableHlo.after hostOps1 W (Proc.devRef .tc main_v44)) (ix3 b s d)
    = entryOf S2x12288x64x128 .fp8e4m3 (W (Proc.devRef .tc main_v41)) (ix4 b s ⟨d.val / 128, by omega⟩ ⟨d.val % 128, Nat.mod_lt _ (by omega)⟩) := by
  unfold entryOf
  after_results
  pointwise []

theorem tiles_at (n : Fin 8) (i : Fin 192) (r : Fin 512) (d : Fin 128) : entryOf S2x8x192x512x128 .fp8e4m3 (StableHlo.after hostOps1 W (Proc.devRef .tc main_v45)) (ix5 b n i r d)
    = entryOf S2x12288x64x128 .fp8e4m3 (W (Proc.devRef .tc main_v41)) (ix4 b ⟨i.val * 64 + r.val % 64, by omega⟩ ⟨n.val * 8 + r.val / 64, by omega⟩ d) := by
  unfold entryOf
  after_results
  pointwise []

theorem keep1_v32 : (StableHlo.after hostOps1 W (Proc.devRef .tc main_v32) : FVec Ideal S2x12288x64 .f32) = W (Proc.devRef .tc main_v32) := by after_results

/-! ### From the stretches to the row -/

/-- What the buffers hold before the exponents are used. -/
abbrev Wc : Valuation τ sig (Elt Ideal) := StableHlo.after hostOps0_2 (StableHlo.after hostOps0_1 (StableHlo.after hostOps0 W))
/-- What the buffers hold before the call. -/
abbrev Wf : Valuation τ sig (Elt Ideal) := StableHlo.after hostOps0_5 (StableHlo.after hostOps0_4 (StableHlo.after hostOps0_3 (Wc W)))

variable (hx : ∀ k : Fin 128, entryOf S2x12288x8192 .bf16 (W (Proc.devRef .tc main_arg0)) (ix3 b s ⟨h.val * 128 + k.val, by omega⟩) = ((x k : ℝ) : EReal))
include hx

theorem product (d : Fin 128) : (∑ k : Fin 128, entryOf S2x12288x8192 .bf16 (StableHlo.after hostOps0_1 (StableHlo.after hostOps0 W) (Proc.devRef .tc main_arg0)) (ix3 b s ⟨h.val * 128 + k.val, by omega⟩)
      * (FloatOps.sitofp FTy.f32 (IntOp.subi (1#32) (IntOp.muli (2#32) ((StableHlo.after hostOps0_1 (StableHlo.after hostOps0 W) (Proc.devRef .tc main_v7) : IVec S128x128 32) (ix2 k d)))) : Ideal .f32) : EReal)
    = ((rot x d : ℝ) : EReal) := by
  rw [keep0_1_arg0, keep0_arg0, ← rot_coe]
  refine Finset.sum_congr rfl fun k _ => ?_
  rw [hx, parity_at]
  exact congrArg _ (sitofp_signWord .f32 k d)

theorem rot_row (d : Fin 128) : entryOf S2x12288x64x128 .f32 (Wc W (Proc.devRef .tc main_v15)) (ix4 b s h d) = ((rot x d : ℝ) : EReal) := by
  rw [rot_at]; exact product W b s h x hx d

theorem peak_row : entryOf S2x12288x64 .f32 (Wc W (Proc.devRef .tc main_v17)) (ix3 b s h) = ((peak x : ℝ) : EReal) := by
  rw [peak_at, ← peak_coe]
  refine congrArg (fun f => Finset.univ.fold max ⊥ f) (funext fun d => ?_)
  rw [product W b s h x hx d]; rfl

theorem expo_row : entryOf S2x12288x64 .f32 (StableHlo.after hostOps0_3 (Wc W) (Proc.devRef .tc main_v29)) (ix3 b s h) = (((expo x : ℤ) : ℝ) : EReal) := by
  rw [where_at]
  unfold Wc
  rw [zero_eq, zero_at, peak_row W b s h x hx, cst_at, logs_eq, logs_at, peak_row W b s h x hx, ofBits_factor, ofBits_two, ← expo_log x]
  rfl

theorem scale_row : entryOf S2x12288x64 .f32 (Wf W (Proc.devRef .tc main_v32)) (ix3 b s h) = ((scale x : ℝ) : EReal) := by
  unfold Wf
  rw [keep0_5_v32, scale_at, expo_row W b s h x hx, keep0_3_v18, log_two_at, exp_log]

theorem code_row (d : Fin 128) : entryOf S2x12288x64x128 .f32 (Wf W (Proc.devRef .tc main_v40)) (ix4 b s h d) = ((code x d : ℝ) : EReal) := by
  unfold Wf
  rw [clip_at, high_at, low_at, scaled_at, keep0_3_v15, rot_row W b s h x hx, expo_row W b s h x hx, keep0_3_v18, log_two_at, exp_neg_log, code_coe]

end row

end Cert.QuantReferenceIdeal.Ref

end
-- ==== Proof.Rotate.Plain.lean ====
/- What the plain program's three result arrays hold after the run, over the extended reals. -/
module

public import proofs.«01_k».proof.Proof.Gen.QuantReferenceIdeal.Frame
public import proofs.«01_k».proof.Proof.Rotate.Stages
public import proofs.«01_k».proof.Proof.Rotate.Spec
public import Idealize.ShloMosaic.Lib.Pipeline.Value

@[expose] public section

set_option maxRecDepth 16384

noncomputable section

namespace Cert.QuantReferenceIdeal.Ref

open Cert.QuantReferenceIdeal Cert.QuantReferenceIdeal.Gen Cert.Rotate
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ### The call that casts the codes keeps their values -/

theorem hz4 : (![0, 0, 0, 0] : Fin 4 → Nat) = fun _ => 0 := funext fun a => by fin_cases a <;> rfl

theorem cast_eq (v : Vec Ideal S2x12288x64x128 .f32) : k0_pay1 (F := Ideal) v = v := by
  unfold k0_pay1
  rw [shapeCast_self]
  rfl

/-- The clipped values. -/
abbrev clipped : FVec Ideal S2x12288x64x128 .f32 := V m c main_v40

theorem flushed1 (t : Fin cfg0.N) : (dats m 0 c).flushed 1 t = ((cfg0.win 1).blk t).view.read (Elt Ideal) (clipped m c) := by
  show (cfg0.win 1).cut (grid0.coords t) ((dats m 0 c).after 1 t) = _
  rw [after0_1]
  unfold out0_1
  rw [View.canon_unit_zero hz4, View.ld_unit_zero hz4, cast_eq]
  rfl

theorem index1 (t : Fin cfg0.N) : win0_1.index t = fun _ => 0 :=
  (by decide +kernel : ∀ t : Fin grid0.N, win0_1.index t = fun _ => 0) t
theorem xsize1 (t : Fin cfg0.N) : win0_1.xsize (grid0.coords t) = S2x12288x64x128.size :=
  (by decide +kernel : ∀ t : Fin grid0.N, win0_1.xsize (grid0.coords t) = S2x12288x64x128.size) t
theorem N_pos : 0 < cfg0.N := by decide +kernel
/-- The call's one point. -/
def t0 : Fin cfg0.N := ⟨0, N_pos⟩

theorem cover1 (i : S2x12288x64x128.Idx) : ∃ t : Fin cfg0.N, (cfg0.win 1).flush t = true ∧ i ∈ ((cfg0.win 1).blk t).view.set := by
  refine ⟨t0, flush0_1 _, ?_⟩
  show i ∈ ((View.whole main_v41).slice (win0_1.rect t0)).set
  rw [View.set_slice_whole, Rect.mem_set_unit]
  intro a
  show win0_1.index t0 a * win0_1.size a ≤ (i a).val ∧ (i a).val < win0_1.index t0 a * win0_1.size a + win0_1.xsize (grid0.coords t0) a
  rw [index1, xsize1, Nat.zero_mul]
  exact ⟨Nat.zero_le _, by have h := (i a).isLt; omega⟩

theorem final1 : (dats m 0 c).arrAt 1 cfg0.N = clipped m c := (dats m 0 c).arrAt_eq_of_cover 1 (clipped m c) (fun t _ => flushed1 m c t) cover1

/-! ### The buffers before and after the call -/

/-- What the buffers hold when the run starts. -/
abbrev W0 : Valuation τ sig (Elt Ideal) := fun b => m (c, b)
/-- What the buffers hold when the call has returned. -/
abbrev Wd : Valuation τ sig (Elt Ideal) := Pipeline.withArrays (cfgs 0).spec c (V0 m c) fun w => (dats m 0 c).arrAt w (cfgs 0).N

theorem before_eq : V0 m c = Wf (W0 m c) := rfl

theorem called : (Wd m c (Proc.devRef .tc main_v41) : FVec Ideal S2x12288x64x128 .fp8e4m3) = (Wf (W0 m c) (Proc.devRef .tc main_v40) : FVec Ideal S2x12288x64x128 .f32) :=
  (Pipeline.withArrays_arr spec0 launch0.win.arr_inj c (V0 m c) (fun w => (dats m 0 c).arrAt w cfg0.N) 1).trans (final1 m c)
theorem kept : Wd m c (Proc.devRef .tc main_v32) = Wf (W0 m c) (Proc.devRef .tc main_v32) :=
  Pipeline.withArrays_of_ne _ c (V0 m c) _ main_v32 (by exact (by decide : ∀ w, Pipeline.arrRef spec0 w ≠ main_v32))

theorem after_split (b : Ref sig .tc) : Pipeline.afterTail₀ cfgs (dats m) 0 (V0 m) [hostOps1] c b = StableHlo.after hostOps1 (Wd m c) (Proc.devRef .tc b) := rfl

/-! ### The results -/

/-- The argument. -/
abbrev arg : FVec Ideal In .bf16 := m ((c : Thread nD τ).loc main_arg0)

variable (hx : Sized (arg m c))
include hx

theorem entries (b : Fin 2) (s : Fin 12288) (h : Fin 64) (k : Fin 128) :
    entryOf S2x12288x8192 .bf16 (W0 m c (Proc.devRef .tc main_arg0)) (ix3 b s ⟨h.val * 128 + k.val, by omega⟩) = ((row (arg m c) b s h k : ℝ) : EReal) :=
  row_coe hx b s h k _ rfl rfl rfl

theorem call_entry (b : Fin 2) (s : Fin 12288) (h : Fin 64) (d : Fin 128) :
    entryOf S2x12288x64x128 .fp8e4m3 (Wd m c (Proc.devRef .tc main_v41)) (ix4 b s h d) = ((code (row (arg m c) b s h) d : ℝ) : EReal) :=
  (congrFun (called m c) (ix4 b s h d)).trans (code_row (W0 m c) b s h _ (entries m c hx b s h) d)

theorem final_codes : Pipeline.afterTail₀ cfgs (dats m) 0 (V0 m) [hostOps1] c main_v44 = codes (arg m c) := by
  rw [after_split]
  funext y
  have ey : y = ix3 (y 0) (y 1) (y 2) := funext fun a => match a with
    | ⟨0, _⟩ => rfl
    | ⟨1, _⟩ => rfl
    | ⟨2, _⟩ => rfl
  refine (congrArg (entryOf S2x12288x8192 .fp8e4m3 (StableHlo.after hostOps1 (Wd m c) (Proc.devRef .tc main_v44))) ey).trans ?_
  exact (codes_at (Wd m c) (y 0) (y 1) (y 2)).trans (call_entry m c hx _ _ _ _)

theorem final_tiles : Pipeline.afterTail₀ cfgs (dats m) 0 (V0 m) [hostOps1] c main_v45 = tiles (arg m c) := by
  rw [after_split]
  funext y
  have ey : y = ix5 (y 0) (y 1) (y 2) (y 3) (y 4) := funext fun a => match a with
    | ⟨0, _⟩ => rfl
    | ⟨1, _⟩ => rfl
    | ⟨2, _⟩ => rfl
    | ⟨3, _⟩ => rfl
    | ⟨4, _⟩ => rfl
  refine (congrArg (entryOf S2x8x192x512x128 .fp8e4m3 (StableHlo.after hostOps1 (Wd m c) (Proc.devRef .tc main_v45))) ey).trans ?_
  exact (tiles_at (Wd m c) (y 0) (y 1) (y 2) (y 3) (y 4)).trans (call_entry m c hx _ _ _ _)

theorem final_scales : Pipeline.afterTail₀ cfgs (dats m) 0 (V0 m) [hostOps1] c main_v32 = scales (arg m c) := by
  rw [after_split]
  funext y
  have ey : y = ix3 (y 0) (y 1) (y 2) := funext fun a => match a with
    | ⟨0, _⟩ => rfl
    | ⟨1, _⟩ => rfl
    | ⟨2, _⟩ => rfl
  refine (congrFun ((keep1_v32 (Wd m c)).trans (kept m c)) y).trans ?_
  refine (congrArg (entryOf S2x12288x64 .f32 (Wf (W0 m c) (Proc.devRef .tc main_v32))) ey).trans ?_
  exact scale_row (W0 m c) (y 0) (y 1) (y 2) _ (entries m c hx _ _ _)

end Cert.QuantReferenceIdeal.Ref

end
-- ==== Proof.Rotate.Equal.lean ====
/- The value claim of the quantising call: over the extended reals, on an argument whose entries are zero or of ordinary size, the
   kernel's three result arrays are the plain program's. -/
module

public import proofs.«01_k».proof.Defs
public import proofs.«01_k».proof.Proof.Rotate.Whole
public import proofs.«01_k».proof.Proof.Rotate.Plain

@[expose] public section

noncomputable section

namespace Cert.Proof

open Idealize.ShloMosaic Idealize.ShloMosaic.TcCoe Idealize.SL.Sem

theorem ordinary_facts : Cert.Pre_ordinary_size.Facts := ⟨by decide +kernel⟩

theorem small_bits : Ideal.ofBits .bf16 0x2180#16 = (((2 : ℝ) ^ (-60 : ℤ) : ℝ) : EReal) := by
  simp [Ideal.ofBits, Ideal.ieee, -EReal.coe_mul]; norm_num
theorem large_bits : Ideal.ofBits .bf16 0x5D80#16 = (((2 : ℝ) ^ (60 : ℤ) : ℝ) : EReal) := by
  simp [Ideal.ofBits, Ideal.ieee, -EReal.coe_mul, -EReal.coe_pow]; norm_num

theorem tested_between (a : EReal) (l u : ℝ) (h : IntOp.ori (Ideal.cmp .oeq a 0) (IntOp.andi (Ideal.cmp .oge (max a (-a)) (l : EReal)) (Ideal.cmp .ole (max a (-a)) (u : EReal))) = 1#1) :
    ∃ r : ℝ, a = (r : EReal) ∧ (r = 0 ∨ (l ≤ |r| ∧ |r| ≤ u)) := by
  by_cases h0 : a = 0
  · exact ⟨0, by rw [h0]; rfl, Or.inl rfl⟩
  by_cases h1 : (l : EReal) ≤ max a (-a)
  · by_cases h2 : max a (-a) ≤ (u : EReal)
    · induction a with
      | bot => exact absurd h2 (not_le.mpr (by rw [EReal.neg_bot, max_eq_right bot_le]; exact EReal.coe_lt_top u))
      | top => exact absurd h2 (not_le.mpr (by rw [max_eq_left (by exact le_top)]; exact EReal.coe_lt_top u))
      | coe r =>
        rw [← EReal.coe_neg, ← Cert.Rotate.coe_max, EReal.coe_le_coe_iff] at h1 h2
        exact ⟨r, rfl, Or.inr ⟨h1, h2⟩⟩
    · exfalso
      unfold Ideal.cmp at h
      simp only [decide_eq_false h2, decide_eq_false h0, decide_eq_true h1] at h
      exact absurd h (by decide)
  · exfalso
    unfold Ideal.cmp at h
    simp only [decide_eq_false h0, decide_eq_false h1] at h
    revert h
    cases decide (max a (-a) ≤ (u : EReal)) <;> decide

/-- A number that passes the test is zero or of ordinary size. -/
theorem tested (a : EReal) (h : IntOp.ori (Ideal.cmp .oeq a (Ideal.ofBits .bf16 0x0000#16))
    (IntOp.andi (Ideal.cmp .oge (max a (-a)) (Ideal.ofBits .bf16 0x2180#16)) (Ideal.cmp .ole (max a (-a)) (Ideal.ofBits .bf16 0x5D80#16))) = 1#1) :
    ∃ r : ℝ, a = (r : EReal) ∧ (r = 0 ∨ ((2 : ℝ) ^ (-60 : ℤ) ≤ |r| ∧ |r| ≤ (2 : ℝ) ^ (60 : ℤ))) := by
  rw [Ideal.ofBits_zero, small_bits, large_bits] at h
  exact tested_between a _ _ h

/-- The precondition read: every entry is zero or of ordinary size. -/
theorem sized (hp : Cert.Pre_ordinary_size.Facts) (m : (ℓ : Loc Cert.QuantIdeal.nD Cert.QuantIdeal.τ Cert.QuantIdeal.sig) → Buf (Elt Ideal) ℓ)
    (h : Cert.Pre_QuantIdeal_ordinary_size (hPre_ordinary_size := hp) m) (c : Dev Cert.QuantIdeal.nD) : Cert.Rotate.Sized (Cert.QuantIdeal.Rotate.arg m c) :=
  fun y => tested _ (congrFun (h c) y)

theorem quant_run (m : (ℓ : Loc Cert.QuantIdeal.nD Cert.QuantIdeal.τ Cert.QuantIdeal.sig) → Buf (Elt Ideal) ℓ) (ρ : Dev Cert.QuantIdeal.nD → PrngReg)
    (hx : ∀ c, Cert.Rotate.Sized (Cert.QuantIdeal.Rotate.arg m c)) :
    θ_run (Cert.QuantIdeal.defs (F := Ideal)) (onTc (τ := Cert.QuantIdeal.τ) (Cert.QuantIdeal.main (F := Ideal))) ⟨m, fun _ => 0, ρ⟩ (fun r => ∀ c : Dev Cert.QuantIdeal.nD,
      r.2.mem ((c : Thread Cert.QuantIdeal.nD Cert.QuantIdeal.τ).loc Cert.QuantIdeal.main_v13_0) = Cert.Rotate.codes (Cert.QuantIdeal.Rotate.arg m c)
      ∧ r.2.mem ((c : Thread Cert.QuantIdeal.nD Cert.QuantIdeal.τ).loc Cert.QuantIdeal.main_v13_1) = Cert.Rotate.tiles (Cert.QuantIdeal.Rotate.arg m c)
      ∧ r.2.mem ((c : Thread Cert.QuantIdeal.nD Cert.QuantIdeal.τ).loc Cert.QuantIdeal.main_v13_2) = Cert.Rotate.scales (Cert.QuantIdeal.Rotate.arg m c)
      ∧ r.2.mem ((c : Thread Cert.QuantIdeal.nD Cert.QuantIdeal.τ).loc Cert.QuantIdeal.main_arg0) = m ((c : Thread Cert.QuantIdeal.nD Cert.QuantIdeal.τ).loc Cert.QuantIdeal.main_arg0)) :=
  (θ_run Cert.QuantIdeal.defs _ _).mono (fun _ h c => ⟨(h c).1.trans (Cert.QuantIdeal.Rotate.final_codes m c (hx c)),
    (h c).2.1.trans (Cert.QuantIdeal.Rotate.final_tiles m c (hx c)), (h c).2.2.1.trans (Cert.QuantIdeal.Rotate.final_scales m c (hx c)), (h c).2.2.2⟩)
    (Cert.QuantIdeal.Value.run_blocks m ρ)

theorem plain_run (m : (ℓ : Loc Cert.QuantReferenceIdeal.nD Cert.QuantReferenceIdeal.τ Cert.QuantReferenceIdeal.sig) → Buf (Elt Ideal) ℓ) (ρ : Dev Cert.QuantReferenceIdeal.nD → PrngReg)
    (hx : ∀ c, Cert.Rotate.Sized (Cert.QuantReferenceIdeal.Ref.arg m c)) :
    θ_run (Cert.QuantReferenceIdeal.defs (F := Ideal)) (onTc (τ := Cert.QuantReferenceIdeal.τ) (Cert.QuantReferenceIdeal.main (F := Ideal))) ⟨m, fun _ => 0, ρ⟩ (fun r => ∀ c : Dev Cert.QuantReferenceIdeal.nD,
      r.2.mem ((c : Thread Cert.QuantReferenceIdeal.nD Cert.QuantReferenceIdeal.τ).loc Cert.QuantReferenceIdeal.main_v44) = Cert.Rotate.codes (Cert.QuantReferenceIdeal.Ref.arg m c)
      ∧ r.2.mem ((c : Thread Cert.QuantReferenceIdeal.nD Cert.QuantReferenceIdeal.τ).loc Cert.QuantReferenceIdeal.main_v45) = Cert.Rotate.tiles (Cert.QuantReferenceIdeal.Ref.arg m c)
      ∧ r.2.mem ((c : Thread Cert.QuantReferenceIdeal.nD Cert.QuantReferenceIdeal.τ).loc Cert.QuantReferenceIdeal.main_v32) = Cert.Rotate.scales (Cert.QuantReferenceIdeal.Ref.arg m c)) :=
  (θ_run Cert.QuantReferenceIdeal.defs _ _).mono (fun _ h c =>
    ⟨((h c).2 Cert.QuantReferenceIdeal.main_v44 (Pipeline.mem_restRefs_of Cert.QuantReferenceIdeal.main_v44 (by decide) (by decide))).trans (Cert.QuantReferenceIdeal.Ref.final_codes m c (hx c)),
      ((h c).2 Cert.QuantReferenceIdeal.main_v45 (Pipeline.mem_restRefs_of Cert.QuantReferenceIdeal.main_v45 (by decide) (by decide))).trans (Cert.QuantReferenceIdeal.Ref.final_tiles m c (hx c)),
      ((h c).2 Cert.QuantReferenceIdeal.main_v32 (Pipeline.mem_restRefs_of Cert.QuantReferenceIdeal.main_v32 (by decide) (by decide))).trans (Cert.QuantReferenceIdeal.Ref.final_scales m c (hx c))⟩)
    (Cert.QuantReferenceIdeal.Gen.run_main m ρ)

theorem quant_algebraic : Cert.algebraic_QuantIdeal_QuantReferenceIdeal_pre_ordinary_size (hQuantIdeal := Cert.QuantIdeal.Gen.facts)
    (hQuantReferenceIdeal := Cert.QuantReferenceIdeal.Gen.facts) (hPre_ordinary_size := ordinary_facts) := by
  intro m ρ m' ρ' hpre hagree
  have hx := sized _ m hpre
  have ha : ∀ c, Cert.QuantReferenceIdeal.Ref.arg m' c = Cert.QuantIdeal.Rotate.arg m c := fun c => hagree c
  refine ⟨fun c => Cert.Rotate.codes (Cert.QuantIdeal.Rotate.arg m c), fun c => Cert.Rotate.tiles (Cert.QuantIdeal.Rotate.arg m c),
    fun c => Cert.Rotate.scales (Cert.QuantIdeal.Rotate.arg m c), quant_run m ρ hx,
    (θ_run Cert.QuantReferenceIdeal.defs _ _).mono (fun _ h c => ⟨(h.1 c).1.trans ?_, (h.1 c).2.1.trans ?_, (h.1 c).2.2.trans ?_, h.2.1 c⟩)
      (θ_run_and (plain_run m' ρ' fun c => by rw [ha c]; exact hx c) (Cert.QuantReferenceIdeal.Gen.frame m' ρ'))⟩
  · rw [ha c]
  · rw [ha c]
  · rw [ha c]

end Cert.Proof

end
-- ==== Proof.lean ====
/- The certificate, for the attention call and for the quantising call: the call runs and leaves its arguments alone at the
   machine's words and at the extended reals, its reference does, the call at the reals is its sanctioned idealization, and its
   results there are the reference's: with positive query scales for the attention call, and on entries that are zero or of
   ordinary size for the quantising call. -/
module

public import proofs.«01_k».proof.Proof.Gen.Quant.Frame
public import proofs.«01_k».proof.Proof.Gen.QuantIdeal.Frame
public import proofs.«01_k».proof.Proof.Gen.QuantIdeal.Value
public import proofs.«01_k».proof.Proof.Gen.QuantReferenceIdeal.Frame
public import proofs.«01_k».proof.Defs
public import proofs.«01_k».proof.Proof.Word.Launch
public import proofs.«01_k».proof.Proof.Body.Launch
public import proofs.«01_k».proof.Proof.Gen.ReferenceIdeal.Frame
public import proofs.«01_k».proof.Proof.Equal
public import proofs.«01_k».proof.Proof.Rotate.Equal

@[expose] public section

noncomputable section

namespace Cert.Proof

open Idealize.ShloMosaic Idealize.SL.Sem

theorem frame_p : Cert.quiescent_Kernel := fun m ρ _ => Cert.Kernel.Attn.frame m ρ
theorem frame_pi : Cert.quiescent_KernelIdeal := fun m ρ _ => Cert.KernelIdeal.Attn.frame m ρ
theorem frame_ri : Cert.quiescent_ReferenceIdeal := fun m ρ _ => Cert.ReferenceIdeal.Gen.frame m ρ

theorem frame_pi_pre : Cert.quiescent_KernelIdeal_pre_positive_scales (hPre_positive_scales := scales_facts) :=
  fun m ρ _ => Cert.KernelIdeal.Attn.frame m ρ
theorem frame_ri_pre : Cert.quiescent_ReferenceIdeal_pre_positive_scales (hPre_positive_scales := scales_facts) :=
  fun m ρ _ => Cert.ReferenceIdeal.Gen.frame m ρ

/-- The one rewritten constant: the score factor in base two is the real it was computed from. -/
theorem preserves : Cert.preserves_Kernel_KernelIdeal :=
  IdealRules.named_const.statement Cert.KernelIdeal.κ "score_log2" .f32 0x3A8293EE#32
    ((((128 * (Real.sqrt 128)) * (Real.log 2))⁻¹ : ℝ) : EReal) rfl

/-! ### The quantising call -/

theorem frame_q : Cert.quiescent_Quant := fun m ρ _ => Cert.Quant.Gen.frame m ρ
theorem frame_qi : Cert.quiescent_QuantIdeal := fun m ρ _ => Cert.QuantIdeal.Gen.frame m ρ
theorem frame_si : Cert.quiescent_QuantReferenceIdeal := fun m ρ _ => Cert.QuantReferenceIdeal.Gen.frame m ρ

theorem frame_qi_pre : Cert.quiescent_QuantIdeal_pre_ordinary_size (hPre_ordinary_size := ordinary_facts) :=
  fun m ρ _ => Cert.QuantIdeal.Gen.frame m ρ
theorem frame_si_pre : Cert.quiescent_QuantReferenceIdeal_pre_ordinary_size (hPre_ordinary_size := ordinary_facts) :=
  fun m ρ _ => Cert.QuantReferenceIdeal.Gen.frame m ρ

/-- No operation is rewritten. -/
theorem quant_preserves : Cert.preserves_Quant_QuantIdeal := trivial

theorem claim : Cert.Claim :=
  ⟨Cert.Kernel.Gen.facts, Cert.KernelIdeal.Gen.facts, Cert.ReferenceIdeal.Gen.facts, Cert.Quant.Gen.facts, Cert.QuantIdeal.Gen.facts,
    Cert.QuantReferenceIdeal.Gen.facts, scales_facts, ordinary_facts,
    frame_p, frame_pi, frame_pi_pre, frame_ri, frame_ri_pre, frame_q, frame_qi, frame_qi_pre, frame_si, frame_si_pre,
    preserves, algebraic, quant_preserves, quant_algebraic⟩

end Cert.Proof

end
